-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v578) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x32x3x40x40 : Shape := ⟨5, ![1, 32, 3, 40, 40]⟩
abbrev S1x32x3x20x20 : Shape := ⟨5, ![1, 32, 3, 20, 20]⟩
abbrev S1x32x3x10x10 : Shape := ⟨5, ![1, 32, 3, 10, 10]⟩
abbrev S4 : Shape := ⟨1, ![4]⟩
abbrev S1 : Shape := ⟨1, ![1]⟩
abbrev S288x64 : Shape := ⟨2, ![288, 64]⟩
abbrev S288 : Shape := ⟨1, ![288]⟩
abbrev S128x96 : Shape := ⟨2, ![128, 96]⟩
abbrev S128 : Shape := ⟨1, ![128]⟩
abbrev S32x3x40x40 : Shape := ⟨4, ![32, 3, 40, 40]⟩
abbrev S3x40x40x32 : Shape := ⟨4, ![3, 40, 40, 32]⟩
abbrev S32x3x20x20 : Shape := ⟨4, ![32, 3, 20, 20]⟩
abbrev S3x20x20x32 : Shape := ⟨4, ![3, 20, 20, 32]⟩
abbrev S32x3x10x10 : Shape := ⟨4, ![32, 3, 10, 10]⟩
abbrev S3x10x10x32 : Shape := ⟨4, ![3, 10, 10, 32]⟩
abbrev S32x9x64 : Shape := ⟨3, ![32, 9, 64]⟩
abbrev S9x32x64 : Shape := ⟨3, ![9, 32, 64]⟩
abbrev S64x288 : Shape := ⟨2, ![64, 288]⟩
abbrev S32x9 : Shape := ⟨2, ![32, 9]⟩
abbrev S9x32 : Shape := ⟨2, ![9, 32]⟩
abbrev S1x288 : Shape := ⟨2, ![1, 288]⟩
abbrev S_ : Shape := ⟨0, ![]⟩
abbrev S3x14x14x32 : Shape := ⟨4, ![3, 14, 14, 32]⟩
abbrev S3x4x10x10x32 : Shape := ⟨5, ![3, 4, 10, 10, 32]⟩
abbrev S1x4x10x10x32 : Shape := ⟨5, ![1, 4, 10, 10, 32]⟩
abbrev S1x12x12x32 : Shape := ⟨4, ![1, 12, 12, 32]⟩
abbrev S12x12x32 : Shape := ⟨3, ![12, 12, 32]⟩
abbrev S1x14x14x32 : Shape := ⟨4, ![1, 14, 14, 32]⟩
abbrev S14x14x32 : Shape := ⟨3, ![14, 14, 32]⟩
abbrev S10x10x32 : Shape := ⟨3, ![10, 10, 32]⟩
abbrev S10x10x288 : Shape := ⟨3, ![10, 10, 288]⟩
abbrev S10x10 : Shape := ⟨2, ![10, 10]⟩
abbrev S10x10x1 : Shape := ⟨3, ![10, 10, 1]⟩
abbrev S12x12x288 : Shape := ⟨3, ![12, 12, 288]⟩
abbrev S12x12 : Shape := ⟨2, ![12, 12]⟩
abbrev S12x12x1 : Shape := ⟨3, ![12, 12, 1]⟩
abbrev S10x10x64 : Shape := ⟨3, ![10, 10, 64]⟩
abbrev S100x64 : Shape := ⟨2, ![100, 64]⟩
abbrev S100x288 : Shape := ⟨2, ![100, 288]⟩
abbrev S1x10x32 : Shape := ⟨3, ![1, 10, 32]⟩
abbrev S9x10x32 : Shape := ⟨3, ![9, 10, 32]⟩
abbrev S10x1x32 : Shape := ⟨3, ![10, 1, 32]⟩
abbrev S10x9x32 : Shape := ⟨3, ![10, 9, 32]⟩
abbrev S1x10x10x32 : Shape := ⟨4, ![1, 10, 10, 32]⟩
abbrev S4x10x10x32 : Shape := ⟨4, ![4, 10, 10, 32]⟩
abbrev S3x2x2x10x10x32 : Shape := ⟨6, ![3, 2, 2, 10, 10, 32]⟩
abbrev S3x10x2x10x2x32 : Shape := ⟨6, ![3, 10, 2, 10, 2, 32]⟩
abbrev S3x26x26x32 : Shape := ⟨4, ![3, 26, 26, 32]⟩
abbrev S3x4x20x20x32 : Shape := ⟨5, ![3, 4, 20, 20, 32]⟩
abbrev S1x4x20x20x32 : Shape := ⟨5, ![1, 4, 20, 20, 32]⟩
abbrev S1x22x22x32 : Shape := ⟨4, ![1, 22, 22, 32]⟩
abbrev S22x22x32 : Shape := ⟨3, ![22, 22, 32]⟩
abbrev S1x26x26x32 : Shape := ⟨4, ![1, 26, 26, 32]⟩
abbrev S26x26x32 : Shape := ⟨3, ![26, 26, 32]⟩
abbrev S20x20x32 : Shape := ⟨3, ![20, 20, 32]⟩
abbrev S20x20x288 : Shape := ⟨3, ![20, 20, 288]⟩
abbrev S20x20 : Shape := ⟨2, ![20, 20]⟩
abbrev S20x20x1 : Shape := ⟨3, ![20, 20, 1]⟩
abbrev S24x24x32 : Shape := ⟨3, ![24, 24, 32]⟩
abbrev S24x24x288 : Shape := ⟨3, ![24, 24, 288]⟩
abbrev S24x24 : Shape := ⟨2, ![24, 24]⟩
abbrev S24x24x1 : Shape := ⟨3, ![24, 24, 1]⟩
abbrev S20x20x64 : Shape := ⟨3, ![20, 20, 64]⟩
abbrev S400x64 : Shape := ⟨2, ![400, 64]⟩
abbrev S400x288 : Shape := ⟨2, ![400, 288]⟩
abbrev S1x20x32 : Shape := ⟨3, ![1, 20, 32]⟩
abbrev S19x20x32 : Shape := ⟨3, ![19, 20, 32]⟩
abbrev S20x1x32 : Shape := ⟨3, ![20, 1, 32]⟩
abbrev S20x19x32 : Shape := ⟨3, ![20, 19, 32]⟩
abbrev S1x20x20x32 : Shape := ⟨4, ![1, 20, 20, 32]⟩
abbrev S4x20x20x32 : Shape := ⟨4, ![4, 20, 20, 32]⟩
abbrev S3x2x2x20x20x32 : Shape := ⟨6, ![3, 2, 2, 20, 20, 32]⟩
abbrev S3x20x2x20x2x32 : Shape := ⟨6, ![3, 20, 2, 20, 2, 32]⟩
abbrev S3x48x48x32 : Shape := ⟨4, ![3, 48, 48, 32]⟩
abbrev S1x10x40x32 : Shape := ⟨4, ![1, 10, 40, 32]⟩
abbrev S1x12x42x32 : Shape := ⟨4, ![1, 12, 42, 32]⟩
abbrev S12x42x32 : Shape := ⟨3, ![12, 42, 32]⟩
abbrev S1x18x48x32 : Shape := ⟨4, ![1, 18, 48, 32]⟩
abbrev S18x48x32 : Shape := ⟨3, ![18, 48, 32]⟩
abbrev S10x40x32 : Shape := ⟨3, ![10, 40, 32]⟩
abbrev S10x40x288 : Shape := ⟨3, ![10, 40, 288]⟩
abbrev S10x40 : Shape := ⟨2, ![10, 40]⟩
abbrev S10x40x1 : Shape := ⟨3, ![10, 40, 1]⟩
abbrev S16x46x32 : Shape := ⟨3, ![16, 46, 32]⟩
abbrev S16x46x288 : Shape := ⟨3, ![16, 46, 288]⟩
abbrev S16x46 : Shape := ⟨2, ![16, 46]⟩
abbrev S16x46x1 : Shape := ⟨3, ![16, 46, 1]⟩
abbrev S10x40x64 : Shape := ⟨3, ![10, 40, 64]⟩
abbrev S1x40x40x32 : Shape := ⟨4, ![1, 40, 40, 32]⟩
abbrev S40x40x32 : Shape := ⟨3, ![40, 40, 32]⟩
abbrev S96x128 : Shape := ⟨2, ![96, 128]⟩
abbrev S1x128 : Shape := ⟨2, ![1, 128]⟩
abbrev S40x40x128 : Shape := ⟨3, ![40, 40, 128]⟩
abbrev S40x40x96 : Shape := ⟨3, ![40, 40, 96]⟩
abbrev S1600x96 : Shape := ⟨2, ![1600, 96]⟩
abbrev S1600x128 : Shape := ⟨2, ![1600, 128]⟩
abbrev S40x40x32x2x2 : Shape := ⟨5, ![40, 40, 32, 2, 2]⟩
abbrev S32x40x2x40x2 : Shape := ⟨5, ![32, 40, 2, 40, 2]⟩
abbrev S1x32x80x80 : Shape := ⟨4, ![1, 32, 80, 80]⟩

abbrev nBuf : Space → Nat
  | .hbm => 85
  | .vmem => 24
  | .smem => 6
  | _ => 0

abbrev bufTy : (tb : Table) → Fin (tcTables nBuf tb) → BufTy
  | .hbm, ⟨0, _⟩ => ⟨S1x32x3x40x40, .f32⟩
  | .hbm, ⟨1, _⟩ => ⟨S1x32x3x20x20, .f32⟩
  | .hbm, ⟨2, _⟩ => ⟨S1x32x3x10x10, .f32⟩
  | .hbm, ⟨3, _⟩ => ⟨S4, .f32⟩
  | .hbm, ⟨4, _⟩ => ⟨S1, .f32⟩
  | .hbm, ⟨5, _⟩ => ⟨S288x64, .f32⟩
  | .hbm, ⟨6, _⟩ => ⟨S288, .f32⟩
  | .hbm, ⟨7, _⟩ => ⟨S4, .f32⟩
  | .hbm, ⟨8, _⟩ => ⟨S1, .f32⟩
  | .hbm, ⟨9, _⟩ => ⟨S288x64, .f32⟩
  | .hbm, ⟨10, _⟩ => ⟨S288, .f32⟩
  | .hbm, ⟨11, _⟩ => ⟨S4, .f32⟩
  | .hbm, ⟨12, _⟩ => ⟨S1, .f32⟩
  | .hbm, ⟨13, _⟩ => ⟨S288x64, .f32⟩
  | .hbm, ⟨14, _⟩ => ⟨S288, .f32⟩
  | .hbm, ⟨15, _⟩ => ⟨S128x96, .f32⟩
  | .hbm, ⟨16, _⟩ => ⟨S128, .f32⟩
  | .hbm, ⟨17, _⟩ => ⟨S32x3x40x40, .f32⟩
  | .hbm, ⟨18, _⟩ => ⟨S3x40x40x32, .f32⟩
  | .hbm, ⟨19, _⟩ => ⟨S32x3x20x20, .f32⟩
  | .hbm, ⟨20, _⟩ => ⟨S3x20x20x32, .f32⟩
  | .hbm, ⟨21, _⟩ => ⟨S32x3x10x10, .f32⟩
  | .hbm, ⟨22, _⟩ => ⟨S3x10x10x32, .f32⟩
  | .hbm, ⟨23, _⟩ => ⟨S32x9x64, .f32⟩
  | .hbm, ⟨24, _⟩ => ⟨S9x32x64, .f32⟩
  | .hbm, ⟨25, _⟩ => ⟨S288x64, .f32⟩
  | .hbm, ⟨26, _⟩ => ⟨S64x288, .f32⟩
  | .hbm, ⟨27, _⟩ => ⟨S32x9, .f32⟩
  | .hbm, ⟨28, _⟩ => ⟨S9x32, .f32⟩
  | .hbm, ⟨29, _⟩ => ⟨S1x288, .f32⟩
  | .hbm, ⟨30, _⟩ => ⟨S32x9x64, .f32⟩
  | .hbm, ⟨31, _⟩ => ⟨S9x32x64, .f32⟩
  | .hbm, ⟨32, _⟩ => ⟨S288x64, .f32⟩
  | .hbm, ⟨33, _⟩ => ⟨S64x288, .f32⟩
  | .hbm, ⟨34, _⟩ => ⟨S32x9, .f32⟩
  | .hbm, ⟨35, _⟩ => ⟨S9x32, .f32⟩
  | .hbm, ⟨36, _⟩ => ⟨S1x288, .f32⟩
  | .hbm, ⟨37, _⟩ => ⟨S32x9x64, .f32⟩
  | .hbm, ⟨38, _⟩ => ⟨S9x32x64, .f32⟩
  | .hbm, ⟨39, _⟩ => ⟨S288x64, .f32⟩
  | .hbm, ⟨40, _⟩ => ⟨S64x288, .f32⟩
  | .hbm, ⟨41, _⟩ => ⟨S32x9, .f32⟩
  | .hbm, ⟨42, _⟩ => ⟨S9x32, .f32⟩
  | .hbm, ⟨43, _⟩ => ⟨S1x288, .f32⟩
  | .hbm, ⟨44, _⟩ => ⟨S_, .f32⟩
  | .hbm, ⟨45, _⟩ => ⟨S3x10x10x32, .f32⟩
  | .hbm, ⟨46, _⟩ => ⟨S_, .i32⟩
  | .hbm, ⟨47, _⟩ => ⟨S_, .f32⟩
  | .hbm, ⟨48, _⟩ => ⟨S3x14x14x32, .f32⟩
  | .hbm, ⟨49, _⟩ => ⟨S_, .i32⟩
  | .hbm, ⟨50, _⟩ => ⟨S_, .f32⟩
  | .hbm, ⟨51, _⟩ => ⟨S3x14x14x32, .f32⟩
  | .hbm, ⟨52, _⟩ => ⟨S3x4x10x10x32, .f32⟩
  | .hbm, ⟨53, _⟩ => ⟨S3x2x2x10x10x32, .f32⟩
  | .hbm, ⟨54, _⟩ => ⟨S3x10x2x10x2x32, .f32⟩
  | .hbm, ⟨55, _⟩ => ⟨S3x20x20x32, .f32⟩
  | .hbm, ⟨56, _⟩ => ⟨S_, .i32⟩
  | .hbm, ⟨57, _⟩ => ⟨S_, .f32⟩
  | .hbm, ⟨58, _⟩ => ⟨S3x26x26x32, .f32⟩
  | .hbm, ⟨59, _⟩ => ⟨S_, .i32⟩
  | .hbm, ⟨60, _⟩ => ⟨S_, .f32⟩
  | .hbm, ⟨61, _⟩ => ⟨S3x26x26x32, .f32⟩
  | .hbm, ⟨62, _⟩ => ⟨S3x4x20x20x32, .f32⟩
  | .hbm, ⟨63, _⟩ => ⟨S3x2x2x20x20x32, .f32⟩
  | .hbm, ⟨64, _⟩ => ⟨S3x20x2x20x2x32, .f32⟩
  | .hbm, ⟨65, _⟩ => ⟨S3x40x40x32, .f32⟩
  | .hbm, ⟨66, _⟩ => ⟨S_, .i32⟩
  | .hbm, ⟨67, _⟩ => ⟨S_, .f32⟩
  | .hbm, ⟨68, _⟩ => ⟨S3x48x48x32, .f32⟩
  | .hbm, ⟨69, _⟩ => ⟨S_, .i32⟩
  | .hbm, ⟨70, _⟩ => ⟨S_, .f32⟩
  | .hbm, ⟨71, _⟩ => ⟨S3x48x48x32, .f32⟩
  | .hbm, ⟨72, _⟩ => ⟨S3x40x40x32, .f32⟩
  | .hbm, ⟨73, _⟩ => ⟨S1x40x40x32, .f32⟩
  | .hbm, ⟨74, _⟩ => ⟨S40x40x32, .f32⟩
  | .hbm, ⟨75, _⟩ => ⟨S1x40x40x32, .f32⟩
  | .hbm, ⟨76, _⟩ => ⟨S40x40x32, .f32⟩
  | .hbm, ⟨77, _⟩ => ⟨S1x40x40x32, .f32⟩
  | .hbm, ⟨78, _⟩ => ⟨S40x40x32, .f32⟩
  | .hbm, ⟨79, _⟩ => ⟨S96x128, .f32⟩
  | .hbm, ⟨80, _⟩ => ⟨S1x128, .f32⟩
  | .hbm, ⟨81, _⟩ => ⟨S40x40x128, .f32⟩
  | .hbm, ⟨82, _⟩ => ⟨S40x40x32x2x2, .f32⟩
  | .hbm, ⟨83, _⟩ => ⟨S32x40x2x40x2, .f32⟩
  | .hbm, ⟨84, _⟩ => ⟨S1x32x80x80, .f32⟩
  | .local _ .vmem, ⟨0, _⟩ => ⟨S3x14x14x32, .f32⟩
  | .local _ .vmem, ⟨1, _⟩ => ⟨S3x14x14x32, .f32⟩
  | .local _ .vmem, ⟨2, _⟩ => ⟨S64x288, .f32⟩
  | .local _ .vmem, ⟨3, _⟩ => ⟨S1x288, .f32⟩
  | .local _ .vmem, ⟨4, _⟩ => ⟨S1x4x10x10x32, .f32⟩
  | .local _ .vmem, ⟨5, _⟩ => ⟨S1x4x10x10x32, .f32⟩
  | .local _ .vmem, ⟨6, _⟩ => ⟨S3x26x26x32, .f32⟩
  | .local _ .vmem, ⟨7, _⟩ => ⟨S3x26x26x32, .f32⟩
  | .local _ .vmem, ⟨8, _⟩ => ⟨S64x288, .f32⟩
  | .local _ .vmem, ⟨9, _⟩ => ⟨S1x288, .f32⟩
  | .local _ .vmem, ⟨10, _⟩ => ⟨S1x4x20x20x32, .f32⟩
  | .local _ .vmem, ⟨11, _⟩ => ⟨S1x4x20x20x32, .f32⟩
  | .local _ .vmem, ⟨12, _⟩ => ⟨S3x48x48x32, .f32⟩
  | .local _ .vmem, ⟨13, _⟩ => ⟨S3x48x48x32, .f32⟩
  | .local _ .vmem, ⟨14, _⟩ => ⟨S64x288, .f32⟩
  | .local _ .vmem, ⟨15, _⟩ => ⟨S1x288, .f32⟩
  | .local _ .vmem, ⟨16, _⟩ => ⟨S1x10x40x32, .f32⟩
  | .local _ .vmem, ⟨17, _⟩ => ⟨S1x10x40x32, .f32⟩
  | .local _ .vmem, ⟨18, _⟩ => ⟨S40x40x32, .f32⟩
  | .local _ .vmem, ⟨19, _⟩ => ⟨S40x40x32, .f32⟩
  | .local _ .vmem, ⟨20, _⟩ => ⟨S40x40x32, .f32⟩
  | .local _ .vmem, ⟨21, _⟩ => ⟨S96x128, .f32⟩
  | .local _ .vmem, ⟨22, _⟩ => ⟨S1x128, .f32⟩
  | .local _ .vmem, ⟨23, _⟩ => ⟨S40x40x128, .f32⟩
  | .local _ .smem, ⟨0, _⟩ => ⟨S4, .f32⟩
  | .local _ .smem, ⟨1, _⟩ => ⟨S1, .f32⟩
  | .local _ .smem, ⟨2, _⟩ => ⟨S4, .f32⟩
  | .local _ .smem, ⟨3, _⟩ => ⟨S1, .f32⟩
  | .local _ .smem, ⟨4, _⟩ => ⟨S4, .f32⟩
  | .local _ .smem, ⟨5, _⟩ => ⟨S1, .f32⟩
  | _, _ => ⟨S1x32x3x40x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_c : Ref sig .tc := ⟨.hbm, 46, rfl⟩
abbrev main_call0_v0 : Ref sig .tc := ⟨.hbm, 47, rfl⟩
abbrev main_v28 : Ref sig .tc := ⟨.hbm, 48, rfl⟩
abbrev main_c_0 : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_1 : Ref sig .tc := ⟨.hbm, 56, rfl⟩
abbrev main_call2_v0 : Ref sig .tc := ⟨.hbm, 57, rfl⟩
abbrev main_v34 : Ref sig .tc := ⟨.hbm, 58, rfl⟩
abbrev main_c_2 : Ref sig .tc := ⟨.hbm, 59, rfl⟩
abbrev main_call3_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_call4_v0 : Ref sig .tc := ⟨.hbm, 67, rfl⟩
abbrev main_v40 : Ref sig .tc := ⟨.hbm, 68, rfl⟩
abbrev main_c_4 : Ref sig .tc := ⟨.hbm, 69, rfl⟩
abbrev main_call5_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg6_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc0_stg2_0 : Ref sig .tc := ⟨.smem, 0, rfl⟩
abbrev cc0_stg3_0 : Ref sig .tc := ⟨.smem, 1, rfl⟩
abbrev cc1_stg2_0 : Ref sig .tc := ⟨.smem, 2, rfl⟩
abbrev cc1_stg3_0 : Ref sig .tc := ⟨.smem, 3, rfl⟩
abbrev cc2_stg2_0 : Ref sig .tc := ⟨.smem, 4, rfl⟩
abbrev cc2_stg3_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨2, ![3, 1], ![false, false]⟩

def k0_off1 (i : grid0.Coords) : Fin 4 → Nat :=
  let c1 : Index := 1#32
  let arg1 : BitVec 32 := BitVec.ofNat 32 (i 1).val
  let c10_i32 : BitVec 32 := 10#32
  let v0 : BitVec 32 := Scalar.muli arg1 c10_i32
  let c2_i32 : BitVec 32 := 2#32
  let v1 : BitVec 32 := Scalar.addi v0 c2_i32
  let c1_i32 : BitVec 32 := 1#32
  let v2 : BitVec 32 := Scalar.subi v1 c1_i32
  let v3 : Index := Scalar.indexCast v2
  let c1_0 : Index := 1#32
  let c0 : Index := 0#32
  ![1, v3.toNat, 1, 0]
def k0_off2 (i : grid0.Coords) : Fin 4 → Nat :=
  let arg0 : BitVec 32 := BitVec.ofNat 32 (i 0).val
  let v6 : Index := Scalar.indexCast arg0
  let arg1 : BitVec 32 := BitVec.ofNat 32 (i 1).val
  let c10_i32 : BitVec 32 := 10#32
  let v0 : BitVec 32 := Scalar.muli arg1 c10_i32
  let c2_i32 : BitVec 32 := 2#32
  let v1 : BitVec 32 := Scalar.addi v0 c2_i32
  let c1_i32 : BitVec 32 := 1#32
  let v2 : BitVec 32 := Scalar.subi v1 c1_i32
  let v7 : Index := Scalar.indexCast v2
  let c1_1 : Index := 1#32
  let c0_2 : Index := 0#32
  ![v6.toNat, v7.toNat, 1, 0]
def k0_off3 (i : grid0.Coords) : Fin 4 → Nat :=
  let arg0 : BitVec 32 := BitVec.ofNat 32 (i 0).val
  let v10 : Index := Scalar.indexCast arg0
  let arg1 : BitVec 32 := BitVec.ofNat 32 (i 1).val
  let c10_i32 : BitVec 32 := 10#32
  let v0 : BitVec 32 := Scalar.muli arg1 c10_i32
  let v11 : Index := Scalar.indexCast v0
  let c0_3 : Index := 0#32
  let c0_4 : Index := 0#32
  ![v10.toNat, v11.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .vmem S3x14x14x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x14x14x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x10x10x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![3, 1], ![false, false]⟩

def k1_off1 (i : grid1.Coords) : Fin 4 → Nat :=
  let c1 : Index := 1#32
  let arg1 : BitVec 32 := BitVec.ofNat 32 (i 1).val
  let c20_i32 : BitVec 32 := 20#32
  let v0 : BitVec 32 := Scalar.muli arg1 c20_i32
  let c3_i32 : BitVec 32 := 3#32
  let v1 : BitVec 32 := Scalar.addi v0 c3_i32
  let c1_i32 : BitVec 32 := 1#32
  let v2 : BitVec 32 := Scalar.subi v1 c1_i32
  let v3 : Index := Scalar.indexCast v2
  let c2 : Index := 2#32
  let c0 : Index := 0#32
  ![1, v3.toNat, 2, 0]
def k1_off2 (i : grid1.Coords) : Fin 4 → Nat :=
  let arg0 : BitVec 32 := BitVec.ofNat 32 (i 0).val
  let v6 : Index := Scalar.indexCast arg0
  let arg1 : BitVec 32 := BitVec.ofNat 32 (i 1).val
  let c20_i32 : BitVec 32 := 20#32
  let v0 : BitVec 32 := Scalar.muli arg1 c20_i32
  let c3_i32 : BitVec 32 := 3#32
  let v1 : BitVec 32 := Scalar.addi v0 c3_i32
  let c1_i32 : BitVec 32 := 1#32
  let v2 : BitVec 32 := Scalar.subi v1 c1_i32
  let v7 : Index := Scalar.indexCast v2
  let c2_0 : Index := 2#32
  let c0_1 : Index := 0#32
  ![v6.toNat, v7.toNat, 2, 0]
def k1_off3 (i : grid1.Coords) : Fin 4 → Nat :=
  let arg0 : BitVec 32 := BitVec.ofNat 32 (i 0).val
  let v10 : Index := Scalar.indexCast arg0
  let arg1 : BitVec 32 := BitVec.ofNat 32 (i 1).val
  let c20_i32 : BitVec 32 := 20#32
  let v0 : BitVec 32 := Scalar.muli arg1 c20_i32
  let v11 : Index := Scalar.indexCast v0
  let c0_2 : Index := 0#32
  let c0_3 : Index := 0#32
  ![v10.toNat, v11.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 1 → Memref sig .tc .vmem S3x26x26x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S3x26x26x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x288 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x288 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x4x20x20x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![3, 4], ![false, false]⟩

def k2_off1 (i : grid2.Coords) : Fin 4 → Nat :=
  let c1 : Index := 1#32
  let arg1 : BitVec 32 := BitVec.ofNat 32 (i 1).val
  let c10_i32 : BitVec 32 := 10#32
  let v0 : BitVec 32 := Scalar.muli arg1 c10_i32
  let c4_i32 : BitVec 32 := 4#32
  let v1 : BitVec 32 := Scalar.addi v0 c4_i32
  let c1_i32 : BitVec 32 := 1#32
  let v2 : BitVec 32 := Scalar.subi v1 c1_i32
  let v3 : Index := Scalar.indexCast v2
  let c3 : Index := 3#32
  let c0 : Index := 0#32
  ![1, v3.toNat, 3, 0]
def k2_off2 (i : grid2.Coords) : Fin 4 → Nat :=
  let arg0 : BitVec 32 := BitVec.ofNat 32 (i 0).val
  let v6 : Index := Scalar.indexCast arg0
  let arg1 : BitVec 32 := BitVec.ofNat 32 (i 1).val
  let c10_i32 : BitVec 32 := 10#32
  let v0 : BitVec 32 := Scalar.muli arg1 c10_i32
  let c4_i32 : BitVec 32 := 4#32
  let v1 : BitVec 32 := Scalar.addi v0 c4_i32
  let c1_i32 : BitVec 32 := 1#32
  let v2 : BitVec 32 := Scalar.subi v1 c1_i32
  let v7 : Index := Scalar.indexCast v2
  let c3_0 : Index := 3#32
  let c0_1 : Index := 0#32
  ![v6.toNat, v7.toNat, 3, 0]
def k2_off3 (i : grid2.Coords) : Fin 4 → Nat :=
  let arg0 : BitVec 32 := BitVec.ofNat 32 (i 0).val
  let v10 : Index := Scalar.indexCast arg0
  let arg1 : BitVec 32 := BitVec.ofNat 32 (i 1).val
  let c10_i32 : BitVec 32 := 10#32
  let v0 : BitVec 32 := Scalar.muli arg1 c10_i32
  let v11 : Index := Scalar.indexCast v0
  let c0_2 : Index := 0#32
  let c0_3 : Index := 0#32
  ![v10.toNat, v11.toNat, 0, 0]
def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 1 → Memref sig .tc .vmem S3x48x48x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S3x48x48x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .smem S4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x288 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x288 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x10x40x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := .none

abbrev stage3_0 : Fin 1 → Memref sig .tc .vmem S40x40x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S40x40x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S40x40x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S96x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S40x40x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
-- ==== ReferenceIdeal.lean ====
abbrev S1x32x3x40x40 : Shape := ⟨5, ![1, 32, 3, 40, 40]⟩
abbrev S1x32x3x20x20 : Shape := ⟨5, ![1, 32, 3, 20, 20]⟩
abbrev S1x32x3x10x10 : Shape := ⟨5, ![1, 32, 3, 10, 10]⟩
abbrev S4 : Shape := ⟨1, ![4]⟩
abbrev S1 : Shape := ⟨1, ![1]⟩
abbrev S288x64 : Shape := ⟨2, ![288, 64]⟩
abbrev S288 : Shape := ⟨1, ![288]⟩
abbrev S128x96 : Shape := ⟨2, ![128, 96]⟩
abbrev S128 : Shape := ⟨1, ![128]⟩
abbrev S32x3x10x10 : Shape := ⟨4, ![32, 3, 10, 10]⟩
abbrev S3x32x10x10 : Shape := ⟨4, ![3, 32, 10, 10]⟩
abbrev S1x32x10x10 : Shape := ⟨4, ![1, 32, 10, 10]⟩
abbrev S32x10x10 : Shape := ⟨3, ![32, 10, 10]⟩
abbrev S32x3x20x20 : Shape := ⟨4, ![32, 3, 20, 20]⟩
abbrev S3x32x20x20 : Shape := ⟨4, ![3, 32, 20, 20]⟩
abbrev S1x32x20x20 : Shape := ⟨4, ![1, 32, 20, 20]⟩
abbrev S32x20x20 : Shape := ⟨3, ![32, 20, 20]⟩
abbrev S32x3x40x40 : Shape := ⟨4, ![32, 3, 40, 40]⟩
abbrev S3x32x40x40 : Shape := ⟨4, ![3, 32, 40, 40]⟩
abbrev S1x32x40x40 : Shape := ⟨4, ![1, 32, 40, 40]⟩
abbrev S32x40x40 : Shape := ⟨3, ![32, 40, 40]⟩
abbrev S_ : Shape := ⟨0, ![]⟩
abbrev S3x32x12x12 : Shape := ⟨4, ![3, 32, 12, 12]⟩
abbrev S3x32x1x10x10 : Shape := ⟨5, ![3, 32, 1, 10, 10]⟩
abbrev S3x32x3x10x10 : Shape := ⟨5, ![3, 32, 3, 10, 10]⟩
abbrev S3x32x1x3x10x10 : Shape := ⟨6, ![3, 32, 1, 3, 10, 10]⟩
abbrev S3x32x3x3x10x10 : Shape := ⟨6, ![3, 32, 3, 3, 10, 10]⟩
abbrev S3x288x10x10 : Shape := ⟨4, ![3, 288, 10, 10]⟩
abbrev S3x288x12x12 : Shape := ⟨4, ![3, 288, 12, 12]⟩
abbrev S3x288x1x10x10 : Shape := ⟨5, ![3, 288, 1, 10, 10]⟩
abbrev S3x288x3x10x10 : Shape := ⟨5, ![3, 288, 3, 10, 10]⟩
abbrev S3x288x1x3x10x10 : Shape := ⟨6, ![3, 288, 1, 3, 10, 10]⟩
abbrev S3x288x3x3x10x10 : Shape := ⟨6, ![3, 288, 3, 3, 10, 10]⟩
abbrev S3x2592x10x10 : Shape := ⟨4, ![3, 2592, 10, 10]⟩
abbrev S3x288x9x10x10 : Shape := ⟨5, ![3, 288, 9, 10, 10]⟩
abbrev S3x288x10x10x9 : Shape := ⟨5, ![3, 288, 10, 10, 9]⟩
abbrev S3x288x10x10x1 : Shape := ⟨5, ![3, 288, 10, 10, 1]⟩
abbrev S3x10x10x1 : Shape := ⟨4, ![3, 10, 10, 1]⟩
abbrev S3x1x10x10x1 : Shape := ⟨5, ![3, 1, 10, 10, 1]⟩
abbrev S3x10x10x9 : Shape := ⟨4, ![3, 10, 10, 9]⟩
abbrev S3x1x10x10x9 : Shape := ⟨5, ![3, 1, 10, 10, 9]⟩
abbrev S3x1x10x10x4 : Shape := ⟨5, ![3, 1, 10, 10, 4]⟩
abbrev S3x288x10x10x4 : Shape := ⟨5, ![3, 288, 10, 10, 4]⟩
abbrev S3x288x10x10x4x1 : Shape := ⟨6, ![3, 288, 10, 10, 4, 1]⟩
abbrev S3x32x9x10x10 : Shape := ⟨5, ![3, 32, 9, 10, 10]⟩
abbrev S3x64x10x10 : Shape := ⟨4, ![3, 64, 10, 10]⟩
abbrev S3x10x10x288 : Shape := ⟨4, ![3, 10, 10, 288]⟩
abbrev S1x288x1x1 : Shape := ⟨4, ![1, 288, 1, 1]⟩
abbrev S20 : Shape := ⟨1, ![20]⟩
abbrev S20x1 : Shape := ⟨2, ![20, 1]⟩
abbrev S10 : Shape := ⟨1, ![10]⟩
abbrev S1x10 : Shape := ⟨2, ![1, 10]⟩
abbrev S20x10 : Shape := ⟨2, ![20, 10]⟩
abbrev S3x32x10x20 : Shape := ⟨4, ![3, 32, 10, 20]⟩
abbrev S3x32x20x10 : Shape := ⟨4, ![3, 32, 20, 10]⟩
abbrev S3x32x22x22 : Shape := ⟨4, ![3, 32, 22, 22]⟩
abbrev S3x32x1x20x20 : Shape := ⟨5, ![3, 32, 1, 20, 20]⟩
abbrev S3x32x3x20x20 : Shape := ⟨5, ![3, 32, 3, 20, 20]⟩
abbrev S3x32x1x3x20x20 : Shape := ⟨6, ![3, 32, 1, 3, 20, 20]⟩
abbrev S3x32x3x3x20x20 : Shape := ⟨6, ![3, 32, 3, 3, 20, 20]⟩
abbrev S3x288x20x20 : Shape := ⟨4, ![3, 288, 20, 20]⟩
abbrev S3x288x24x24 : Shape := ⟨4, ![3, 288, 24, 24]⟩
abbrev S3x288x1x20x20 : Shape := ⟨5, ![3, 288, 1, 20, 20]⟩
abbrev S3x288x5x20x20 : Shape := ⟨5, ![3, 288, 5, 20, 20]⟩
abbrev S3x288x1x5x20x20 : Shape := ⟨6, ![3, 288, 1, 5, 20, 20]⟩
abbrev S3x288x5x5x20x20 : Shape := ⟨6, ![3, 288, 5, 5, 20, 20]⟩
abbrev S3x7200x20x20 : Shape := ⟨4, ![3, 7200, 20, 20]⟩
abbrev S3x288x25x20x20 : Shape := ⟨5, ![3, 288, 25, 20, 20]⟩
abbrev S3x288x20x20x25 : Shape := ⟨5, ![3, 288, 20, 20, 25]⟩
abbrev S3x288x20x20x1 : Shape := ⟨5, ![3, 288, 20, 20, 1]⟩
abbrev S3x20x20x1 : Shape := ⟨4, ![3, 20, 20, 1]⟩
abbrev S3x1x20x20x1 : Shape := ⟨5, ![3, 1, 20, 20, 1]⟩
abbrev S3x20x20x25 : Shape := ⟨4, ![3, 20, 20, 25]⟩
abbrev S3x1x20x20x25 : Shape := ⟨5, ![3, 1, 20, 20, 25]⟩
abbrev S3x1x20x20x4 : Shape := ⟨5, ![3, 1, 20, 20, 4]⟩
abbrev S3x288x20x20x4 : Shape := ⟨5, ![3, 288, 20, 20, 4]⟩
abbrev S3x288x20x20x4x1 : Shape := ⟨6, ![3, 288, 20, 20, 4, 1]⟩
abbrev S3x32x9x20x20 : Shape := ⟨5, ![3, 32, 9, 20, 20]⟩
abbrev S3x64x20x20 : Shape := ⟨4, ![3, 64, 20, 20]⟩
abbrev S3x20x20x288 : Shape := ⟨4, ![3, 20, 20, 288]⟩
abbrev S40 : Shape := ⟨1, ![40]⟩
abbrev S40x1 : Shape := ⟨2, ![40, 1]⟩
abbrev S1x20 : Shape := ⟨2, ![1, 20]⟩
abbrev S40x20 : Shape := ⟨2, ![40, 20]⟩
abbrev S3x32x20x40 : Shape := ⟨4, ![3, 32, 20, 40]⟩
abbrev S3x32x40x20 : Shape := ⟨4, ![3, 32, 40, 20]⟩
abbrev S3x32x42x42 : Shape := ⟨4, ![3, 32, 42, 42]⟩
abbrev S3x32x1x40x40 : Shape := ⟨5, ![3, 32, 1, 40, 40]⟩
abbrev S3x32x3x40x40 : Shape := ⟨5, ![3, 32, 3, 40, 40]⟩
abbrev S3x32x1x3x40x40 : Shape := ⟨6, ![3, 32, 1, 3, 40, 40]⟩
abbrev S3x32x3x3x40x40 : Shape := ⟨6, ![3, 32, 3, 3, 40, 40]⟩
abbrev S3x288x40x40 : Shape := ⟨4, ![3, 288, 40, 40]⟩
abbrev S3x288x46x46 : Shape := ⟨4, ![3, 288, 46, 46]⟩
abbrev S3x288x1x40x40 : Shape := ⟨5, ![3, 288, 1, 40, 40]⟩
abbrev S3x288x7x40x40 : Shape := ⟨5, ![3, 288, 7, 40, 40]⟩
abbrev S3x288x1x7x40x40 : Shape := ⟨6, ![3, 288, 1, 7, 40, 40]⟩
abbrev S3x288x7x7x40x40 : Shape := ⟨6, ![3, 288, 7, 7, 40, 40]⟩
abbrev S3x14112x40x40 : Shape := ⟨4, ![3, 14112, 40, 40]⟩
abbrev S3x288x49x40x40 : Shape := ⟨5, ![3, 288, 49, 40, 40]⟩
abbrev S3x288x40x40x49 : Shape := ⟨5, ![3, 288, 40, 40, 49]⟩
abbrev S3x288x40x40x1 : Shape := ⟨5, ![3, 288, 40, 40, 1]⟩
abbrev S3x40x40x1 : Shape := ⟨4, ![3, 40, 40, 1]⟩
abbrev S3x1x40x40x1 : Shape := ⟨5, ![3, 1, 40, 40, 1]⟩
abbrev S3x40x40x49 : Shape := ⟨4, ![3, 40, 40, 49]⟩
abbrev S3x1x40x40x49 : Shape := ⟨5, ![3, 1, 40, 40, 49]⟩
abbrev S3x1x40x40x4 : Shape := ⟨5, ![3, 1, 40, 40, 4]⟩
abbrev S3x288x40x40x4 : Shape := ⟨5, ![3, 288, 40, 40, 4]⟩
abbrev S3x288x40x40x4x1 : Shape := ⟨6, ![3, 288, 40, 40, 4, 1]⟩
abbrev S3x32x9x40x40 : Shape := ⟨5, ![3, 32, 9, 40, 40]⟩
abbrev S3x64x40x40 : Shape := ⟨4, ![3, 64, 40, 40]⟩
abbrev S3x40x40x288 : Shape := ⟨4, ![3, 40, 40, 288]⟩
abbrev S1x96x40x40 : Shape := ⟨4, ![1, 96, 40, 40]⟩
abbrev S1x40x40x128 : Shape := ⟨4, ![1, 40, 40, 128]⟩
abbrev S1x128x40x40 : Shape := ⟨4, ![1, 128, 40, 40]⟩
abbrev S1x128x1x1 : Shape := ⟨4, ![1, 128, 1, 1]⟩
abbrev S1x32x2x2x40x40 : Shape := ⟨6, ![1, 32, 2, 2, 40, 40]⟩
abbrev S1x32x40x2x40x2 : Shape := ⟨6, ![1, 32, 40, 2, 40, 2]⟩
abbrev S1x32x80x80 : Shape := ⟨4, ![1, 32, 80, 80]⟩

abbrev nBuf : Space → Nat
  | .hbm => 728
  | .vmem => 0
  | .smem => 0
  | _ => 0

abbrev hbmTy0_0 (i : Nat) : BufTy := match i % 128 with
  | 0 => ⟨S1x32x3x40x40, .f32⟩
  | 1 => ⟨S1x32x3x20x20, .f32⟩
  | 2 => ⟨S1x32x3x10x10, .f32⟩
  | 3 => ⟨S4, .f32⟩
  | 4 => ⟨S1, .f32⟩
  | 5 => ⟨S288x64, .f32⟩
  | 6 => ⟨S288, .f32⟩
  | 7 => ⟨S4, .f32⟩
  | 8 => ⟨S1, .f32⟩
  | 9 => ⟨S288x64, .f32⟩
  | 10 => ⟨S288, .f32⟩
  | 11 => ⟨S4, .f32⟩
  | 12 => ⟨S1, .f32⟩
  | 13 => ⟨S288x64, .f32⟩
  | 14 => ⟨S288, .f32⟩
  | 15 => ⟨S128x96, .f32⟩
  | 16 => ⟨S128, .f32⟩
  | 17 => ⟨S32x3x10x10, .f32⟩
  | 18 => ⟨S3x32x10x10, .f32⟩
  | 19 => ⟨S1x32x10x10, .f32⟩
  | 20 => ⟨S32x10x10, .f32⟩
  | 21 => ⟨S1x32x10x10, .f32⟩
  | 22 => ⟨S3x32x10x10, .f32⟩
  | 23 => ⟨S32x3x20x20, .f32⟩
  | 24 => ⟨S3x32x20x20, .f32⟩
  | 25 => ⟨S1x32x20x20, .f32⟩
  | 26 => ⟨S32x20x20, .f32⟩
  | 27 => ⟨S1x32x20x20, .f32⟩
  | 28 => ⟨S3x32x20x20, .f32⟩
  | 29 => ⟨S32x3x40x40, .f32⟩
  | 30 => ⟨S3x32x40x40, .f32⟩
  | 31 => ⟨S1x32x40x40, .f32⟩
  | 32 => ⟨S32x40x40, .f32⟩
  | 33 => ⟨S1x32x40x40, .f32⟩
  | 34 => ⟨S3x32x40x40, .f32⟩
  | 35 => ⟨S_, .i32⟩
  | 36 => ⟨S_, .f32⟩
  | 37 => ⟨S3x32x12x12, .f32⟩
  | 38 => ⟨S3x32x10x10, .f32⟩
  | 39 => ⟨S3x32x10x10, .f32⟩
  | 40 => ⟨S3x32x10x10, .f32⟩
  | 41 => ⟨S3x32x1x10x10, .f32⟩
  | 42 => ⟨S3x32x1x10x10, .f32⟩
  | 43 => ⟨S3x32x1x10x10, .f32⟩
  | 44 => ⟨S3x32x3x10x10, .f32⟩
  | 45 => ⟨S3x32x10x10, .f32⟩
  | 46 => ⟨S3x32x10x10, .f32⟩
  | 47 => ⟨S3x32x10x10, .f32⟩
  | 48 => ⟨S3x32x1x10x10, .f32⟩
  | 49 => ⟨S3x32x1x10x10, .f32⟩
  | 50 => ⟨S3x32x1x10x10, .f32⟩
  | 51 => ⟨S3x32x3x10x10, .f32⟩
  | 52 => ⟨S3x32x10x10, .f32⟩
  | 53 => ⟨S3x32x10x10, .f32⟩
  | 54 => ⟨S3x32x10x10, .f32⟩
  | 55 => ⟨S3x32x1x10x10, .f32⟩
  | 56 => ⟨S3x32x1x10x10, .f32⟩
  | 57 => ⟨S3x32x1x10x10, .f32⟩
  | 58 => ⟨S3x32x3x10x10, .f32⟩
  | 59 => ⟨S3x32x1x3x10x10, .f32⟩
  | 60 => ⟨S3x32x1x3x10x10, .f32⟩
  | 61 => ⟨S3x32x1x3x10x10, .f32⟩
  | 62 => ⟨S3x32x3x3x10x10, .f32⟩
  | 63 => ⟨S3x288x10x10, .f32⟩
  | 64 => ⟨S_, .i32⟩
  | 65 => ⟨S_, .f32⟩
  | 66 => ⟨S3x32x12x12, .f32⟩
  | 67 => ⟨S3x32x10x10, .f32⟩
  | 68 => ⟨S3x32x10x10, .f32⟩
  | 69 => ⟨S3x32x10x10, .f32⟩
  | 70 => ⟨S3x32x1x10x10, .f32⟩
  | 71 => ⟨S3x32x1x10x10, .f32⟩
  | 72 => ⟨S3x32x1x10x10, .f32⟩
  | 73 => ⟨S3x32x3x10x10, .f32⟩
  | 74 => ⟨S3x32x10x10, .f32⟩
  | 75 => ⟨S3x32x10x10, .f32⟩
  | 76 => ⟨S3x32x10x10, .f32⟩
  | 77 => ⟨S3x32x1x10x10, .f32⟩
  | 78 => ⟨S3x32x1x10x10, .f32⟩
  | 79 => ⟨S3x32x1x10x10, .f32⟩
  | 80 => ⟨S3x32x3x10x10, .f32⟩
  | 81 => ⟨S3x32x10x10, .f32⟩
  | 82 => ⟨S3x32x10x10, .f32⟩
  | 83 => ⟨S3x32x10x10, .f32⟩
  | 84 => ⟨S3x32x1x10x10, .f32⟩
  | 85 => ⟨S3x32x1x10x10, .f32⟩
  | 86 => ⟨S3x32x1x10x10, .f32⟩
  | 87 => ⟨S3x32x3x10x10, .f32⟩
  | 88 => ⟨S3x32x1x3x10x10, .f32⟩
  | 89 => ⟨S3x32x1x3x10x10, .f32⟩
  | 90 => ⟨S3x32x1x3x10x10, .f32⟩
  | 91 => ⟨S3x32x3x3x10x10, .f32⟩
  | 92 => ⟨S3x288x10x10, .f32⟩
  | 93 => ⟨S_, .i32⟩
  | 94 => ⟨S_, .f32⟩
  | 95 => ⟨S3x288x12x12, .f32⟩
  | 96 => ⟨S3x288x10x10, .f32⟩
  | 97 => ⟨S3x288x10x10, .f32⟩
  | 98 => ⟨S3x288x10x10, .f32⟩
  | 99 => ⟨S3x288x1x10x10, .f32⟩
  | 100 => ⟨S3x288x1x10x10, .f32⟩
  | 101 => ⟨S3x288x1x10x10, .f32⟩
  | 102 => ⟨S3x288x3x10x10, .f32⟩
  | 103 => ⟨S3x288x10x10, .f32⟩
  | 104 => ⟨S3x288x10x10, .f32⟩
  | 105 => ⟨S3x288x10x10, .f32⟩
  | 106 => ⟨S3x288x1x10x10, .f32⟩
  | 107 => ⟨S3x288x1x10x10, .f32⟩
  | 108 => ⟨S3x288x1x10x10, .f32⟩
  | 109 => ⟨S3x288x3x10x10, .f32⟩
  | 110 => ⟨S3x288x10x10, .f32⟩
  | 111 => ⟨S3x288x10x10, .f32⟩
  | 112 => ⟨S3x288x10x10, .f32⟩
  | 113 => ⟨S3x288x1x10x10, .f32⟩
  | 114 => ⟨S3x288x1x10x10, .f32⟩
  | 115 => ⟨S3x288x1x10x10, .f32⟩
  | 116 => ⟨S3x288x3x10x10, .f32⟩
  | 117 => ⟨S3x288x1x3x10x10, .f32⟩
  | 118 => ⟨S3x288x1x3x10x10, .f32⟩
  | 119 => ⟨S3x288x1x3x10x10, .f32⟩
  | 120 => ⟨S3x288x3x3x10x10, .f32⟩
  | 121 => ⟨S3x2592x10x10, .f32⟩
  | 122 => ⟨S3x288x9x10x10, .f32⟩
  | 123 => ⟨S3x288x10x10x9, .f32⟩
  | 124 => ⟨S3x288x10x10x1, .f32⟩
  | 125 => ⟨S3x288x10x10x1, .f32⟩
  | 126 => ⟨S_, .f32⟩
  | 127 => ⟨S3x10x10x1, .f32⟩
  | _ => ⟨S1x32x3x40x40, .f32⟩

abbrev hbmTy0_1 (i : Nat) : BufTy := match i % 128 with
  | 0 => ⟨S3x1x10x10x1, .f32⟩
  | 1 => ⟨S3x1x10x10x1, .f32⟩
  | 2 => ⟨S_, .f32⟩
  | 3 => ⟨S3x1x10x10x1, .f32⟩
  | 4 => ⟨S3x1x10x10x1, .f32⟩
  | 5 => ⟨S3x288x10x10x1, .f32⟩
  | 6 => ⟨S3x288x10x10x1, .f32⟩
  | 7 => ⟨S3x288x10x10x9, .f32⟩
  | 8 => ⟨S_, .f32⟩
  | 9 => ⟨S3x10x10x9, .f32⟩
  | 10 => ⟨S3x1x10x10x9, .f32⟩
  | 11 => ⟨S3x1x10x10x9, .f32⟩
  | 12 => ⟨S_, .f32⟩
  | 13 => ⟨S3x1x10x10x9, .f32⟩
  | 14 => ⟨S3x1x10x10x9, .f32⟩
  | 15 => ⟨S3x288x10x10x9, .f32⟩
  | 16 => ⟨S3x288x10x10x9, .f32⟩
  | 17 => ⟨S3x288x10x10x9, .f32⟩
  | 18 => ⟨S3x288x10x10x9, .f32⟩
  | 19 => ⟨S_, .f32⟩
  | 20 => ⟨S3x10x10x9, .f32⟩
  | 21 => ⟨S3x1x10x10x9, .f32⟩
  | 22 => ⟨S3x1x10x10x4, .f32⟩
  | 23 => ⟨S3x1x10x10x4, .i32⟩
  | 24 => ⟨S3x288x10x10x4, .i32⟩
  | 25 => ⟨S_, .i32⟩
  | 26 => ⟨S3x288x10x10x4, .i32⟩
  | 27 => ⟨S3x288x10x10x4, .i1⟩
  | 28 => ⟨S_, .i32⟩
  | 29 => ⟨S3x288x10x10x4, .i32⟩
  | 30 => ⟨S3x288x10x10x4, .i32⟩
  | 31 => ⟨S3x288x10x10x4, .i32⟩
  | 32 => ⟨S3x288x10x10x4x1, .i32⟩
  | 33 => ⟨S3x288x10x10x4, .f32⟩
  | 34 => ⟨S3x288x10x10, .f32⟩
  | 35 => ⟨S_, .f32⟩
  | 36 => ⟨S3x288x10x10, .f32⟩
  | 37 => ⟨S3x288x10x10, .f32⟩
  | 38 => ⟨S3x32x9x10x10, .f32⟩
  | 39 => ⟨S3x64x10x10, .f32⟩
  | 40 => ⟨S3x10x10x288, .f32⟩
  | 41 => ⟨S3x288x10x10, .f32⟩
  | 42 => ⟨S1x288x1x1, .f32⟩
  | 43 => ⟨S3x288x10x10, .f32⟩
  | 44 => ⟨S3x288x10x10, .f32⟩
  | 45 => ⟨S3x32x9x10x10, .f32⟩
  | 46 => ⟨S3x32x9x10x10, .f32⟩
  | 47 => ⟨S_, .f32⟩
  | 48 => ⟨S3x32x10x10, .f32⟩
  | 49 => ⟨S20, .f32⟩
  | 50 => ⟨S_, .f32⟩
  | 51 => ⟨S20, .f32⟩
  | 52 => ⟨S20, .f32⟩
  | 53 => ⟨S_, .f32⟩
  | 54 => ⟨S20, .f32⟩
  | 55 => ⟨S20, .f32⟩
  | 56 => ⟨S_, .f32⟩
  | 57 => ⟨S20, .f32⟩
  | 58 => ⟨S20, .f32⟩
  | 59 => ⟨S_, .f32⟩
  | 60 => ⟨S_, .f32⟩
  | 61 => ⟨S_, .f32⟩
  | 62 => ⟨S20, .f32⟩
  | 63 => ⟨S20, .f32⟩
  | 64 => ⟨S_, .f32⟩
  | 65 => ⟨S20, .f32⟩
  | 66 => ⟨S20, .f32⟩
  | 67 => ⟨S20x1, .f32⟩
  | 68 => ⟨S10, .f32⟩
  | 69 => ⟨S1x10, .f32⟩
  | 70 => ⟨S20x10, .f32⟩
  | 71 => ⟨S20x10, .f32⟩
  | 72 => ⟨S20x10, .f32⟩
  | 73 => ⟨S20x10, .f32⟩
  | 74 => ⟨S_, .f32⟩
  | 75 => ⟨S20x10, .f32⟩
  | 76 => ⟨S20x10, .f32⟩
  | 77 => ⟨S_, .f32⟩
  | 78 => ⟨S20x10, .f32⟩
  | 79 => ⟨S20x10, .f32⟩
  | 80 => ⟨S3x32x10x20, .f32⟩
  | 81 => ⟨S3x32x20x10, .f32⟩
  | 82 => ⟨S20, .f32⟩
  | 83 => ⟨S_, .f32⟩
  | 84 => ⟨S20, .f32⟩
  | 85 => ⟨S20, .f32⟩
  | 86 => ⟨S_, .f32⟩
  | 87 => ⟨S20, .f32⟩
  | 88 => ⟨S20, .f32⟩
  | 89 => ⟨S_, .f32⟩
  | 90 => ⟨S20, .f32⟩
  | 91 => ⟨S20, .f32⟩
  | 92 => ⟨S_, .f32⟩
  | 93 => ⟨S_, .f32⟩
  | 94 => ⟨S_, .f32⟩
  | 95 => ⟨S20, .f32⟩
  | 96 => ⟨S20, .f32⟩
  | 97 => ⟨S_, .f32⟩
  | 98 => ⟨S20, .f32⟩
  | 99 => ⟨S20, .f32⟩
  | 100 => ⟨S20x1, .f32⟩
  | 101 => ⟨S10, .f32⟩
  | 102 => ⟨S1x10, .f32⟩
  | 103 => ⟨S20x10, .f32⟩
  | 104 => ⟨S20x10, .f32⟩
  | 105 => ⟨S20x10, .f32⟩
  | 106 => ⟨S20x10, .f32⟩
  | 107 => ⟨S_, .f32⟩
  | 108 => ⟨S20x10, .f32⟩
  | 109 => ⟨S20x10, .f32⟩
  | 110 => ⟨S_, .f32⟩
  | 111 => ⟨S20x10, .f32⟩
  | 112 => ⟨S20x10, .f32⟩
  | 113 => ⟨S3x32x20x20, .f32⟩
  | 114 => ⟨S3x32x20x20, .f32⟩
  | 115 => ⟨S3x32x20x20, .f32⟩
  | 116 => ⟨S_, .i32⟩
  | 117 => ⟨S_, .f32⟩
  | 118 => ⟨S3x32x22x22, .f32⟩
  | 119 => ⟨S3x32x20x20, .f32⟩
  | 120 => ⟨S3x32x20x20, .f32⟩
  | 121 => ⟨S3x32x20x20, .f32⟩
  | 122 => ⟨S3x32x1x20x20, .f32⟩
  | 123 => ⟨S3x32x1x20x20, .f32⟩
  | 124 => ⟨S3x32x1x20x20, .f32⟩
  | 125 => ⟨S3x32x3x20x20, .f32⟩
  | 126 => ⟨S3x32x20x20, .f32⟩
  | 127 => ⟨S3x32x20x20, .f32⟩
  | _ => ⟨S1x32x3x40x40, .f32⟩

abbrev hbmTy0_2 (i : Nat) : BufTy := match i % 128 with
  | 0 => ⟨S3x32x20x20, .f32⟩
  | 1 => ⟨S3x32x1x20x20, .f32⟩
  | 2 => ⟨S3x32x1x20x20, .f32⟩
  | 3 => ⟨S3x32x1x20x20, .f32⟩
  | 4 => ⟨S3x32x3x20x20, .f32⟩
  | 5 => ⟨S3x32x20x20, .f32⟩
  | 6 => ⟨S3x32x20x20, .f32⟩
  | 7 => ⟨S3x32x20x20, .f32⟩
  | 8 => ⟨S3x32x1x20x20, .f32⟩
  | 9 => ⟨S3x32x1x20x20, .f32⟩
  | 10 => ⟨S3x32x1x20x20, .f32⟩
  | 11 => ⟨S3x32x3x20x20, .f32⟩
  | 12 => ⟨S3x32x1x3x20x20, .f32⟩
  | 13 => ⟨S3x32x1x3x20x20, .f32⟩
  | 14 => ⟨S3x32x1x3x20x20, .f32⟩
  | 15 => ⟨S3x32x3x3x20x20, .f32⟩
  | 16 => ⟨S3x288x20x20, .f32⟩
  | 17 => ⟨S_, .i32⟩
  | 18 => ⟨S_, .f32⟩
  | 19 => ⟨S3x32x22x22, .f32⟩
  | 20 => ⟨S3x32x20x20, .f32⟩
  | 21 => ⟨S3x32x20x20, .f32⟩
  | 22 => ⟨S3x32x20x20, .f32⟩
  | 23 => ⟨S3x32x1x20x20, .f32⟩
  | 24 => ⟨S3x32x1x20x20, .f32⟩
  | 25 => ⟨S3x32x1x20x20, .f32⟩
  | 26 => ⟨S3x32x3x20x20, .f32⟩
  | 27 => ⟨S3x32x20x20, .f32⟩
  | 28 => ⟨S3x32x20x20, .f32⟩
  | 29 => ⟨S3x32x20x20, .f32⟩
  | 30 => ⟨S3x32x1x20x20, .f32⟩
  | 31 => ⟨S3x32x1x20x20, .f32⟩
  | 32 => ⟨S3x32x1x20x20, .f32⟩
  | 33 => ⟨S3x32x3x20x20, .f32⟩
  | 34 => ⟨S3x32x20x20, .f32⟩
  | 35 => ⟨S3x32x20x20, .f32⟩
  | 36 => ⟨S3x32x20x20, .f32⟩
  | 37 => ⟨S3x32x1x20x20, .f32⟩
  | 38 => ⟨S3x32x1x20x20, .f32⟩
  | 39 => ⟨S3x32x1x20x20, .f32⟩
  | 40 => ⟨S3x32x3x20x20, .f32⟩
  | 41 => ⟨S3x32x1x3x20x20, .f32⟩
  | 42 => ⟨S3x32x1x3x20x20, .f32⟩
  | 43 => ⟨S3x32x1x3x20x20, .f32⟩
  | 44 => ⟨S3x32x3x3x20x20, .f32⟩
  | 45 => ⟨S3x288x20x20, .f32⟩
  | 46 => ⟨S_, .i32⟩
  | 47 => ⟨S_, .f32⟩
  | 48 => ⟨S3x288x24x24, .f32⟩
  | 49 => ⟨S3x288x20x20, .f32⟩
  | 50 => ⟨S3x288x20x20, .f32⟩
  | 51 => ⟨S3x288x20x20, .f32⟩
  | 52 => ⟨S3x288x20x20, .f32⟩
  | 53 => ⟨S3x288x20x20, .f32⟩
  | 54 => ⟨S3x288x1x20x20, .f32⟩
  | 55 => ⟨S3x288x1x20x20, .f32⟩
  | 56 => ⟨S3x288x1x20x20, .f32⟩
  | 57 => ⟨S3x288x1x20x20, .f32⟩
  | 58 => ⟨S3x288x1x20x20, .f32⟩
  | 59 => ⟨S3x288x5x20x20, .f32⟩
  | 60 => ⟨S3x288x20x20, .f32⟩
  | 61 => ⟨S3x288x20x20, .f32⟩
  | 62 => ⟨S3x288x20x20, .f32⟩
  | 63 => ⟨S3x288x20x20, .f32⟩
  | 64 => ⟨S3x288x20x20, .f32⟩
  | 65 => ⟨S3x288x1x20x20, .f32⟩
  | 66 => ⟨S3x288x1x20x20, .f32⟩
  | 67 => ⟨S3x288x1x20x20, .f32⟩
  | 68 => ⟨S3x288x1x20x20, .f32⟩
  | 69 => ⟨S3x288x1x20x20, .f32⟩
  | 70 => ⟨S3x288x5x20x20, .f32⟩
  | 71 => ⟨S3x288x20x20, .f32⟩
  | 72 => ⟨S3x288x20x20, .f32⟩
  | 73 => ⟨S3x288x20x20, .f32⟩
  | 74 => ⟨S3x288x20x20, .f32⟩
  | 75 => ⟨S3x288x20x20, .f32⟩
  | 76 => ⟨S3x288x1x20x20, .f32⟩
  | 77 => ⟨S3x288x1x20x20, .f32⟩
  | 78 => ⟨S3x288x1x20x20, .f32⟩
  | 79 => ⟨S3x288x1x20x20, .f32⟩
  | 80 => ⟨S3x288x1x20x20, .f32⟩
  | 81 => ⟨S3x288x5x20x20, .f32⟩
  | 82 => ⟨S3x288x20x20, .f32⟩
  | 83 => ⟨S3x288x20x20, .f32⟩
  | 84 => ⟨S3x288x20x20, .f32⟩
  | 85 => ⟨S3x288x20x20, .f32⟩
  | 86 => ⟨S3x288x20x20, .f32⟩
  | 87 => ⟨S3x288x1x20x20, .f32⟩
  | 88 => ⟨S3x288x1x20x20, .f32⟩
  | 89 => ⟨S3x288x1x20x20, .f32⟩
  | 90 => ⟨S3x288x1x20x20, .f32⟩
  | 91 => ⟨S3x288x1x20x20, .f32⟩
  | 92 => ⟨S3x288x5x20x20, .f32⟩
  | 93 => ⟨S3x288x20x20, .f32⟩
  | 94 => ⟨S3x288x20x20, .f32⟩
  | 95 => ⟨S3x288x20x20, .f32⟩
  | 96 => ⟨S3x288x20x20, .f32⟩
  | 97 => ⟨S3x288x20x20, .f32⟩
  | 98 => ⟨S3x288x1x20x20, .f32⟩
  | 99 => ⟨S3x288x1x20x20, .f32⟩
  | 100 => ⟨S3x288x1x20x20, .f32⟩
  | 101 => ⟨S3x288x1x20x20, .f32⟩
  | 102 => ⟨S3x288x1x20x20, .f32⟩
  | 103 => ⟨S3x288x5x20x20, .f32⟩
  | 104 => ⟨S3x288x1x5x20x20, .f32⟩
  | 105 => ⟨S3x288x1x5x20x20, .f32⟩
  | 106 => ⟨S3x288x1x5x20x20, .f32⟩
  | 107 => ⟨S3x288x1x5x20x20, .f32⟩
  | 108 => ⟨S3x288x1x5x20x20, .f32⟩
  | 109 => ⟨S3x288x5x5x20x20, .f32⟩
  | 110 => ⟨S3x7200x20x20, .f32⟩
  | 111 => ⟨S3x288x25x20x20, .f32⟩
  | 112 => ⟨S3x288x20x20x25, .f32⟩
  | 113 => ⟨S3x288x20x20x1, .f32⟩
  | 114 => ⟨S3x288x20x20x1, .f32⟩
  | 115 => ⟨S_, .f32⟩
  | 116 => ⟨S3x20x20x1, .f32⟩
  | 117 => ⟨S3x1x20x20x1, .f32⟩
  | 118 => ⟨S3x1x20x20x1, .f32⟩
  | 119 => ⟨S_, .f32⟩
  | 120 => ⟨S3x1x20x20x1, .f32⟩
  | 121 => ⟨S3x1x20x20x1, .f32⟩
  | 122 => ⟨S3x288x20x20x1, .f32⟩
  | 123 => ⟨S3x288x20x20x1, .f32⟩
  | 124 => ⟨S3x288x20x20x25, .f32⟩
  | 125 => ⟨S_, .f32⟩
  | 126 => ⟨S3x20x20x25, .f32⟩
  | 127 => ⟨S3x1x20x20x25, .f32⟩
  | _ => ⟨S1x32x3x40x40, .f32⟩

abbrev hbmTy0_3 (i : Nat) : BufTy := match i % 128 with
  | 0 => ⟨S3x1x20x20x25, .f32⟩
  | 1 => ⟨S_, .f32⟩
  | 2 => ⟨S3x1x20x20x25, .f32⟩
  | 3 => ⟨S3x1x20x20x25, .f32⟩
  | 4 => ⟨S3x288x20x20x25, .f32⟩
  | 5 => ⟨S3x288x20x20x25, .f32⟩
  | 6 => ⟨S3x288x20x20x25, .f32⟩
  | 7 => ⟨S3x288x20x20x25, .f32⟩
  | 8 => ⟨S_, .f32⟩
  | 9 => ⟨S3x20x20x25, .f32⟩
  | 10 => ⟨S3x1x20x20x25, .f32⟩
  | 11 => ⟨S3x1x20x20x4, .f32⟩
  | 12 => ⟨S3x1x20x20x4, .i32⟩
  | 13 => ⟨S3x288x20x20x4, .i32⟩
  | 14 => ⟨S_, .i32⟩
  | 15 => ⟨S3x288x20x20x4, .i32⟩
  | 16 => ⟨S3x288x20x20x4, .i1⟩
  | 17 => ⟨S_, .i32⟩
  | 18 => ⟨S3x288x20x20x4, .i32⟩
  | 19 => ⟨S3x288x20x20x4, .i32⟩
  | 20 => ⟨S3x288x20x20x4, .i32⟩
  | 21 => ⟨S3x288x20x20x4x1, .i32⟩
  | 22 => ⟨S3x288x20x20x4, .f32⟩
  | 23 => ⟨S3x288x20x20, .f32⟩
  | 24 => ⟨S_, .f32⟩
  | 25 => ⟨S3x288x20x20, .f32⟩
  | 26 => ⟨S3x288x20x20, .f32⟩
  | 27 => ⟨S3x32x9x20x20, .f32⟩
  | 28 => ⟨S3x64x20x20, .f32⟩
  | 29 => ⟨S3x20x20x288, .f32⟩
  | 30 => ⟨S3x288x20x20, .f32⟩
  | 31 => ⟨S1x288x1x1, .f32⟩
  | 32 => ⟨S3x288x20x20, .f32⟩
  | 33 => ⟨S3x288x20x20, .f32⟩
  | 34 => ⟨S3x32x9x20x20, .f32⟩
  | 35 => ⟨S3x32x9x20x20, .f32⟩
  | 36 => ⟨S_, .f32⟩
  | 37 => ⟨S3x32x20x20, .f32⟩
  | 38 => ⟨S40, .f32⟩
  | 39 => ⟨S_, .f32⟩
  | 40 => ⟨S40, .f32⟩
  | 41 => ⟨S40, .f32⟩
  | 42 => ⟨S_, .f32⟩
  | 43 => ⟨S40, .f32⟩
  | 44 => ⟨S40, .f32⟩
  | 45 => ⟨S_, .f32⟩
  | 46 => ⟨S40, .f32⟩
  | 47 => ⟨S40, .f32⟩
  | 48 => ⟨S_, .f32⟩
  | 49 => ⟨S_, .f32⟩
  | 50 => ⟨S_, .f32⟩
  | 51 => ⟨S40, .f32⟩
  | 52 => ⟨S40, .f32⟩
  | 53 => ⟨S_, .f32⟩
  | 54 => ⟨S40, .f32⟩
  | 55 => ⟨S40, .f32⟩
  | 56 => ⟨S40x1, .f32⟩
  | 57 => ⟨S20, .f32⟩
  | 58 => ⟨S1x20, .f32⟩
  | 59 => ⟨S40x20, .f32⟩
  | 60 => ⟨S40x20, .f32⟩
  | 61 => ⟨S40x20, .f32⟩
  | 62 => ⟨S40x20, .f32⟩
  | 63 => ⟨S_, .f32⟩
  | 64 => ⟨S40x20, .f32⟩
  | 65 => ⟨S40x20, .f32⟩
  | 66 => ⟨S_, .f32⟩
  | 67 => ⟨S40x20, .f32⟩
  | 68 => ⟨S40x20, .f32⟩
  | 69 => ⟨S3x32x20x40, .f32⟩
  | 70 => ⟨S3x32x40x20, .f32⟩
  | 71 => ⟨S40, .f32⟩
  | 72 => ⟨S_, .f32⟩
  | 73 => ⟨S40, .f32⟩
  | 74 => ⟨S40, .f32⟩
  | 75 => ⟨S_, .f32⟩
  | 76 => ⟨S40, .f32⟩
  | 77 => ⟨S40, .f32⟩
  | 78 => ⟨S_, .f32⟩
  | 79 => ⟨S40, .f32⟩
  | 80 => ⟨S40, .f32⟩
  | 81 => ⟨S_, .f32⟩
  | 82 => ⟨S_, .f32⟩
  | 83 => ⟨S_, .f32⟩
  | 84 => ⟨S40, .f32⟩
  | 85 => ⟨S40, .f32⟩
  | 86 => ⟨S_, .f32⟩
  | 87 => ⟨S40, .f32⟩
  | 88 => ⟨S40, .f32⟩
  | 89 => ⟨S40x1, .f32⟩
  | 90 => ⟨S20, .f32⟩
  | 91 => ⟨S1x20, .f32⟩
  | 92 => ⟨S40x20, .f32⟩
  | 93 => ⟨S40x20, .f32⟩
  | 94 => ⟨S40x20, .f32⟩
  | 95 => ⟨S40x20, .f32⟩
  | 96 => ⟨S_, .f32⟩
  | 97 => ⟨S40x20, .f32⟩
  | 98 => ⟨S40x20, .f32⟩
  | 99 => ⟨S_, .f32⟩
  | 100 => ⟨S40x20, .f32⟩
  | 101 => ⟨S40x20, .f32⟩
  | 102 => ⟨S3x32x40x40, .f32⟩
  | 103 => ⟨S3x32x40x40, .f32⟩
  | 104 => ⟨S3x32x40x40, .f32⟩
  | 105 => ⟨S_, .i32⟩
  | 106 => ⟨S_, .f32⟩
  | 107 => ⟨S3x32x42x42, .f32⟩
  | 108 => ⟨S3x32x40x40, .f32⟩
  | 109 => ⟨S3x32x40x40, .f32⟩
  | 110 => ⟨S3x32x40x40, .f32⟩
  | 111 => ⟨S3x32x1x40x40, .f32⟩
  | 112 => ⟨S3x32x1x40x40, .f32⟩
  | 113 => ⟨S3x32x1x40x40, .f32⟩
  | 114 => ⟨S3x32x3x40x40, .f32⟩
  | 115 => ⟨S3x32x40x40, .f32⟩
  | 116 => ⟨S3x32x40x40, .f32⟩
  | 117 => ⟨S3x32x40x40, .f32⟩
  | 118 => ⟨S3x32x1x40x40, .f32⟩
  | 119 => ⟨S3x32x1x40x40, .f32⟩
  | 120 => ⟨S3x32x1x40x40, .f32⟩
  | 121 => ⟨S3x32x3x40x40, .f32⟩
  | 122 => ⟨S3x32x40x40, .f32⟩
  | 123 => ⟨S3x32x40x40, .f32⟩
  | 124 => ⟨S3x32x40x40, .f32⟩
  | 125 => ⟨S3x32x1x40x40, .f32⟩
  | 126 => ⟨S3x32x1x40x40, .f32⟩
  | 127 => ⟨S3x32x1x40x40, .f32⟩
  | _ => ⟨S1x32x3x40x40, .f32⟩

abbrev hbmTy0_4 (i : Nat) : BufTy := match i % 128 with
  | 0 => ⟨S3x32x3x40x40, .f32⟩
  | 1 => ⟨S3x32x1x3x40x40, .f32⟩
  | 2 => ⟨S3x32x1x3x40x40, .f32⟩
  | 3 => ⟨S3x32x1x3x40x40, .f32⟩
  | 4 => ⟨S3x32x3x3x40x40, .f32⟩
  | 5 => ⟨S3x288x40x40, .f32⟩
  | 6 => ⟨S_, .i32⟩
  | 7 => ⟨S_, .f32⟩
  | 8 => ⟨S3x32x42x42, .f32⟩
  | 9 => ⟨S3x32x40x40, .f32⟩
  | 10 => ⟨S3x32x40x40, .f32⟩
  | 11 => ⟨S3x32x40x40, .f32⟩
  | 12 => ⟨S3x32x1x40x40, .f32⟩
  | 13 => ⟨S3x32x1x40x40, .f32⟩
  | 14 => ⟨S3x32x1x40x40, .f32⟩
  | 15 => ⟨S3x32x3x40x40, .f32⟩
  | 16 => ⟨S3x32x40x40, .f32⟩
  | 17 => ⟨S3x32x40x40, .f32⟩
  | 18 => ⟨S3x32x40x40, .f32⟩
  | 19 => ⟨S3x32x1x40x40, .f32⟩
  | 20 => ⟨S3x32x1x40x40, .f32⟩
  | 21 => ⟨S3x32x1x40x40, .f32⟩
  | 22 => ⟨S3x32x3x40x40, .f32⟩
  | 23 => ⟨S3x32x40x40, .f32⟩
  | 24 => ⟨S3x32x40x40, .f32⟩
  | 25 => ⟨S3x32x40x40, .f32⟩
  | 26 => ⟨S3x32x1x40x40, .f32⟩
  | 27 => ⟨S3x32x1x40x40, .f32⟩
  | 28 => ⟨S3x32x1x40x40, .f32⟩
  | 29 => ⟨S3x32x3x40x40, .f32⟩
  | 30 => ⟨S3x32x1x3x40x40, .f32⟩
  | 31 => ⟨S3x32x1x3x40x40, .f32⟩
  | 32 => ⟨S3x32x1x3x40x40, .f32⟩
  | 33 => ⟨S3x32x3x3x40x40, .f32⟩
  | 34 => ⟨S3x288x40x40, .f32⟩
  | 35 => ⟨S_, .i32⟩
  | 36 => ⟨S_, .f32⟩
  | 37 => ⟨S3x288x46x46, .f32⟩
  | 38 => ⟨S3x288x40x40, .f32⟩
  | 39 => ⟨S3x288x40x40, .f32⟩
  | 40 => ⟨S3x288x40x40, .f32⟩
  | 41 => ⟨S3x288x40x40, .f32⟩
  | 42 => ⟨S3x288x40x40, .f32⟩
  | 43 => ⟨S3x288x40x40, .f32⟩
  | 44 => ⟨S3x288x40x40, .f32⟩
  | 45 => ⟨S3x288x1x40x40, .f32⟩
  | 46 => ⟨S3x288x1x40x40, .f32⟩
  | 47 => ⟨S3x288x1x40x40, .f32⟩
  | 48 => ⟨S3x288x1x40x40, .f32⟩
  | 49 => ⟨S3x288x1x40x40, .f32⟩
  | 50 => ⟨S3x288x1x40x40, .f32⟩
  | 51 => ⟨S3x288x1x40x40, .f32⟩
  | 52 => ⟨S3x288x7x40x40, .f32⟩
  | 53 => ⟨S3x288x40x40, .f32⟩
  | 54 => ⟨S3x288x40x40, .f32⟩
  | 55 => ⟨S3x288x40x40, .f32⟩
  | 56 => ⟨S3x288x40x40, .f32⟩
  | 57 => ⟨S3x288x40x40, .f32⟩
  | 58 => ⟨S3x288x40x40, .f32⟩
  | 59 => ⟨S3x288x40x40, .f32⟩
  | 60 => ⟨S3x288x1x40x40, .f32⟩
  | 61 => ⟨S3x288x1x40x40, .f32⟩
  | 62 => ⟨S3x288x1x40x40, .f32⟩
  | 63 => ⟨S3x288x1x40x40, .f32⟩
  | 64 => ⟨S3x288x1x40x40, .f32⟩
  | 65 => ⟨S3x288x1x40x40, .f32⟩
  | 66 => ⟨S3x288x1x40x40, .f32⟩
  | 67 => ⟨S3x288x7x40x40, .f32⟩
  | 68 => ⟨S3x288x40x40, .f32⟩
  | 69 => ⟨S3x288x40x40, .f32⟩
  | 70 => ⟨S3x288x40x40, .f32⟩
  | 71 => ⟨S3x288x40x40, .f32⟩
  | 72 => ⟨S3x288x40x40, .f32⟩
  | 73 => ⟨S3x288x40x40, .f32⟩
  | 74 => ⟨S3x288x40x40, .f32⟩
  | 75 => ⟨S3x288x1x40x40, .f32⟩
  | 76 => ⟨S3x288x1x40x40, .f32⟩
  | 77 => ⟨S3x288x1x40x40, .f32⟩
  | 78 => ⟨S3x288x1x40x40, .f32⟩
  | 79 => ⟨S3x288x1x40x40, .f32⟩
  | 80 => ⟨S3x288x1x40x40, .f32⟩
  | 81 => ⟨S3x288x1x40x40, .f32⟩
  | 82 => ⟨S3x288x7x40x40, .f32⟩
  | 83 => ⟨S3x288x40x40, .f32⟩
  | 84 => ⟨S3x288x40x40, .f32⟩
  | 85 => ⟨S3x288x40x40, .f32⟩
  | 86 => ⟨S3x288x40x40, .f32⟩
  | 87 => ⟨S3x288x40x40, .f32⟩
  | 88 => ⟨S3x288x40x40, .f32⟩
  | 89 => ⟨S3x288x40x40, .f32⟩
  | 90 => ⟨S3x288x1x40x40, .f32⟩
  | 91 => ⟨S3x288x1x40x40, .f32⟩
  | 92 => ⟨S3x288x1x40x40, .f32⟩
  | 93 => ⟨S3x288x1x40x40, .f32⟩
  | 94 => ⟨S3x288x1x40x40, .f32⟩
  | 95 => ⟨S3x288x1x40x40, .f32⟩
  | 96 => ⟨S3x288x1x40x40, .f32⟩
  | 97 => ⟨S3x288x7x40x40, .f32⟩
  | 98 => ⟨S3x288x40x40, .f32⟩
  | 99 => ⟨S3x288x40x40, .f32⟩
  | 100 => ⟨S3x288x40x40, .f32⟩
  | 101 => ⟨S3x288x40x40, .f32⟩
  | 102 => ⟨S3x288x40x40, .f32⟩
  | 103 => ⟨S3x288x40x40, .f32⟩
  | 104 => ⟨S3x288x40x40, .f32⟩
  | 105 => ⟨S3x288x1x40x40, .f32⟩
  | 106 => ⟨S3x288x1x40x40, .f32⟩
  | 107 => ⟨S3x288x1x40x40, .f32⟩
  | 108 => ⟨S3x288x1x40x40, .f32⟩
  | 109 => ⟨S3x288x1x40x40, .f32⟩
  | 110 => ⟨S3x288x1x40x40, .f32⟩
  | 111 => ⟨S3x288x1x40x40, .f32⟩
  | 112 => ⟨S3x288x7x40x40, .f32⟩
  | 113 => ⟨S3x288x40x40, .f32⟩
  | 114 => ⟨S3x288x40x40, .f32⟩
  | 115 => ⟨S3x288x40x40, .f32⟩
  | 116 => ⟨S3x288x40x40, .f32⟩
  | 117 => ⟨S3x288x40x40, .f32⟩
  | 118 => ⟨S3x288x40x40, .f32⟩
  | 119 => ⟨S3x288x40x40, .f32⟩
  | 120 => ⟨S3x288x1x40x40, .f32⟩
  | 121 => ⟨S3x288x1x40x40, .f32⟩
  | 122 => ⟨S3x288x1x40x40, .f32⟩
  | 123 => ⟨S3x288x1x40x40, .f32⟩
  | 124 => ⟨S3x288x1x40x40, .f32⟩
  | 125 => ⟨S3x288x1x40x40, .f32⟩
  | 126 => ⟨S3x288x1x40x40, .f32⟩
  | 127 => ⟨S3x288x7x40x40, .f32⟩
  | _ => ⟨S1x32x3x40x40, .f32⟩

abbrev hbmTy0_5 (i : Nat) : BufTy := match i % 128 with
  | 0 => ⟨S3x288x40x40, .f32⟩
  | 1 => ⟨S3x288x40x40, .f32⟩
  | 2 => ⟨S3x288x40x40, .f32⟩
  | 3 => ⟨S3x288x40x40, .f32⟩
  | 4 => ⟨S3x288x40x40, .f32⟩
  | 5 => ⟨S3x288x40x40, .f32⟩
  | 6 => ⟨S3x288x40x40, .f32⟩
  | 7 => ⟨S3x288x1x40x40, .f32⟩
  | 8 => ⟨S3x288x1x40x40, .f32⟩
  | 9 => ⟨S3x288x1x40x40, .f32⟩
  | 10 => ⟨S3x288x1x40x40, .f32⟩
  | 11 => ⟨S3x288x1x40x40, .f32⟩
  | 12 => ⟨S3x288x1x40x40, .f32⟩
  | 13 => ⟨S3x288x1x40x40, .f32⟩
  | 14 => ⟨S3x288x7x40x40, .f32⟩
  | 15 => ⟨S3x288x1x7x40x40, .f32⟩
  | 16 => ⟨S3x288x1x7x40x40, .f32⟩
  | 17 => ⟨S3x288x1x7x40x40, .f32⟩
  | 18 => ⟨S3x288x1x7x40x40, .f32⟩
  | 19 => ⟨S3x288x1x7x40x40, .f32⟩
  | 20 => ⟨S3x288x1x7x40x40, .f32⟩
  | 21 => ⟨S3x288x1x7x40x40, .f32⟩
  | 22 => ⟨S3x288x7x7x40x40, .f32⟩
  | 23 => ⟨S3x14112x40x40, .f32⟩
  | 24 => ⟨S3x288x49x40x40, .f32⟩
  | 25 => ⟨S3x288x40x40x49, .f32⟩
  | 26 => ⟨S3x288x40x40x1, .f32⟩
  | 27 => ⟨S3x288x40x40x1, .f32⟩
  | 28 => ⟨S_, .f32⟩
  | 29 => ⟨S3x40x40x1, .f32⟩
  | 30 => ⟨S3x1x40x40x1, .f32⟩
  | 31 => ⟨S3x1x40x40x1, .f32⟩
  | 32 => ⟨S_, .f32⟩
  | 33 => ⟨S3x1x40x40x1, .f32⟩
  | 34 => ⟨S3x1x40x40x1, .f32⟩
  | 35 => ⟨S3x288x40x40x1, .f32⟩
  | 36 => ⟨S3x288x40x40x1, .f32⟩
  | 37 => ⟨S3x288x40x40x49, .f32⟩
  | 38 => ⟨S_, .f32⟩
  | 39 => ⟨S3x40x40x49, .f32⟩
  | 40 => ⟨S3x1x40x40x49, .f32⟩
  | 41 => ⟨S3x1x40x40x49, .f32⟩
  | 42 => ⟨S_, .f32⟩
  | 43 => ⟨S3x1x40x40x49, .f32⟩
  | 44 => ⟨S3x1x40x40x49, .f32⟩
  | 45 => ⟨S3x288x40x40x49, .f32⟩
  | 46 => ⟨S3x288x40x40x49, .f32⟩
  | 47 => ⟨S3x288x40x40x49, .f32⟩
  | 48 => ⟨S3x288x40x40x49, .f32⟩
  | 49 => ⟨S_, .f32⟩
  | 50 => ⟨S3x40x40x49, .f32⟩
  | 51 => ⟨S3x1x40x40x49, .f32⟩
  | 52 => ⟨S3x1x40x40x4, .f32⟩
  | 53 => ⟨S3x1x40x40x4, .i32⟩
  | 54 => ⟨S3x288x40x40x4, .i32⟩
  | 55 => ⟨S_, .i32⟩
  | 56 => ⟨S3x288x40x40x4, .i32⟩
  | 57 => ⟨S3x288x40x40x4, .i1⟩
  | 58 => ⟨S_, .i32⟩
  | 59 => ⟨S3x288x40x40x4, .i32⟩
  | 60 => ⟨S3x288x40x40x4, .i32⟩
  | 61 => ⟨S3x288x40x40x4, .i32⟩
  | 62 => ⟨S3x288x40x40x4x1, .i32⟩
  | 63 => ⟨S3x288x40x40x4, .f32⟩
  | 64 => ⟨S3x288x40x40, .f32⟩
  | 65 => ⟨S_, .f32⟩
  | 66 => ⟨S3x288x40x40, .f32⟩
  | 67 => ⟨S3x288x40x40, .f32⟩
  | 68 => ⟨S3x32x9x40x40, .f32⟩
  | 69 => ⟨S3x64x40x40, .f32⟩
  | 70 => ⟨S3x40x40x288, .f32⟩
  | 71 => ⟨S3x288x40x40, .f32⟩
  | 72 => ⟨S1x288x1x1, .f32⟩
  | 73 => ⟨S3x288x40x40, .f32⟩
  | 74 => ⟨S3x288x40x40, .f32⟩
  | 75 => ⟨S3x32x9x40x40, .f32⟩
  | 76 => ⟨S3x32x9x40x40, .f32⟩
  | 77 => ⟨S_, .f32⟩
  | 78 => ⟨S3x32x40x40, .f32⟩
  | 79 => ⟨S1x96x40x40, .f32⟩
  | 80 => ⟨S1x40x40x128, .f32⟩
  | 81 => ⟨S1x128x40x40, .f32⟩
  | 82 => ⟨S1x128x1x1, .f32⟩
  | 83 => ⟨S1x128x40x40, .f32⟩
  | 84 => ⟨S1x128x40x40, .f32⟩
  | 85 => ⟨S1x32x2x2x40x40, .f32⟩
  | 86 => ⟨S1x32x40x2x40x2, .f32⟩
  | 87 => ⟨S1x32x80x80, .f32⟩
  | _ => ⟨S1x32x3x40x40, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x32x3x40x40, .f32⟩

abbrev bufTy : (tb : Table) → Fin (tcTables nBuf tb) → BufTy
  | .hbm, ⟨i, _⟩ => hbmTy i
  | _, _ => ⟨S1x32x3x40x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_call0_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_0 : Ref sig .tc := ⟨.hbm, 64, rfl⟩
abbrev main_call1_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_1 : Ref sig .tc := ⟨.hbm, 93, rfl⟩
abbrev main_call2_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_call3_v0 : Ref sig .tc := ⟨.hbm, 125, rfl⟩
abbrev main_call3_cst : Ref sig .tc := ⟨.hbm, 126, rfl⟩
abbrev main_call3_v1 : Ref sig .tc := ⟨.hbm, 127, rfl⟩
abbrev main_call3_v2 : Ref sig .tc := ⟨.hbm, 128, rfl⟩
abbrev main_v102 : Ref sig .tc := ⟨.hbm, 129, rfl⟩
abbrev main_cst : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_call4_v0 : Ref sig .tc := ⟨.hbm, 135, rfl⟩
abbrev main_call4_cst : Ref sig .tc := ⟨.hbm, 136, rfl⟩
abbrev main_call4_v1 : Ref sig .tc := ⟨.hbm, 137, rfl⟩
abbrev main_call4_v2 : Ref sig .tc := ⟨.hbm, 138, rfl⟩
abbrev main_v107 : Ref sig .tc := ⟨.hbm, 139, rfl⟩
abbrev main_cst_2 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_3 : Ref sig .tc := ⟨.hbm, 147, rfl⟩
abbrev main_v114 : Ref sig .tc := ⟨.hbm, 148, rfl⟩
abbrev main_v115 : Ref sig .tc := ⟨.hbm, 149, rfl⟩
abbrev main_values : Ref sig .tc := ⟨.hbm, 150, rfl⟩
abbrev main_indices : Ref sig .tc := ⟨.hbm, 151, rfl⟩
abbrev main_v116 : Ref sig .tc := ⟨.hbm, 152, rfl⟩
abbrev main_call5_c : Ref sig .tc := ⟨.hbm, 153, rfl⟩
abbrev main_call5_v0 : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_4 : Ref sig .tc := ⟨.hbm, 175, rfl⟩
abbrev main_v131 : Ref sig .tc := ⟨.hbm, 176, rfl⟩
abbrev main_v132 : Ref sig .tc := ⟨.hbm, 177, rfl⟩
abbrev main_cst_5 : Ref sig .tc := ⟨.hbm, 178, rfl⟩
abbrev main_v133 : Ref sig .tc := ⟨.hbm, 179, rfl⟩
abbrev main_v134 : Ref sig .tc := ⟨.hbm, 180, rfl⟩
abbrev main_cst_6 : Ref sig .tc := ⟨.hbm, 181, rfl⟩
abbrev main_v135 : Ref sig .tc := ⟨.hbm, 182, rfl⟩
abbrev main_v136 : Ref sig .tc := ⟨.hbm, 183, rfl⟩
abbrev main_cst_7 : Ref sig .tc := ⟨.hbm, 184, rfl⟩
abbrev main_v137 : Ref sig .tc := ⟨.hbm, 185, rfl⟩
abbrev main_v138 : Ref sig .tc := ⟨.hbm, 186, rfl⟩
abbrev main_cst_8 : Ref sig .tc := ⟨.hbm, 187, rfl⟩
abbrev main_cst_9 : Ref sig .tc := ⟨.hbm, 188, rfl⟩
abbrev main_call6_v0 : Ref sig .tc := ⟨.hbm, 189, rfl⟩
abbrev main_call6_v1 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_10 : Ref sig .tc := ⟨.hbm, 202, rfl⟩
abbrev main_v147 : Ref sig .tc := ⟨.hbm, 203, rfl⟩
abbrev main_v148 : Ref sig .tc := ⟨.hbm, 204, rfl⟩
abbrev main_cst_11 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_12 : Ref sig .tc := ⟨.hbm, 211, rfl⟩
abbrev main_v154 : Ref sig .tc := ⟨.hbm, 212, rfl⟩
abbrev main_v155 : Ref sig .tc := ⟨.hbm, 213, rfl⟩
abbrev main_cst_13 : Ref sig .tc := ⟨.hbm, 214, rfl⟩
abbrev main_v156 : Ref sig .tc := ⟨.hbm, 215, rfl⟩
abbrev main_v157 : Ref sig .tc := ⟨.hbm, 216, rfl⟩
abbrev main_cst_14 : Ref sig .tc := ⟨.hbm, 217, rfl⟩
abbrev main_v158 : Ref sig .tc := ⟨.hbm, 218, rfl⟩
abbrev main_v159 : Ref sig .tc := ⟨.hbm, 219, rfl⟩
abbrev main_cst_15 : Ref sig .tc := ⟨.hbm, 220, rfl⟩
abbrev main_cst_16 : Ref sig .tc := ⟨.hbm, 221, rfl⟩
abbrev main_call7_v0 : Ref sig .tc := ⟨.hbm, 222, rfl⟩
abbrev main_call7_v1 : Ref sig .tc := ⟨.hbm, 223, rfl⟩
abbrev main_call7_v2 : Ref sig .tc := ⟨.hbm, 224, rfl⟩
abbrev main_call7_v3 : Ref sig .tc := ⟨.hbm, 225, rfl⟩
abbrev main_call7_v4 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_17 : Ref sig .tc := ⟨.hbm, 235, rfl⟩
abbrev main_v168 : Ref sig .tc := ⟨.hbm, 236, rfl⟩
abbrev main_v169 : Ref sig .tc := ⟨.hbm, 237, rfl⟩
abbrev main_cst_18 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_c_19 : Ref sig .tc := ⟨.hbm, 244, rfl⟩
abbrev main_call8_v0 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_c_20 : Ref sig .tc := ⟨.hbm, 273, rfl⟩
abbrev main_call9_v0 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_c_21 : Ref sig .tc := ⟨.hbm, 302, rfl⟩
abbrev main_call10_v0 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_call11_v0 : Ref sig .tc := ⟨.hbm, 370, rfl⟩
abbrev main_call11_cst : Ref sig .tc := ⟨.hbm, 371, rfl⟩
abbrev main_call11_v1 : Ref sig .tc := ⟨.hbm, 372, rfl⟩
abbrev main_call11_v2 : Ref sig .tc := ⟨.hbm, 373, rfl⟩
abbrev main_v295 : Ref sig .tc := ⟨.hbm, 374, rfl⟩
abbrev main_cst_22 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_call12_v0 : Ref sig .tc := ⟨.hbm, 380, rfl⟩
abbrev main_call12_cst : Ref sig .tc := ⟨.hbm, 381, rfl⟩
abbrev main_call12_v1 : Ref sig .tc := ⟨.hbm, 382, rfl⟩
abbrev main_call12_v2 : Ref sig .tc := ⟨.hbm, 383, rfl⟩
abbrev main_v300 : Ref sig .tc := ⟨.hbm, 384, rfl⟩
abbrev main_cst_23 : Ref sig .tc := ⟨.hbm, 385, rfl⟩
abbrev main_v301 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_cst_24 : Ref sig .tc := ⟨.hbm, 392, rfl⟩
abbrev main_v307 : Ref sig .tc := ⟨.hbm, 393, rfl⟩
abbrev main_v308 : Ref sig .tc := ⟨.hbm, 394, rfl⟩
abbrev main_values_25 : Ref sig .tc := ⟨.hbm, 395, rfl⟩
abbrev main_indices_26 : Ref sig .tc := ⟨.hbm, 396, rfl⟩
abbrev main_v309 : Ref sig .tc := ⟨.hbm, 397, rfl⟩
abbrev main_call13_c : Ref sig .tc := ⟨.hbm, 398, rfl⟩
abbrev main_call13_v0 : Ref sig .tc := ⟨.hbm, 399, rfl⟩
abbrev main_call13_v1 : Ref sig .tc := ⟨.hbm, 400, rfl⟩
abbrev main_call13_c_0 : Ref sig .tc := ⟨.hbm, 401, rfl⟩
abbrev main_call13_v2 : Ref sig .tc := ⟨.hbm, 402, rfl⟩
abbrev main_call13_v3 : Ref sig .tc := ⟨.hbm, 403, rfl⟩
abbrev main_call13_v4 : Ref sig .tc := ⟨.hbm, 404, rfl⟩
abbrev main_call13_v5 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_cst_27 : Ref sig .tc := ⟨.hbm, 420, rfl⟩
abbrev main_v324 : Ref sig .tc := ⟨.hbm, 421, rfl⟩
abbrev main_v325 : Ref sig .tc := ⟨.hbm, 422, rfl⟩
abbrev main_cst_28 : Ref sig .tc := ⟨.hbm, 423, rfl⟩
abbrev main_v326 : Ref sig .tc := ⟨.hbm, 424, rfl⟩
abbrev main_v327 : Ref sig .tc := ⟨.hbm, 425, rfl⟩
abbrev main_cst_29 : Ref sig .tc := ⟨.hbm, 426, rfl⟩
abbrev main_v328 : Ref sig .tc := ⟨.hbm, 427, rfl⟩
abbrev main_v329 : Ref sig .tc := ⟨.hbm, 428, rfl⟩
abbrev main_cst_30 : Ref sig .tc := ⟨.hbm, 429, rfl⟩
abbrev main_v330 : Ref sig .tc := ⟨.hbm, 430, rfl⟩
abbrev main_v331 : Ref sig .tc := ⟨.hbm, 431, rfl⟩
abbrev main_cst_31 : Ref sig .tc := ⟨.hbm, 432, rfl⟩
abbrev main_cst_32 : Ref sig .tc := ⟨.hbm, 433, rfl⟩
abbrev main_call14_v0 : Ref sig .tc := ⟨.hbm, 434, rfl⟩
abbrev main_call14_v1 : Ref sig .tc := ⟨.hbm, 435, rfl⟩
abbrev main_call14_v2 : Ref sig .tc := ⟨.hbm, 436, rfl⟩
abbrev main_call14_v3 : Ref sig .tc := ⟨.hbm, 437, rfl⟩
abbrev main_call14_v4 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_33 : Ref sig .tc := ⟨.hbm, 447, rfl⟩
abbrev main_v340 : Ref sig .tc := ⟨.hbm, 448, rfl⟩
abbrev main_v341 : Ref sig .tc := ⟨.hbm, 449, rfl⟩
abbrev main_cst_34 : Ref sig .tc := ⟨.hbm, 450, rfl⟩
abbrev main_v342 : Ref sig .tc := ⟨.hbm, 451, rfl⟩
abbrev main_v343 : Ref sig .tc := ⟨.hbm, 452, rfl⟩
abbrev main_v344 : Ref sig .tc := ⟨.hbm, 453, rfl⟩
abbrev main_v345 : Ref sig .tc := ⟨.hbm, 454, rfl⟩
abbrev main_v346 : Ref sig .tc := ⟨.hbm, 455, rfl⟩
abbrev main_cst_35 : Ref sig .tc := ⟨.hbm, 456, rfl⟩
abbrev main_v347 : Ref sig .tc := ⟨.hbm, 457, rfl⟩
abbrev main_v348 : Ref sig .tc := ⟨.hbm, 458, rfl⟩
abbrev main_cst_36 : Ref sig .tc := ⟨.hbm, 459, rfl⟩
abbrev main_v349 : Ref sig .tc := ⟨.hbm, 460, rfl⟩
abbrev main_v350 : Ref sig .tc := ⟨.hbm, 461, rfl⟩
abbrev main_cst_37 : Ref sig .tc := ⟨.hbm, 462, rfl⟩
abbrev main_v351 : Ref sig .tc := ⟨.hbm, 463, rfl⟩
abbrev main_v352 : Ref sig .tc := ⟨.hbm, 464, rfl⟩
abbrev main_cst_38 : Ref sig .tc := ⟨.hbm, 465, rfl⟩
abbrev main_cst_39 : Ref sig .tc := ⟨.hbm, 466, rfl⟩
abbrev main_call15_v0 : Ref sig .tc := ⟨.hbm, 467, rfl⟩
abbrev main_call15_v1 : Ref sig .tc := ⟨.hbm, 468, rfl⟩
abbrev main_call15_v2 : Ref sig .tc := ⟨.hbm, 469, rfl⟩
abbrev main_call15_v3 : Ref sig .tc := ⟨.hbm, 470, rfl⟩
abbrev main_call15_v4 : Ref sig .tc := ⟨.hbm, 471, rfl⟩
abbrev main_v353 : Ref sig .tc := ⟨.hbm, 472, rfl⟩
abbrev main_v354 : Ref sig .tc := ⟨.hbm, 473, rfl⟩
abbrev main_v355 : Ref sig .tc := ⟨.hbm, 474, rfl⟩
abbrev main_v356 : Ref sig .tc := ⟨.hbm, 475, rfl⟩
abbrev main_v357 : Ref sig .tc := ⟨.hbm, 476, rfl⟩
abbrev main_v358 : Ref sig .tc := ⟨.hbm, 477, rfl⟩
abbrev main_v359 : Ref sig .tc := ⟨.hbm, 478, rfl⟩
abbrev main_v360 : Ref sig .tc := ⟨.hbm, 479, rfl⟩
abbrev main_cst_40 : Ref sig .tc := ⟨.hbm, 480, rfl⟩
abbrev main_v361 : Ref sig .tc := ⟨.hbm, 481, rfl⟩
abbrev main_v362 : Ref sig .tc := ⟨.hbm, 482, rfl⟩
abbrev main_cst_41 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_c_42 : Ref sig .tc := ⟨.hbm, 489, rfl⟩
abbrev main_call16_v0 : Ref sig .tc := ⟨.hbm, 490, rfl⟩
abbrev main_v368 : Ref sig .tc := ⟨.hbm, 491, rfl⟩
abbrev main_v369 : Ref sig .tc := ⟨.hbm, 492, rfl⟩
abbrev main_v370 : Ref sig .tc := ⟨.hbm, 493, rfl⟩
abbrev main_v371 : Ref sig .tc := ⟨.hbm, 494, rfl⟩
abbrev main_v372 : Ref sig .tc := ⟨.hbm, 495, rfl⟩
abbrev main_v373 : Ref sig .tc := ⟨.hbm, 496, rfl⟩
abbrev main_v374 : Ref sig .tc := ⟨.hbm, 497, rfl⟩
abbrev main_v375 : Ref sig .tc := ⟨.hbm, 498, rfl⟩
abbrev main_v376 : Ref sig .tc := ⟨.hbm, 499, rfl⟩
abbrev main_v377 : Ref sig .tc := ⟨.hbm, 500, rfl⟩
abbrev main_v378 : Ref sig .tc := ⟨.hbm, 501, rfl⟩
abbrev main_v379 : Ref sig .tc := ⟨.hbm, 502, rfl⟩
abbrev main_v380 : Ref sig .tc := ⟨.hbm, 503, rfl⟩
abbrev main_v381 : Ref sig .tc := ⟨.hbm, 504, rfl⟩
abbrev main_v382 : Ref sig .tc := ⟨.hbm, 505, rfl⟩
abbrev main_v383 : Ref sig .tc := ⟨.hbm, 506, rfl⟩
abbrev main_v384 : Ref sig .tc := ⟨.hbm, 507, rfl⟩
abbrev main_v385 : Ref sig .tc := ⟨.hbm, 508, rfl⟩
abbrev main_v386 : Ref sig .tc := ⟨.hbm, 509, rfl⟩
abbrev main_v387 : Ref sig .tc := ⟨.hbm, 510, rfl⟩
abbrev main_v388 : Ref sig .tc := ⟨.hbm, 511, rfl⟩
abbrev main_v389 : Ref sig .tc := ⟨.hbm, 512, rfl⟩
abbrev main_v390 : Ref sig .tc := ⟨.hbm, 513, rfl⟩
abbrev main_v391 : Ref sig .tc := ⟨.hbm, 514, rfl⟩
abbrev main_v392 : Ref sig .tc := ⟨.hbm, 515, rfl⟩
abbrev main_v393 : Ref sig .tc := ⟨.hbm, 516, rfl⟩
abbrev main_v394 : Ref sig .tc := ⟨.hbm, 517, rfl⟩
abbrev main_c_43 : Ref sig .tc := ⟨.hbm, 518, rfl⟩
abbrev main_call17_v0 : Ref sig .tc := ⟨.hbm, 519, rfl⟩
abbrev main_v395 : Ref sig .tc := ⟨.hbm, 520, rfl⟩
abbrev main_v396 : Ref sig .tc := ⟨.hbm, 521, rfl⟩
abbrev main_v397 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_v406 : Ref sig .tc := ⟨.hbm, 531, rfl⟩
abbrev main_v407 : Ref sig .tc := ⟨.hbm, 532, rfl⟩
abbrev main_v408 : Ref sig .tc := ⟨.hbm, 533, rfl⟩
abbrev main_v409 : Ref sig .tc := ⟨.hbm, 534, rfl⟩
abbrev main_v410 : Ref sig .tc := ⟨.hbm, 535, rfl⟩
abbrev main_v411 : Ref sig .tc := ⟨.hbm, 536, rfl⟩
abbrev main_v412 : Ref sig .tc := ⟨.hbm, 537, rfl⟩
abbrev main_v413 : Ref sig .tc := ⟨.hbm, 538, rfl⟩
abbrev main_v414 : Ref sig .tc := ⟨.hbm, 539, rfl⟩
abbrev main_v415 : Ref sig .tc := ⟨.hbm, 540, rfl⟩
abbrev main_v416 : Ref sig .tc := ⟨.hbm, 541, rfl⟩
abbrev main_v417 : Ref sig .tc := ⟨.hbm, 542, rfl⟩
abbrev main_v418 : Ref sig .tc := ⟨.hbm, 543, rfl⟩
abbrev main_v419 : Ref sig .tc := ⟨.hbm, 544, rfl⟩
abbrev main_v420 : Ref sig .tc := ⟨.hbm, 545, rfl⟩
abbrev main_v421 : Ref sig .tc := ⟨.hbm, 546, rfl⟩
abbrev main_c_44 : Ref sig .tc := ⟨.hbm, 547, rfl⟩
abbrev main_call18_v0 : Ref sig .tc := ⟨.hbm, 548, rfl⟩
abbrev main_v422 : Ref sig .tc := ⟨.hbm, 549, rfl⟩
abbrev main_v423 : Ref sig .tc := ⟨.hbm, 550, rfl⟩
abbrev main_v424 : Ref sig .tc := ⟨.hbm, 551, rfl⟩
abbrev main_v425 : Ref sig .tc := ⟨.hbm, 552, rfl⟩
abbrev main_v426 : Ref sig .tc := ⟨.hbm, 553, rfl⟩
abbrev main_v427 : Ref sig .tc := ⟨.hbm, 554, rfl⟩
abbrev main_v428 : Ref sig .tc := ⟨.hbm, 555, rfl⟩
abbrev main_v429 : Ref sig .tc := ⟨.hbm, 556, rfl⟩
abbrev main_v430 : Ref sig .tc := ⟨.hbm, 557, rfl⟩
abbrev main_v431 : Ref sig .tc := ⟨.hbm, 558, rfl⟩
abbrev main_v432 : Ref sig .tc := ⟨.hbm, 559, rfl⟩
abbrev main_v433 : Ref sig .tc := ⟨.hbm, 560, rfl⟩
abbrev main_v434 : Ref sig .tc := ⟨.hbm, 561, rfl⟩
abbrev main_v435 : Ref sig .tc := ⟨.hbm, 562, rfl⟩
abbrev main_v436 : Ref sig .tc := ⟨.hbm, 563, rfl⟩
abbrev main_v437 : Ref sig .tc := ⟨.hbm, 564, rfl⟩
abbrev main_v438 : Ref sig .tc := ⟨.hbm, 565, rfl⟩
abbrev main_v439 : Ref sig .tc := ⟨.hbm, 566, rfl⟩
abbrev main_v440 : Ref sig .tc := ⟨.hbm, 567, rfl⟩
abbrev main_v441 : Ref sig .tc := ⟨.hbm, 568, rfl⟩
abbrev main_v442 : Ref sig .tc := ⟨.hbm, 569, rfl⟩
abbrev main_v443 : Ref sig .tc := ⟨.hbm, 570, rfl⟩
abbrev main_v444 : Ref sig .tc := ⟨.hbm, 571, rfl⟩
abbrev main_v445 : Ref sig .tc := ⟨.hbm, 572, rfl⟩
abbrev main_v446 : Ref sig .tc := ⟨.hbm, 573, rfl⟩
abbrev main_v447 : Ref sig .tc := ⟨.hbm, 574, rfl⟩
abbrev main_v448 : Ref sig .tc := ⟨.hbm, 575, rfl⟩
abbrev main_v449 : Ref sig .tc := ⟨.hbm, 576, rfl⟩
abbrev main_v450 : Ref sig .tc := ⟨.hbm, 577, rfl⟩
abbrev main_v451 : Ref sig .tc := ⟨.hbm, 578, rfl⟩
abbrev main_v452 : Ref sig .tc := ⟨.hbm, 579, rfl⟩
abbrev main_v453 : Ref sig .tc := ⟨.hbm, 580, rfl⟩
abbrev main_v454 : Ref sig .tc := ⟨.hbm, 581, rfl⟩
abbrev main_v455 : Ref sig .tc := ⟨.hbm, 582, rfl⟩
abbrev main_v456 : Ref sig .tc := ⟨.hbm, 583, rfl⟩
abbrev main_v457 : Ref sig .tc := ⟨.hbm, 584, rfl⟩
abbrev main_v458 : Ref sig .tc := ⟨.hbm, 585, rfl⟩
abbrev main_v459 : Ref sig .tc := ⟨.hbm, 586, rfl⟩
abbrev main_v460 : Ref sig .tc := ⟨.hbm, 587, rfl⟩
abbrev main_v461 : Ref sig .tc := ⟨.hbm, 588, rfl⟩
abbrev main_v462 : Ref sig .tc := ⟨.hbm, 589, rfl⟩
abbrev main_v463 : Ref sig .tc := ⟨.hbm, 590, rfl⟩
abbrev main_v464 : Ref sig .tc := ⟨.hbm, 591, rfl⟩
abbrev main_v465 : Ref sig .tc := ⟨.hbm, 592, rfl⟩
abbrev main_v466 : Ref sig .tc := ⟨.hbm, 593, rfl⟩
abbrev main_v467 : Ref sig .tc := ⟨.hbm, 594, rfl⟩
abbrev main_v468 : Ref sig .tc := ⟨.hbm, 595, rfl⟩
abbrev main_v469 : Ref sig .tc := ⟨.hbm, 596, rfl⟩
abbrev main_v470 : Ref sig .tc := ⟨.hbm, 597, rfl⟩
abbrev main_v471 : Ref sig .tc := ⟨.hbm, 598, rfl⟩
abbrev main_v472 : Ref sig .tc := ⟨.hbm, 599, rfl⟩
abbrev main_v473 : Ref sig .tc := ⟨.hbm, 600, rfl⟩
abbrev main_v474 : Ref sig .tc := ⟨.hbm, 601, rfl⟩
abbrev main_v475 : Ref sig .tc := ⟨.hbm, 602, rfl⟩
abbrev main_v476 : Ref sig .tc := ⟨.hbm, 603, rfl⟩
abbrev main_v477 : Ref sig .tc := ⟨.hbm, 604, rfl⟩
abbrev main_v478 : Ref sig .tc := ⟨.hbm, 605, rfl⟩
abbrev main_v479 : Ref sig .tc := ⟨.hbm, 606, rfl⟩
abbrev main_v480 : Ref sig .tc := ⟨.hbm, 607, rfl⟩
abbrev main_v481 : Ref sig .tc := ⟨.hbm, 608, rfl⟩
abbrev main_v482 : Ref sig .tc := ⟨.hbm, 609, rfl⟩
abbrev main_v483 : Ref sig .tc := ⟨.hbm, 610, rfl⟩
abbrev main_v484 : Ref sig .tc := ⟨.hbm, 611, rfl⟩
abbrev main_v485 : Ref sig .tc := ⟨.hbm, 612, rfl⟩
abbrev main_v486 : Ref sig .tc := ⟨.hbm, 613, rfl⟩
abbrev main_v487 : Ref sig .tc := ⟨.hbm, 614, rfl⟩
abbrev main_v488 : Ref sig .tc := ⟨.hbm, 615, rfl⟩
abbrev main_v489 : Ref sig .tc := ⟨.hbm, 616, rfl⟩
abbrev main_v490 : Ref sig .tc := ⟨.hbm, 617, rfl⟩
abbrev main_v491 : Ref sig .tc := ⟨.hbm, 618, rfl⟩
abbrev main_v492 : Ref sig .tc := ⟨.hbm, 619, rfl⟩
abbrev main_v493 : Ref sig .tc := ⟨.hbm, 620, rfl⟩
abbrev main_v494 : Ref sig .tc := ⟨.hbm, 621, rfl⟩
abbrev main_v495 : Ref sig .tc := ⟨.hbm, 622, rfl⟩
abbrev main_v496 : Ref sig .tc := ⟨.hbm, 623, rfl⟩
abbrev main_v497 : Ref sig .tc := ⟨.hbm, 624, rfl⟩
abbrev main_v498 : Ref sig .tc := ⟨.hbm, 625, rfl⟩
abbrev main_v499 : Ref sig .tc := ⟨.hbm, 626, rfl⟩
abbrev main_v500 : Ref sig .tc := ⟨.hbm, 627, rfl⟩
abbrev main_v501 : Ref sig .tc := ⟨.hbm, 628, rfl⟩
abbrev main_v502 : Ref sig .tc := ⟨.hbm, 629, rfl⟩
abbrev main_v503 : Ref sig .tc := ⟨.hbm, 630, rfl⟩
abbrev main_v504 : Ref sig .tc := ⟨.hbm, 631, rfl⟩
abbrev main_v505 : Ref sig .tc := ⟨.hbm, 632, rfl⟩
abbrev main_v506 : Ref sig .tc := ⟨.hbm, 633, rfl⟩
abbrev main_v507 : Ref sig .tc := ⟨.hbm, 634, rfl⟩
abbrev main_v508 : Ref sig .tc := ⟨.hbm, 635, rfl⟩
abbrev main_v509 : Ref sig .tc := ⟨.hbm, 636, rfl⟩
abbrev main_v510 : Ref sig .tc := ⟨.hbm, 637, rfl⟩
abbrev main_v511 : Ref sig .tc := ⟨.hbm, 638, rfl⟩
abbrev main_v512 : Ref sig .tc := ⟨.hbm, 639, rfl⟩
abbrev main_v513 : Ref sig .tc := ⟨.hbm, 640, rfl⟩
abbrev main_v514 : Ref sig .tc := ⟨.hbm, 641, rfl⟩
abbrev main_v515 : Ref sig .tc := ⟨.hbm, 642, rfl⟩
abbrev main_v516 : Ref sig .tc := ⟨.hbm, 643, rfl⟩
abbrev main_v517 : Ref sig .tc := ⟨.hbm, 644, rfl⟩
abbrev main_v518 : Ref sig .tc := ⟨.hbm, 645, rfl⟩
abbrev main_v519 : Ref sig .tc := ⟨.hbm, 646, rfl⟩
abbrev main_v520 : Ref sig .tc := ⟨.hbm, 647, rfl⟩
abbrev main_v521 : Ref sig .tc := ⟨.hbm, 648, rfl⟩
abbrev main_v522 : Ref sig .tc := ⟨.hbm, 649, rfl⟩
abbrev main_v523 : Ref sig .tc := ⟨.hbm, 650, rfl⟩
abbrev main_v524 : Ref sig .tc := ⟨.hbm, 651, rfl⟩
abbrev main_v525 : Ref sig .tc := ⟨.hbm, 652, rfl⟩
abbrev main_v526 : Ref sig .tc := ⟨.hbm, 653, rfl⟩
abbrev main_v527 : Ref sig .tc := ⟨.hbm, 654, rfl⟩
abbrev main_v528 : Ref sig .tc := ⟨.hbm, 655, rfl⟩
abbrev main_v529 : Ref sig .tc := ⟨.hbm, 656, rfl⟩
abbrev main_v530 : Ref sig .tc := ⟨.hbm, 657, rfl⟩
abbrev main_v531 : Ref sig .tc := ⟨.hbm, 658, rfl⟩
abbrev main_v532 : Ref sig .tc := ⟨.hbm, 659, rfl⟩
abbrev main_v533 : Ref sig .tc := ⟨.hbm, 660, rfl⟩
abbrev main_v534 : Ref sig .tc := ⟨.hbm, 661, rfl⟩
abbrev main_v535 : Ref sig .tc := ⟨.hbm, 662, rfl⟩
abbrev main_v536 : Ref sig .tc := ⟨.hbm, 663, rfl⟩
abbrev main_v537 : Ref sig .tc := ⟨.hbm, 664, rfl⟩
abbrev main_v538 : Ref sig .tc := ⟨.hbm, 665, rfl⟩
abbrev main_v539 : Ref sig .tc := ⟨.hbm, 666, rfl⟩
abbrev main_call19_v0 : Ref sig .tc := ⟨.hbm, 667, rfl⟩
abbrev main_call19_cst : Ref sig .tc := ⟨.hbm, 668, rfl⟩
abbrev main_call19_v1 : Ref sig .tc := ⟨.hbm, 669, rfl⟩
abbrev main_call19_v2 : Ref sig .tc := ⟨.hbm, 670, rfl⟩
abbrev main_v540 : Ref sig .tc := ⟨.hbm, 671, rfl⟩
abbrev main_cst_45 : Ref sig .tc := ⟨.hbm, 672, rfl⟩
abbrev main_v541 : Ref sig .tc := ⟨.hbm, 673, rfl⟩
abbrev main_v542 : Ref sig .tc := ⟨.hbm, 674, rfl⟩
abbrev main_v543 : Ref sig .tc := ⟨.hbm, 675, rfl⟩
abbrev main_v544 : Ref sig .tc := ⟨.hbm, 676, rfl⟩
abbrev main_call20_v0 : Ref sig .tc := ⟨.hbm, 677, rfl⟩
abbrev main_call20_cst : Ref sig .tc := ⟨.hbm, 678, rfl⟩
abbrev main_call20_v1 : Ref sig .tc := ⟨.hbm, 679, rfl⟩
abbrev main_call20_v2 : Ref sig .tc := ⟨.hbm, 680, rfl⟩
abbrev main_v545 : Ref sig .tc := ⟨.hbm, 681, rfl⟩
abbrev main_cst_46 : Ref sig .tc := ⟨.hbm, 682, rfl⟩
abbrev main_v546 : Ref sig .tc := ⟨.hbm, 683, rfl⟩
abbrev main_v547 : Ref sig .tc := ⟨.hbm, 684, rfl⟩
abbrev main_v548 : Ref sig .tc := ⟨.hbm, 685, rfl⟩
abbrev main_v549 : Ref sig .tc := ⟨.hbm, 686, rfl⟩
abbrev main_v550 : Ref sig .tc := ⟨.hbm, 687, rfl⟩
abbrev main_v551 : Ref sig .tc := ⟨.hbm, 688, rfl⟩
abbrev main_cst_47 : Ref sig .tc := ⟨.hbm, 689, rfl⟩
abbrev main_v552 : Ref sig .tc := ⟨.hbm, 690, rfl⟩
abbrev main_v553 : Ref sig .tc := ⟨.hbm, 691, rfl⟩
abbrev main_values_48 : Ref sig .tc := ⟨.hbm, 692, rfl⟩
abbrev main_indices_49 : Ref sig .tc := ⟨.hbm, 693, rfl⟩
abbrev main_v554 : Ref sig .tc := ⟨.hbm, 694, rfl⟩
abbrev main_call21_c : Ref sig .tc := ⟨.hbm, 695, rfl⟩
abbrev main_call21_v0 : Ref sig .tc := ⟨.hbm, 696, rfl⟩
abbrev main_call21_v1 : Ref sig .tc := ⟨.hbm, 697, rfl⟩
abbrev main_call21_c_0 : Ref sig .tc := ⟨.hbm, 698, rfl⟩
abbrev main_call21_v2 : Ref sig .tc := ⟨.hbm, 699, rfl⟩
abbrev main_call21_v3 : Ref sig .tc := ⟨.hbm, 700, rfl⟩
abbrev main_call21_v4 : Ref sig .tc := ⟨.hbm, 701, rfl⟩
abbrev main_call21_v5 : Ref sig .tc := ⟨.hbm, 702, rfl⟩
abbrev main_v555 : Ref sig .tc := ⟨.hbm, 703, rfl⟩
abbrev main_v556 : Ref sig .tc := ⟨.hbm, 704, rfl⟩
abbrev main_v557 : Ref sig .tc := ⟨.hbm, 705, rfl⟩
abbrev main_v558 : Ref sig .tc := ⟨.hbm, 706, rfl⟩
abbrev main_v559 : Ref sig .tc := ⟨.hbm, 707, rfl⟩
abbrev main_v560 : Ref sig .tc := ⟨.hbm, 708, rfl⟩
abbrev main_v561 : Ref sig .tc := ⟨.hbm, 709, rfl⟩
abbrev main_v562 : Ref sig .tc := ⟨.hbm, 710, rfl⟩
abbrev main_v563 : Ref sig .tc := ⟨.hbm, 711, rfl⟩
abbrev main_v564 : Ref sig .tc := ⟨.hbm, 712, rfl⟩
abbrev main_v565 : Ref sig .tc := ⟨.hbm, 713, rfl⟩
abbrev main_v566 : Ref sig .tc := ⟨.hbm, 714, rfl⟩
abbrev main_v567 : Ref sig .tc := ⟨.hbm, 715, rfl⟩
abbrev main_v568 : Ref sig .tc := ⟨.hbm, 716, rfl⟩
abbrev main_cst_50 : Ref sig .tc := ⟨.hbm, 717, rfl⟩
abbrev main_v569 : Ref sig .tc := ⟨.hbm, 718, rfl⟩
abbrev main_v570 : Ref sig .tc := ⟨.hbm, 719, rfl⟩
abbrev main_v571 : Ref sig .tc := ⟨.hbm, 720, rfl⟩
abbrev main_v572 : Ref sig .tc := ⟨.hbm, 721, rfl⟩
abbrev main_v573 : Ref sig .tc := ⟨.hbm, 722, rfl⟩
abbrev main_v574 : Ref sig .tc := ⟨.hbm, 723, rfl⟩
abbrev main_v575 : Ref sig .tc := ⟨.hbm, 724, rfl⟩
abbrev main_v576 : Ref sig .tc := ⟨.hbm, 725, rfl⟩
abbrev main_v577 : Ref sig .tc := ⟨.hbm, 726, rfl⟩
abbrev main_v578 : Ref sig .tc := ⟨.hbm, 727, rfl⟩

abbrev nD : Nat := 1
abbrev τ : Topo := Topo.v7x

variable {F : FTy → Type} [FloatOps F]
-- ==== Proof.UpSpec.lean ====
module

public import Idealize.ShloMosaic.PureOps.Ideal
public import Mathlib.Algebra.BigOperators.Fin
public import Mathlib.Tactic.Linarith

/-!
The doubling of an image along its axes: each new entry is a mean of two neighbours, three quarters of the nearer one
and one quarter of the other, the border's entry standing for what is outside. The reference multiplies by a matrix of
tent-shaped weights.
-/

@[expose] public section

noncomputable section

namespace Cert.Agg

open Idealize.ShloMosaic

/-- Entry `o` of a vector doubled. -/
def blend {n : Nat} (v : Fin n → EReal) (o : Fin (2 * n)) : EReal :=
  if o.val % 2 = 0 then ((1 / 4 : ℝ) : EReal) * v ⟨o.val / 2 - 1, by omega⟩ + ((3 / 4 : ℝ) : EReal) * v ⟨o.val / 2, by omega⟩
  else ((3 / 4 : ℝ) : EReal) * v ⟨o.val / 2, by omega⟩ + ((1 / 4 : ℝ) : EReal) * v ⟨min (o.val / 2 + 1) (n - 1), by omega⟩

/-- A pixel of an image doubled along its rows and then along its columns. -/
def upAt {h w : Nat} (A : Fin h → Fin w → EReal) (y : Fin (2 * h)) (x : Fin (2 * w)) : EReal :=
  blend (fun x' => blend (fun y' => A y' x') y) x

/-- The tent over the place `s`. -/
def tri (s : ℝ) (i : Nat) : ℝ := max (1 - |s - i|) 0

/-- The place in a vector of `n` entries that entry `o` of its double comes from. -/
def source (n o : Nat) : ℝ := min ((n : ℝ) - 1) (max 0 (((o : ℝ) + 1 / 2) * (1 / 2) - 1 / 2))

theorem tri_far {s : ℝ} {i : Nat} (h : (i : ℝ) + 1 ≤ s ∨ s + 1 ≤ i) : tri s i = 0 := by
  unfold tri
  refine max_eq_right ?_
  have : 1 ≤ |s - i| := by
    rw [le_abs]
    rcases h with h | h
    · left; linarith
    · right; linarith
  linarith

theorem tri_near {s d : ℝ} {i : Nat} (h : s - i = d ∨ i - s = d) (h0 : 0 ≤ d) (h1 : d ≤ 1) : tri s i = 1 - d := by
  have : |s - i| = d := by
    rcases h with h | h
    · rw [h, abs_of_nonneg h0]
    · rw [show s - i = -d by linarith, abs_neg, abs_of_nonneg h0]
  unfold tri
  rw [this]
  exact max_eq_left (by linarith)

theorem quarters (x : EReal) : ((1 / 4 : ℝ) : EReal) * x + ((3 / 4 : ℝ) : EReal) * x = x := by
  rw [← EReal.right_distrib_of_nonneg (by exact_mod_cast (by norm_num : (0 : ℝ) ≤ 1 / 4)) (by exact_mod_cast (by norm_num : (0 : ℝ) ≤ 3 / 4)),
    ← EReal.coe_add]
  norm_num

/-- The tent's mean at a whole place is the entry there. -/
theorem sum_whole {n : Nat} (v : Fin n → EReal) (s : ℝ) (k : Fin n) (hs : s = k.val) : ∑ i : Fin n, v i * ((tri s i.val : ℝ) : EReal) = v k := by
  rw [Finset.sum_eq_single k]
  · rw [tri_near (d := 0) (by left; rw [hs]; ring) le_rfl zero_le_one, sub_zero, EReal.coe_one, mul_one]
  · intro i _ hi
    have : i.val ≠ k.val := fun e => hi (Fin.ext e)
    rw [tri_far, EReal.coe_zero, mul_zero]
    rw [hs]
    rcases Nat.lt_or_gt_of_ne this with h | h
    · left; exact_mod_cast h
    · right; exact_mod_cast h
  · intro h; exact absurd (Finset.mem_univ _) h

/-- The tent's mean between two neighbouring entries. -/
theorem sum_between {n : Nat} (v : Fin n → EReal) (s d : ℝ) (k l : Fin n) (hkl : l.val = k.val + 1) (hs : s = k.val + d) (h0 : 0 ≤ d) (h1 : d ≤ 1) :
    ∑ i : Fin n, v i * ((tri s i.val : ℝ) : EReal) = ((1 - d : ℝ) : EReal) * v k + ((d : ℝ) : EReal) * v l := by
  have hl : (l.val : ℝ) = k.val + 1 := by exact_mod_cast hkl
  have hne : k ≠ l := fun e => by rw [e] at hkl; omega
  rw [Finset.sum_eq_add k l hne]
  · rw [tri_near (d := d) (by left; linarith) h0 h1, tri_near (d := 1 - d) (by right; linarith) (by linarith) (by linarith)]
    rw [mul_comm (v k), mul_comm (v l), show (1 - (1 - d) : ℝ) = d by ring]
  · intro i _ hi
    have h1' : i.val ≠ k.val := fun e => hi.1 (Fin.ext e)
    have h2' : i.val ≠ l.val := fun e => hi.2 (Fin.ext e)
    rw [tri_far, EReal.coe_zero, mul_zero]
    rcases Nat.lt_or_gt_of_ne h1' with h | h
    · left
      have : (i.val : ℝ) + 1 ≤ k.val := by exact_mod_cast h
      linarith
    · right
      have h3 : l.val + 1 ≤ i.val := by omega
      have : (l.val : ℝ) + 1 ≤ i.val := by exact_mod_cast h3
      linarith
  · intro h; exact absurd (Finset.mem_univ _) h
  · intro h; exact absurd (Finset.mem_univ _) h

/-- The mean by the tent's weights is the doubled vector's entry. -/
theorem tent_sum {n : Nat} (v : Fin n → EReal) (o : Fin (2 * n)) :
    ∑ i : Fin n, v i * ((tri (source n o.val) i.val : ℝ) : EReal) = blend v o := by
  have ho := o.isLt
  have hn : (1 : ℝ) ≤ n := by exact_mod_cast (by omega : 1 ≤ n)
  unfold blend
  by_cases he : o.val % 2 = 0
  · rw [if_pos he]
    have hoe : (o.val : ℝ) = 2 * (o.val / 2 : Nat) := by exact_mod_cast (by omega : o.val = 2 * (o.val / 2))
    have hle : ((o.val / 2 : Nat) : ℝ) ≤ n - 1 := by
      have : (o.val / 2 : Nat) + 1 ≤ n := by omega
      have : ((o.val / 2 : Nat) : ℝ) + 1 ≤ n := by exact_mod_cast this
      linarith
    by_cases hz : o.val / 2 = 0
    · have hz' : ((o.val / 2 : Nat) : ℝ) = 0 := by rw [hz]; norm_num
      rw [sum_whole v _ ⟨o.val / 2, by omega⟩, show (⟨o.val / 2 - 1, by omega⟩ : Fin n) = ⟨o.val / 2, by omega⟩ from Fin.ext (by show o.val / 2 - 1 = o.val / 2; omega), quarters]
      unfold source
      rw [hoe, hz', max_eq_left (by norm_num), min_eq_right (by linarith)]
    · have h1 : (1 : ℝ) ≤ (o.val / 2 : Nat) := by exact_mod_cast (by omega : 1 ≤ o.val / 2)
      have hk : ((o.val / 2 - 1 : Nat) : ℝ) = (o.val / 2 : Nat) - 1 := by rw [Nat.cast_sub (by omega), Nat.cast_one]
      rw [sum_between v _ (3 / 4) ⟨o.val / 2 - 1, by omega⟩ ⟨o.val / 2, by omega⟩ (by show o.val / 2 = o.val / 2 - 1 + 1; omega) ?_ (by norm_num) (by norm_num)]
      · norm_num
      · unfold source
        show _ = ((o.val / 2 - 1 : Nat) : ℝ) + 3 / 4
        rw [hk, hoe, max_eq_right (by linarith), min_eq_right (by linarith)]
        ring
  · rw [if_neg he]
    have hoe : (o.val : ℝ) = 2 * (o.val / 2 : Nat) + 1 := by exact_mod_cast (by omega : o.val = 2 * (o.val / 2) + 1)
    have h0 : (0 : ℝ) ≤ (o.val / 2 : Nat) := Nat.cast_nonneg _
    by_cases hz : o.val / 2 + 1 = n
    · have hz' : ((o.val / 2 : Nat) : ℝ) = n - 1 := by
        have : ((o.val / 2 : Nat) : ℝ) + 1 = n := by exact_mod_cast hz
        linarith
      rw [sum_whole v _ ⟨o.val / 2, by omega⟩, show (⟨min (o.val / 2 + 1) (n - 1), by omega⟩ : Fin n) = ⟨o.val / 2, by omega⟩ from Fin.ext (by show min (o.val / 2 + 1) (n - 1) = o.val / 2; omega), add_comm, quarters]
      unfold source
      rw [hoe, max_eq_right (by linarith), min_eq_left (by linarith)]
      exact hz'.symm
    · have hle : ((o.val / 2 : Nat) : ℝ) + 1 ≤ n - 1 := by
        have : (o.val / 2 : Nat) + 1 + 1 ≤ n := by omega
        have : ((o.val / 2 : Nat) : ℝ) + 1 + 1 ≤ n := by exact_mod_cast this
        linarith
      rw [sum_between v _ (1 / 4) ⟨o.val / 2, by omega⟩ ⟨min (o.val / 2 + 1) (n - 1), by omega⟩ (by show min (o.val / 2 + 1) (n - 1) = o.val / 2 + 1; omega) ?_ (by norm_num) (by norm_num)]
      · norm_num
      · unfold source
        show _ = ((o.val / 2 : Nat) : ℝ) + 1 / 4
        rw [hoe, max_eq_right (by linarith), min_eq_right (by linarith)]
        ring

theorem blend_even {n : Nat} (v : Fin n → EReal) (y : Fin n) (o : Fin (2 * n)) (ho : o.val = 2 * y.val) :
    blend v o = ((1 / 4 : ℝ) : EReal) * v ⟨y.val - 1, by omega⟩ + ((3 / 4 : ℝ) : EReal) * v y := by
  unfold blend
  rw [if_pos (by omega)]
  have e : o.val / 2 = y.val := by omega
  congr <;> exact e

theorem blend_odd {n : Nat} (v : Fin n → EReal) (y : Fin n) (o : Fin (2 * n)) (ho : o.val = 2 * y.val + 1) :
    blend v o = ((3 / 4 : ℝ) : EReal) * v y + ((1 / 4 : ℝ) : EReal) * v ⟨min (y.val + 1) (n - 1), by omega⟩ := by
  unfold blend
  rw [if_neg (by omega)]
  have e : o.val / 2 = y.val := by omega
  congr <;> exact e

end Cert.Agg
-- ==== Proof.Select.lean ====
module

public import Idealize.ShloMosaic.PureOps.Ideal
public import Idealize.ShloMosaic.Lib.SortFacts
public import Idealize.ShloMosaic.Lib.SortPrefix
public import Mathlib.Algebra.BigOperators.Fin

/-!
# The four best candidates of a pixel

The kernel finds the four best of `D` similarities by four passes. Each pass keeps the running
maximum and its position, by a strict comparison, and then overwrites the position it found by the
least value. The reference sorts. Here the two are shown to pick the same candidates, so that the
kernel's sum over all candidates, weighted by what the passes collected, is the sum over the four.
-/

@[expose] public section

noncomputable section

namespace Cert.Agg

open Idealize.ShloMosaic

variable {D : Nat}

/-! ## One pass -/

/-- One comparison of the running maximum and its position. -/
def bestStep (s : Fin D → EReal) (acc : EReal × BitVec 32) (dd : Fin D) : EReal × BitVec 32 :=
  (if acc.1 < s dd then s dd else acc.1, if acc.1 < s dd then BitVec.ofNat 32 dd.val else acc.2)

/-- The maximum and the first position it is at, by comparing the candidates in order. -/
def best (s : Fin D → EReal) : EReal × BitVec 32 := (List.finRange D).foldl (bestStep s) (⊥, 0#32)

/-- What the comparisons of the candidates of `l` have found. -/
def Found (s : Fin D → EReal) (l : List (Fin D)) (acc : EReal × BitVec 32) : Prop :=
  (acc = (⊥, 0#32) ∧ ∀ q ∈ l, s q = ⊥)
    ∨ ∃ p ∈ l, acc = (s p, BitVec.ofNat 32 p.val) ∧ ⊥ < s p ∧ ∀ q ∈ l, s q ≤ s p ∧ (q < p → s q < s p)

theorem found_foldl (s : Fin D → EReal) (l : List (Fin D)) (hl : l.Pairwise (· < ·)) :
    Found s l (l.foldl (bestStep s) (⊥, 0#32)) := by
  induction l using List.reverseRecOn with
  | nil => exact Or.inl ⟨rfl, fun q hq => absurd hq (by simp)⟩
  | append_singleton l x ih =>
    rw [List.pairwise_append] at hl
    obtain ⟨hl, -, hx⟩ := hl
    have hlt : ∀ q ∈ l, q < x := fun q hq => hx q hq x (by simp)
    rw [List.foldl_append, List.foldl_cons, List.foldl_nil]
    rcases ih hl with ⟨e, hb⟩ | ⟨p, hp, e, hpos, hmax⟩
    · rw [e]
      by_cases h : (⊥ : EReal) < s x
      · refine Or.inr ⟨x, by simp, by simp [bestStep, h], h, fun q hq => ?_⟩
        rcases List.mem_append.mp hq with hq | hq
        · rw [hb q hq]; exact ⟨bot_le, fun _ => h⟩
        · have : q = x := by simpa using hq
          subst this; exact ⟨le_rfl, fun h => absurd h (lt_irrefl _)⟩
      · refine Or.inl ⟨by simp [bestStep, h], fun q hq => ?_⟩
        rcases List.mem_append.mp hq with hq | hq
        · exact hb q hq
        · have : q = x := by simpa using hq
          subst this; simpa using h
    · rw [e]
      by_cases h : s p < s x
      · refine Or.inr ⟨x, by simp, by simp [bestStep, h], hpos.trans h, fun q hq => ?_⟩
        rcases List.mem_append.mp hq with hq | hq
        · exact ⟨((hmax q hq).1.trans_lt h).le, fun _ => (hmax q hq).1.trans_lt h⟩
        · have : q = x := by simpa using hq
          subst this; exact ⟨le_rfl, fun h => absurd h (lt_irrefl _)⟩
      · refine Or.inr ⟨p, by simp [hp], by simp [bestStep, h], hpos, fun q hq => ?_⟩
        rcases List.mem_append.mp hq with hq | hq
        · exact hmax q hq
        · have : q = x := by simpa using hq
          subst this; exact ⟨not_lt.mp h, fun hqp => absurd (hlt p hp) (not_lt.mpr hqp.le)⟩

/-- A pass finds the candidate that no other is above and no earlier one equals. -/
theorem best_eq (s : Fin D → EReal) (p : Fin D) (hpos : ⊥ < s p) (hmax : ∀ q, s q ≤ s p)
    (hfirst : ∀ q, q < p → s q < s p) : best s = (s p, BitVec.ofNat 32 p.val) := by
  rcases found_foldl s (List.finRange D) (List.pairwise_lt_finRange D) with ⟨-, hb⟩ | ⟨p', -, e, -, h⟩
  · rw [hb p (List.mem_finRange p)] at hpos; exact absurd hpos (lt_irrefl _)
  · have : p' = p := by
      rcases lt_trichotomy p' p with h1 | h1 | h1
      · exact absurd ((h p (List.mem_finRange p)).1) (not_le.mpr (hfirst p' h1))
      · exact h1
      · exact absurd ((h p (List.mem_finRange p)).2 h1) (not_lt.mpr (hmax p'))
    rw [best, e, this]

/-! ## The sorted order -/

/-- Candidate `p` comes before candidate `q`: it is better, or as good and earlier. -/
def before (s : Fin D → EReal) (p q : Fin D) : Bool := decide (s q < s p) || (decide (s p = s q) && decide (p < q))

theorem before_total (s : Fin D → EReal) : StrictTotalBefore (before s) :=
  StrictTotalBefore.of_key_then_position (fun a b : EReal => decide (b < a)) s (fun a => by simp)
    (fun a b c h h' => by simp only [decide_eq_true_eq] at h h' ⊢; exact h'.trans h)
    (fun a b => by rcases lt_trichotomy a b with h | h | h <;> simp [h])

/-- Two relations that agree on the pairs in which the list has the first after the second sort it alike. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The candidate at place `r` of the stable sort, better first. -/
def nth (s : Fin D → EReal) (r : Fin D) : Fin D := sortedFrom (fun p q => decide (s q < s p)) r

theorem nth_eq (s : Fin D → EReal) : nth s = sortedFrom (before s) := by
  funext r
  have : sortPositions D (fun p q => decide (s q < s p)) = sortPositions D (before s) := by
    refine stableSort_congr_of_pairwise _ _ _ ((List.pairwise_lt_finRange D).imp fun {a b} hab => ?_)
    have : ¬ b < a := not_lt.mpr hab.le
    simp [before, this]
  unfold nth sortedFrom
  rw [List.get_of_eq this]
  rfl

theorem nth_injective (s : Fin D → EReal) : Function.Injective (nth s) := by
  rw [nth_eq]; exact sortedFrom_injective _

theorem nth_surjective (s : Fin D → EReal) : Function.Surjective (nth s) := by
  rw [nth_eq]; exact sortedFrom_surjective _

/-- A later place of the sort is not before an earlier one. -/
theorem nth_ordered (s : Fin D → EReal) (i j : Fin D) (h : i < j) :
    s (nth s j) ≤ s (nth s i) ∧ (nth s j < nth s i → s (nth s j) < s (nth s i)) := by
  have hB := before_total s
  have := sortedFrom_noInversion (before s) (before s) hB.asymm (fun _ _ h => h) hB.negTrans i j h
  rw [← nth_eq] at this
  simp only [before, Bool.or_eq_false_iff, Bool.and_eq_false_iff, decide_eq_false_iff_not, not_lt] at this
  exact ⟨this.1, fun hlt => lt_of_le_of_ne this.1 fun e => this.2.elim (fun h => h e) fun h => absurd hlt (not_lt.mpr h)⟩

/-! ## The passes -/

/-- The similarities with the first `r` places of the sort overwritten. -/
def masked (s : Fin D → EReal) (r : Nat) (dd : Fin D) : EReal := by
  classical exact if ∃ i : Fin D, i.val < r ∧ nth s i = dd then ⊥ else s dd

theorem masked_zero (s : Fin D → EReal) : masked s 0 = s := by
  funext dd; simp [masked]

theorem best_masked (s : Fin D → EReal) (hs : ∀ dd, ⊥ < s dd) (r : Fin D) :
    (best (masked s r.val)).2 = BitVec.ofNat 32 (nth s r).val := by
  classical
  have hself : masked s r.val (nth s r) = s (nth s r) := by
    unfold masked
    rw [if_neg]
    rintro ⟨i, hi, e⟩
    have := nth_injective s e
    subst this; exact lt_irrefl _ hi
  have key : ∀ q, masked s r.val q = ⊥ ∨ (masked s r.val q = s q ∧ ∃ j, r ≤ j ∧ nth s j = q) := by
    intro q
    unfold masked
    by_cases h : ∃ i : Fin D, i.val < r.val ∧ nth s i = q
    · exact Or.inl (if_pos h)
    · refine Or.inr ⟨if_neg h, ?_⟩
      obtain ⟨j, hj⟩ := nth_surjective s q
      exact ⟨j, not_lt.mp fun hlt => h ⟨j, hlt, hj⟩, hj⟩
  rw [best_eq (masked s r.val) (nth s r) (by rw [hself]; exact hs _)]
  · intro q
    rw [hself]
    rcases key q with e | ⟨e, j, hj, rfl⟩
    · rw [e]; exact bot_le
    · rw [e]
      rcases hj.eq_or_lt with rfl | hj
      · exact le_rfl
      · exact (nth_ordered s r j hj).1
  · intro q hq
    rw [hself]
    rcases key q with e | ⟨e, j, hj, rfl⟩
    · rw [e]; exact hs _
    · rw [e]
      rcases hj.eq_or_lt with rfl | hj
      · exact absurd hq (lt_irrefl _)
      · exact (nth_ordered s r j hj).2 hq

theorem ofNat_inj (hD : D ≤ 2 ^ 32) (a b : Fin D) : BitVec.ofNat 32 a.val = BitVec.ofNat 32 b.val ↔ a = b := by
  constructor
  · intro h
    have := congrArg BitVec.toNat h
    simp only [BitVec.toNat_ofNat] at this
    rw [Nat.mod_eq_of_lt (a.isLt.trans_le hD), Nat.mod_eq_of_lt (b.isLt.trans_le hD)] at this
    exact Fin.ext this
  · rintro rfl; rfl

/-- One pass: the candidates' collected weights and their similarities, after it. -/
def pass (a : EReal) (st : (Fin D → EReal) × (Fin D → EReal)) : (Fin D → EReal) × (Fin D → EReal) :=
  (fun dd => st.1 dd + a * (if (best st.2).2 = BitVec.ofNat 32 dd.val then 1 else 0),
   fun dd => if (best st.2).2 = BitVec.ofNat 32 dd.val then ⊥ else st.2 dd)

/-- The kernel's weighted sum over every candidate, after the four passes. -/
def passSum (a : Fin 4 → EReal) (s b : Fin D → EReal) : EReal :=
  (List.finRange D).foldl
    (fun acc dd => acc + (pass (a 3) (pass (a 2) (pass (a 1) (pass (a 0) (fun _ => 0, s))))).1 dd * b dd) 0

/-- What the first `r` passes have collected for a candidate. -/
def collected (a : Fin 4 → EReal) (s : Fin D → EReal) (h4 : 4 ≤ D) (r : Nat) (dd : Fin D) : EReal :=
  ∑ i : Fin 4, if i.val < r ∧ nth s (i.castLE h4) = dd then a i else 0

theorem pass_collected (a : Fin 4 → EReal) (s : Fin D → EReal) (hs : ∀ dd, ⊥ < s dd) (h4 : 4 ≤ D) (hD : D ≤ 2 ^ 32)
    (r : Fin 4) : pass (a r) (collected a s h4 r.val, masked s r.val)
      = (collected a s h4 (r.val + 1), masked s (r.val + 1)) := by
  classical
  have hb : ∀ dd : Fin D, (best (masked s r.val)).2 = BitVec.ofNat 32 dd.val ↔ nth s (r.castLE h4) = dd := by
    intro dd
    rw [show r.val = (r.castLE h4).val from rfl, best_masked s hs, ofNat_inj hD]
  unfold pass
  simp only [hb]
  refine Prod.ext (funext fun dd => ?_) (funext fun dd => ?_)
  · have : ∀ i : Fin 4, (if i.val < r.val + 1 ∧ nth s (i.castLE h4) = dd then a i else 0)
        = (if i.val < r.val ∧ nth s (i.castLE h4) = dd then a i else 0)
          + (if i = r then (if nth s (i.castLE h4) = dd then a i else 0) else 0) := by
      intro i
      by_cases hi : i = r
      · subst hi; simp
      · have : i.val < r.val + 1 ↔ i.val < r.val :=
          ⟨fun h => lt_of_le_of_ne (Nat.lt_succ_iff.mp h) fun e => hi (Fin.ext e), fun h => h.trans (Nat.lt_succ_self _)⟩
        simp [hi, this]
    simp only [collected, this, Finset.sum_add_distrib]
    congr 1
    rw [Finset.sum_ite_eq' Finset.univ r]
    by_cases h : nth s (r.castLE h4) = dd <;> simp [h]
  · simp only [masked]
    by_cases h : nth s (r.castLE h4) = dd
    · rw [if_pos h, if_pos ⟨r.castLE h4, by simp, h⟩]
    · rw [if_neg h]
      refine if_congr ⟨fun ⟨i, hi, e⟩ => ⟨i, hi.trans (Nat.lt_succ_self _), e⟩, fun ⟨i, hi, e⟩ => ⟨i, ?_, e⟩⟩ rfl rfl
      refine lt_of_le_of_ne (Nat.lt_succ_iff.mp hi) fun e' => h ?_
      rw [← e]; congr 1; exact Fin.ext e'.symm

theorem foldl_add {α : Type} (l : List α) (f : α → EReal) (x : EReal) :
    l.foldl (fun acc d => acc + f d) x = x + (l.map f).sum := by
  induction l generalizing x with
  | nil => simp
  | cons d l ih => rw [List.foldl_cons, ih, List.map_cons, List.sum_cons, add_assoc]

/-- The kernel's sum over every candidate is the sum over the four best, in the sort's order. -/
theorem passSum_eq (a : Fin 4 → EReal) (s b : Fin D → EReal) (hs : ∀ dd, ⊥ < s dd) (h4 : 4 ≤ D) (hD : D ≤ 2 ^ 32) :
    passSum a s b = ∑ j : Fin 4, a j * b (nth s (j.castLE h4)) := by
  have h0 : ((fun _ => 0, s) : (Fin D → EReal) × (Fin D → EReal)) = (collected a s h4 0, masked s 0) := by
    rw [masked_zero]; congr 1; funext dd; simp [collected]
  have e : pass (a 3) (pass (a 2) (pass (a 1) (pass (a 0) (fun _ => 0, s)))) = (collected a s h4 4, masked s 4) := by
    rw [h0]
    have e0 := pass_collected a s hs h4 hD 0
    have e1 := pass_collected a s hs h4 hD 1
    have e2 := pass_collected a s hs h4 hD 2
    have e3 := pass_collected a s hs h4 hD 3
    simp only [Fin.val_zero, Fin.val_one, Fin.val_two, show ((3 : Fin 4) : Nat) = 3 from rfl, Nat.reduceAdd] at e0 e1 e2 e3
    rw [e0, e1, e2, e3]
  unfold passSum
  rw [e, foldl_add, zero_add, ← List.ofFn_eq_map, List.sum_ofFn]
  symm
  have hinj : Function.Injective fun j : Fin 4 => nth s (j.castLE h4) :=
    (nth_injective s).comp (Fin.castLE_injective h4)
  refine Fintype.sum_of_injective (fun j : Fin 4 => nth s (j.castLE h4)) hinj _ _ (fun dd hdd => ?_) (fun j => ?_)
  · have : collected a s h4 4 dd = 0 :=
      Finset.sum_eq_zero fun i _ => if_neg fun h => hdd ⟨i, h.2⟩
    simp only [this, zero_mul]
  · have : collected a s h4 4 (nth s (j.castLE h4)) = a j := by
      unfold collected
      rw [Finset.sum_eq_single j]
      · rw [if_pos ⟨j.isLt, rfl⟩]
      · intro i _ hij
        exact if_neg fun h => hij (hinj h.2)
      · intro h; exact absurd (Finset.mem_univ j) h
    simp only [this]

end Cert.Agg

end
-- ==== Proof.Mirror.lean ====
module

public import Idealize.ShloMosaic.Lib.KernelVsHost
public import Idealize.ShloMosaic.Lib.Pointwise.Tactic
public import proofs.«01_k».proof.Proof.Select

@[expose] public section
set_option maxRecDepth 16384
noncomputable section

/-!
# One aggregation unit, generic in its extents

The three level calls run the same unit at three search windows. Here the unit is written once,
over the block's extents and the window's width, with the passes over the candidate offsets as
recursions on their number.
-/

namespace Cert.Agg
open Idealize.ShloMosaic Idealize.ShloMosaic.TcCoe

/-- A plane of `h` by `w`. -/
abbrev P2 (h w : Nat) : Shape := ⟨2, ![h, w]⟩
/-- A plane of `h` by `w` pixels of `n` channels. -/
abbrev P3 (h w n : Nat) : Shape := ⟨3, ![h, w, n]⟩

/-- What the operations taking patches of an `hA × wA` block over `h × w` pixels ask of the shapes. -/
structure PatchFits (hA wA h w : Nat) : Prop where
  s : ∀ n : Nat, (P3 hA wA 32).Slices ![n / 3 % 3, n % 3, 0] (P3 h w 32)
  c : Shape.Concatenates [P3 h w 32, P3 h w 32, P3 h w 32, P3 h w 32, P3 h w 32, P3 h w 32,
    P3 h w 32, P3 h w 32, P3 h w 32] (P3 h w 288) 2
  r : (P3 h w 288).Reduces [2] (P2 h w)
  k : (P2 h w).ShapeCasts (P3 h w 1)
  b : (P3 h w 1).Broadcasts (P3 h w 288)
  i0 : (P2 h w).Iotas .tc 32 [0]
  i1 : (P2 h w).Iotas .tc 32 [1]
  t : ∀ n : Nat, (P3 h w 288).Slices ![0, 0, n % 9 * 32] (P3 h w 32)

/-- What the operations reading a searched `H × W` block at the window's offsets ask of the shapes. -/
structure WindowFits (H W h w d : Nat) : Prop where
  s3 : ∀ n : Nat, (P3 H W 288).Slices ![n / d % d, n % d, 0] (P3 h w 288)
  s2 : ∀ n : Nat, (P2 H W).Slices ![n / d % d, n % d] (P2 h w)

/-- What the projection asks of the shapes. -/
structure ProjFits (hA wA HB WB h w n r : Nat) : Prop where
  sa : (P3 hA wA 32).Slices ![1, 1, 0] (P3 h w 32)
  sb : (P3 HB WB 32).Slices ![r, r, 0] (P3 h w 32)
  c : Shape.Concatenates [P3 h w 32, P3 h w 32] (P3 h w 64) 2
  k : (P3 h w 64).ShapeCasts (P2 n 64)
  b : (P2 1 288).Broadcasts (P2 n 288)
  k' : (P2 n 288).ShapeCasts (P3 h w 288)
  d : DotDims.WF (P2 n 64) (P2 64 288) (P2 n 288) [1] [0] [0] [1] [] []

theorem slices3 {hA wA n h w k : Nat} (i j c : Nat) (hi : i + h ≤ hA) (hj : j + w ≤ wA)
    (hc : c + k ≤ n) : (P3 hA wA n).Slices ![i, j, c] (P3 h w k) :=
  ⟨rfl, fun a => by fin_cases a; exacts [hi, hj, hc]⟩

theorem slices2 {hA wA h w : Nat} (i j : Nat) (hi : i + h ≤ hA) (hj : j + w ≤ wA) :
    (P2 hA wA).Slices ![i, j] (P2 h w) :=
  ⟨rfl, fun a => by fin_cases a; exacts [hi, hj]⟩

theorem patchSlices {hA wA h w : Nat} (hh : 2 + h ≤ hA) (hw : 2 + w ≤ wA) (n : Nat) :
    (P3 hA wA 32).Slices ![n / 3 % 3, n % 3, 0] (P3 h w 32) :=
  slices3 _ _ _ (by omega) (by omega) (by omega)

theorem copySlices {h w : Nat} (n : Nat) : (P3 h w 288).Slices ![0, 0, n % 9 * 32] (P3 h w 32) :=
  slices3 _ _ _ (by omega) (by omega) (by omega)

theorem WindowFits.of {H W h w : Nat} (d : Nat) (hd : 0 < d) (hh : (d - 1) + h ≤ H)
    (hw : (d - 1) + w ≤ W) : WindowFits H W h w d where
  s3 n := slices3 _ _ _ (by have := Nat.mod_lt (n / d) hd; omega)
    (by have := Nat.mod_lt n hd; omega) (by omega)
  s2 n := slices2 _ _ (by have := Nat.mod_lt (n / d) hd; omega) (by have := Nat.mod_lt n hd; omega)

/-- `n` planes of `h` by `w` pixels of 32 channels. -/
abbrev P4 (n h w : Nat) : Shape := ⟨4, ![n, h, w, 32]⟩
/-- A block of four planes of `h` by `w` pixels of 32 channels. -/
abbrev P5 (h w : Nat) : Shape := ⟨5, ![1, 4, h, w, 32]⟩

/-- What the doubling of an `h × w` plane asks of the shapes, `h'` and `w'` one less than `h` and `w`. -/
structure UpFits (h w h' w' : Nat) : Prop where
  r0 : (P3 h w 32).Slices ![0, 0, 0] (P3 1 w 32)
  r1 : (P3 h w 32).Slices ![0, 0, 0] (P3 h' w 32)
  r2 : (P3 h w 32).Slices ![1, 0, 0] (P3 h' w 32)
  r3 : (P3 h w 32).Slices ![h', 0, 0] (P3 1 w 32)
  c0 : (P3 h w 32).Slices ![0, 0, 0] (P3 h 1 32)
  c1 : (P3 h w 32).Slices ![0, 0, 0] (P3 h w' 32)
  c2 : (P3 h w 32).Slices ![0, 1, 0] (P3 h w' 32)
  c3 : (P3 h w 32).Slices ![0, w', 0] (P3 h 1 32)
  jt : Shape.Concatenates [P3 1 w 32, P3 h' w 32] (P3 h w 32) 0
  jb : Shape.Concatenates [P3 h' w 32, P3 1 w 32] (P3 h w 32) 0
  jl : Shape.Concatenates [P3 h 1 32, P3 h w' 32] (P3 h w 32) 1
  jr : Shape.Concatenates [P3 h w' 32, P3 h 1 32] (P3 h w 32) 1
  k : (P3 h w 32).ShapeCasts (P4 1 h w)
  j : Shape.Concatenates [P4 1 h w, P4 1 h w, P4 1 h w, P4 1 h w] (P4 4 h w) 0
  k' : (P4 4 h w).ShapeCasts (P5 h w)

section
variable {F : FTy → Type} [FloatOps F]
variable (hA wA HB WB h w H W n d : Nat)

/-- The nine shifted copies of a block side by side along the channels. -/
def patches (f : PatchFits hA wA h w) (x : FVec F (P3 hA wA 32) .f32) : FVec F (P3 h w 288) .f32 :=
  concatenate (P3 h w 288) 2
    [⟨P3 h w 32, extractStridedSlice (P3 h w 32) ![0 / 3 % 3, 0 % 3, 0] x (f.s 0)⟩,
     ⟨P3 h w 32, extractStridedSlice (P3 h w 32) ![1 / 3 % 3, 1 % 3, 0] x (f.s 1)⟩,
     ⟨P3 h w 32, extractStridedSlice (P3 h w 32) ![2 / 3 % 3, 2 % 3, 0] x (f.s 2)⟩,
     ⟨P3 h w 32, extractStridedSlice (P3 h w 32) ![3 / 3 % 3, 3 % 3, 0] x (f.s 3)⟩,
     ⟨P3 h w 32, extractStridedSlice (P3 h w 32) ![4 / 3 % 3, 4 % 3, 0] x (f.s 4)⟩,
     ⟨P3 h w 32, extractStridedSlice (P3 h w 32) ![5 / 3 % 3, 5 % 3, 0] x (f.s 5)⟩,
     ⟨P3 h w 32, extractStridedSlice (P3 h w 32) ![6 / 3 % 3, 6 % 3, 0] x (f.s 6)⟩,
     ⟨P3 h w 32, extractStridedSlice (P3 h w 32) ![7 / 3 % 3, 7 % 3, 0] x (f.s 7)⟩,
     ⟨P3 h w 32, extractStridedSlice (P3 h w 32) ![8 / 3 % 3, 8 % 3, 0] x (f.s 8)⟩] f.c

/-- The own patches over their norms. -/
def ownHat (f : PatchFits hA wA h w) (x : FVec F (P3 hA wA 32) .f32) : FVec F (P3 h w 288) .f32 :=
  divf (patches hA wA h w f x)
    (broadcastTo (P3 h w 288)
      (maximumf (sqrt (shapeCast (P3 h w 1)
          (multiReduction .add [2] (P2 h w) (mulf (patches hA wA h w f x) (patches hA wA h w f x))
            0x00000000#32 f.r (.inl rfl) rfl) f.k))
        (broadcast (P3 h w 1) (Scalar.ofBits .f32 0x2B8CBCCC#32))) f.b)

/-- One at the positions inside the image, zero outside: rows counted from `y0 - r` up to `ht`,
    columns kept from `cl` up to `ch`. -/
def inside (f : PatchFits HB WB H W) (y ht cl ch : BitVec 32) : FVec F (P2 H W) .f32 :=
  sitofp .f32 (extui 32
    (andi (andi (andi
        (cmpi .sge (addi (iota .tc (P2 H W) 32 [0] f.i0) (broadcast (P2 H W) y)) (broadcast (P2 H W) 0#32))
        (cmpi .slt (addi (iota .tc (P2 H W) 32 [0] f.i0) (broadcast (P2 H W) y)) (broadcast (P2 H W) ht)))
        (cmpi .sge (iota .tc (P2 H W) 32 [1] f.i1) (broadcast (P2 H W) cl)))
        (cmpi .slt (iota .tc (P2 H W) 32 [1] f.i1) (broadcast (P2 H W) ch))) (by decide))

/-- The searched patches, zero outside the image. -/
def searched (f : PatchFits HB WB H W) (y ht cl ch : BitVec 32) (x : FVec F (P3 HB WB 32) .f32) :
    FVec F (P3 H W 288) .f32 :=
  mulf (patches HB WB H W f x)
    (broadcastTo (P3 H W 288) (shapeCast (P3 H W 1) (inside HB WB H W f y ht cl ch) f.k) f.b)

/-- The reciprocals of the searched patches' norms. -/
def recips (f : PatchFits HB WB H W) (x : FVec F (P3 H W 288) .f32) : FVec F (P2 H W) .f32 :=
  divf (broadcast (P2 H W) (Scalar.ofBits .f32 0x3F800000#32))
    (maximumf (sqrt (multiReduction .add [2] (P2 H W) (mulf x x) 0x00000000#32 f.r (.inl rfl) rfl))
      (broadcast (P2 H W) (Scalar.ofBits .f32 0x2B8CBCCC#32)))

/-- The similarities at one offset of the window. -/
def simAt (f : PatchFits hA wA h w) (g : WindowFits H W h w d) (a : FVec F (P3 h w 288) .f32)
    (b : FVec F (P3 H W 288) .f32) (rn : FVec F (P2 H W) .f32) (dd : Nat) : FVec F (P2 h w) .f32 :=
  mulf
    (multiReduction .add [2] (P2 h w)
      (mulf a (extractStridedSlice (P3 h w 288) ![dd / d % d, dd % d, 0] b (g.s3 dd)))
      0x00000000#32 f.r (.inl rfl) rfl)
    (extractStridedSlice (P2 h w) ![dd / d % d, dd % d] rn (g.s2 dd))

/-- The best similarity among the first offsets, and its offset. -/
def bestVec (s : Nat → FVec F (P2 h w) .f32) (k : Nat) : FVec F (P2 h w) .f32 × IVec (P2 h w) 32 :=
  Nat.rec (broadcast (P2 h w) (Scalar.ofBits .f32 0xFF800000#32), broadcast (P2 h w) 0#32)
    (fun dd acc => (select (cmpf .ogt (s dd) acc.1) (s dd) acc.1,
      select (cmpf .ogt (s dd) acc.1) (broadcast (P2 h w) (BitVec.ofNat 32 dd)) acc.2)) k

/-- One pass: the weight goes to the best offset, which then leaves the search. -/
def passVec (k : Nat) (s : Nat → FVec F (P2 h w) .f32) :
    Nat → FVec F (P2 h w) .f32 := fun dd =>
  select (cmpi .eq (bestVec h w s k).2 (broadcast (P2 h w) (BitVec.ofNat 32 dd)))
    (broadcast (P2 h w) (Scalar.ofBits .f32 0xFF800000#32)) (s dd)

/-- The weight one pass gives an offset. -/
def weightVec (k : Nat) (a : Elt F .f32) (s : Nat → FVec F (P2 h w) .f32) (wm : FVec F (P2 h w) .f32)
    (dd : Nat) : FVec F (P2 h w) .f32 :=
  addf wm (mulf (broadcast (P2 h w) (Scalar.extf .f32 (by decide) (Scalar.truncf .bf16 (by decide) a)))
    (sitofp .f32 (extui 32
      (cmpi .eq (bestVec h w s k).2 (broadcast (P2 h w) (BitVec.ofNat 32 dd))) (by decide))))

/-- The weights after the four passes. -/
def weights (k : Nat) (a0 a1 a2 a3 : Elt F .f32) (s : Nat → FVec F (P2 h w) .f32) (dd : Nat) :
    FVec F (P2 h w) .f32 :=
  weightVec h w k a3 (passVec h w k (passVec h w k (passVec h w k s)))
    (weightVec h w k a2 (passVec h w k (passVec h w k s))
      (weightVec h w k a1 (passVec h w k s)
        (weightVec h w k a0 s (broadcast (P2 h w) (Scalar.ofBits .f32 0x00000000#32)) dd) dd) dd) dd

/-- The weighted sum of the searched patches over the first offsets. -/
def sumVec (f : PatchFits hA wA h w) (g : WindowFits H W h w d) (wm : Nat → FVec F (P2 h w) .f32)
    (b : FVec F (P3 H W 288) .f32) (k : Nat) : FVec F (P3 h w 288) .f32 :=
  Nat.rec (broadcast (P3 h w 288) (Scalar.ofBits .f32 0x00000000#32))
    (fun dd acc => addf acc (mulf (broadcastTo (P3 h w 288) (shapeCast (P3 h w 1) (wm dd) f.k) f.b)
      (extractStridedSlice (P3 h w 288) ![dd / d % d, dd % d, 0]
        (extf .f32 (truncf .bf16 b (by decide)) (by decide)) (g.s3 dd)))) k

/-- The projection's contraction. -/
def projDot (e : DotDims.WF (P2 n 64) (P2 64 288) (P2 n 288) [1] [0] [0] [1] [] []) :
    DotDims (P2 n 64) (P2 64 288) (P2 n 288) where
  lhsContracting := [1]
  rhsContracting := [0]
  lhsNonContracting := [0]
  rhsNonContracting := [1]
  lhsBatch := []
  rhsBatch := []
  wf := e

/-- The projection of the two blocks' own pixels. -/
def projVec (r : Nat) (e : ProjFits hA wA HB WB h w n r) (x : FVec F (P3 hA wA 32) .f32)
    (y : FVec F (P3 HB WB 32) .f32) (wt : FVec F (P2 64 288) .f32) (bi : FVec F (P2 1 288) .f32) :
    FVec F (P3 h w 288) .f32 :=
  shapeCast (P3 h w 288)
    (addf (matmul (projDot n e.d) none
        (shapeCast (P2 n 64) (concatenate (P3 h w 64) 2
          [⟨P3 h w 32, extractStridedSlice (P3 h w 32) ![1, 1, 0] x e.sa⟩,
           ⟨P3 h w 32, extractStridedSlice (P3 h w 32) ![r, r, 0] y e.sb⟩] e.c) e.k)
        wt (constant (P2 n 288) .f32 0x00000000#32))
      (broadcastTo (P2 n 288) bi e.b)) e.k'

/-- The products of two families of patches summed over the nine copies, up to the last one taken. -/
def foldVec (f : PatchFits hA wA h w) (x y : FVec F (P3 h w 288) .f32) (k : Nat) :
    FVec F (P3 h w 32) .f32 :=
  Nat.rec (mulf (extractStridedSlice (P3 h w 32) ![0, 0, 0 % 9 * 32] x (f.t 0))
      (extractStridedSlice (P3 h w 32) ![0, 0, 0 % 9 * 32] y (f.t 0)))
    (fun p acc => addf acc (mulf (extractStridedSlice (P3 h w 32) ![0, 0, (p + 1) % 9 * 32] x (f.t (p + 1)))
      (extractStridedSlice (P3 h w 32) ![0, 0, (p + 1) % 9 * 32] y (f.t (p + 1))))) k

/-- The unit: the similarities, the four passes, the weighted sum, and its product with the projection. -/
def unitVec (D r : Nat) (fa : PatchFits hA wA h w) (fb : PatchFits HB WB H W) (g : WindowFits H W h w d)
    (e : ProjFits hA wA HB WB h w n r) (y ht cl ch : BitVec 32)
    (A : FVec F (P3 hA wA 32) .f32) (B : FVec F (P3 HB WB 32) .f32)
    (a0 a1 a2 a3 ab : Elt F .f32) (wt : FVec F (P2 64 288) .f32) (bi : FVec F (P2 1 288) .f32) :
    FVec F (P3 h w 32) .f32 :=
  foldVec hA wA h w fa
    (addf (sumVec hA wA h w H W d fa g
      (weights h w D a0 a1 a2 a3 (simAt hA wA h w H W d fa g (ownHat hA wA h w fa A)
        (searched HB WB H W fb y ht cl ch B)
        (recips HB WB H W fb (searched HB WB H W fb y ht cl ch B))))
      (searched HB WB H W fb y ht cl ch B) D) (broadcast (P3 h w 288) ab))
    (projVec hA wA HB WB h w n r e A B wt bi) 8

/-! ### The doubling of a plane -/

/-- A quarter of the first plane and three quarters of the second. -/
def quarterOf (x y : FVec F (P3 h w 32) .f32) : FVec F (P3 h w 32) .f32 :=
  addf (mulf (broadcast (P3 h w 32) (Scalar.ofBits .f32 0x3E800000#32)) x)
    (mulf (broadcast (P3 h w 32) (Scalar.ofBits .f32 0x3F400000#32)) y)

/-- Three quarters of the first plane and a quarter of the second. -/
def threeQuartersOf (x y : FVec F (P3 h w 32) .f32) : FVec F (P3 h w 32) .f32 :=
  addf (mulf (broadcast (P3 h w 32) (Scalar.ofBits .f32 0x3F400000#32)) x)
    (mulf (broadcast (P3 h w 32) (Scalar.ofBits .f32 0x3E800000#32)) y)

variable (h' w' : Nat)

/-- Each row's upper neighbour, the first row its own. -/
def above (u : UpFits h w h' w') (x : FVec F (P3 h w 32) .f32) : FVec F (P3 h w 32) .f32 :=
  concatenate (P3 h w 32) 0 [⟨P3 1 w 32, extractStridedSlice (P3 1 w 32) ![0, 0, 0] x u.r0⟩,
    ⟨P3 h' w 32, extractStridedSlice (P3 h' w 32) ![0, 0, 0] x u.r1⟩] u.jt

/-- Each row's lower neighbour, the last row its own. -/
def below (u : UpFits h w h' w') (x : FVec F (P3 h w 32) .f32) : FVec F (P3 h w 32) .f32 :=
  concatenate (P3 h w 32) 0 [⟨P3 h' w 32, extractStridedSlice (P3 h' w 32) ![1, 0, 0] x u.r2⟩,
    ⟨P3 1 w 32, extractStridedSlice (P3 1 w 32) ![h', 0, 0] x u.r3⟩] u.jb

/-- Each column's left neighbour, the first column its own. -/
def leftOf (u : UpFits h w h' w') (x : FVec F (P3 h w 32) .f32) : FVec F (P3 h w 32) .f32 :=
  concatenate (P3 h w 32) 1 [⟨P3 h 1 32, extractStridedSlice (P3 h 1 32) ![0, 0, 0] x u.c0⟩,
    ⟨P3 h w' 32, extractStridedSlice (P3 h w' 32) ![0, 0, 0] x u.c1⟩] u.jl

/-- Each column's right neighbour, the last column its own. -/
def rightOf (u : UpFits h w h' w') (x : FVec F (P3 h w 32) .f32) : FVec F (P3 h w 32) .f32 :=
  concatenate (P3 h w 32) 1 [⟨P3 h w' 32, extractStridedSlice (P3 h w' 32) ![0, 1, 0] x u.c2⟩,
    ⟨P3 h 1 32, extractStridedSlice (P3 h 1 32) ![0, w', 0] x u.c3⟩] u.jr

/-- The even and the odd columns of a plane doubled along its rows. -/
def evenCols (u : UpFits h w h' w') (y : FVec F (P3 h w 32) .f32) : FVec F (P4 1 h w) .f32 :=
  shapeCast (P4 1 h w) (quarterOf h w (leftOf h w h' w' u y) y) u.k

@[inherit_doc evenCols]
def oddCols (u : UpFits h w h' w') (y : FVec F (P3 h w 32) .f32) : FVec F (P4 1 h w) .f32 :=
  shapeCast (P4 1 h w) (threeQuartersOf h w y (rightOf h w h' w' u y)) u.k

/-- The four quadrants of the doubled plane, by the parities of the row and the column. -/
def upVec (u : UpFits h w h' w') (x : FVec F (P3 h w 32) .f32) : FVec F (P5 h w) .f32 :=
  shapeCast (P5 h w) (concatenate (P4 4 h w) 0
    [⟨P4 1 h w, evenCols h w h' w' u (quarterOf h w (above h w h' w' u x) x)⟩,
     ⟨P4 1 h w, oddCols h w h' w' u (quarterOf h w (above h w h' w' u x) x)⟩,
     ⟨P4 1 h w, evenCols h w h' w' u (threeQuartersOf h w x (below h w h' w' u x))⟩,
     ⟨P4 1 h w, oddCols h w h' w' u (threeQuartersOf h w x (below h w h' w' u x))⟩] u.j) u.k'
end
end Cert.Agg
-- ==== Proof.Similarity.lean ====
module

public import Idealize.ShloMosaic.PureOps.Ideal
public import Mathlib.Algebra.BigOperators.Fin

/-!
# The similarity of two windows

The similarity of two vectors over the extended reals: the sum of the products of their entries, each
vector divided by its norm, the norm kept away from zero by a positive real bound. The kernel divides
only one of the vectors entry by entry and multiplies the sum by the reciprocal of the other norm.
-/

@[expose] public section

noncomputable section

namespace Cert.Agg

open Idealize.ShloMosaic

variable {K : Type} [Fintype K]

/-- The norm of a vector, kept at or above `ε`. -/
def nrm (ε : EReal) (v : K → EReal) : EReal := max (Ideal.sqrt (∑ k, v k * v k)) ε

/-- A vector divided by its norm. -/
def unit (ε : EReal) (v : K → EReal) (k : K) : EReal := Ideal.div (v k) (nrm ε v)

/-- The similarity, both vectors divided entry by entry. -/
def sim (ε : EReal) (a b : K → EReal) : EReal := ∑ k, unit ε a k * unit ε b k

/-- The similarity, the second norm's reciprocal taken out of the sum. -/
def simOut (ε : EReal) (a b : K → EReal) : EReal := (∑ k, unit ε a k * b k) * Ideal.div 1 (nrm ε b)

theorem div_pos {x y : EReal} (hy : 0 < y) : Ideal.div x y = x * y⁻¹ := by
  unfold Ideal.div; rw [if_neg hy.ne']

theorem sq_nonneg' (x : EReal) : 0 ≤ x * x := by
  induction x with
  | bot => simp
  | top => simp
  | coe r => rw [← EReal.coe_mul]; exact_mod_cast mul_self_nonneg r

theorem coe_sum (f : K → ℝ) : ((∑ k, f k : ℝ) : EReal) = ∑ k, (f k : EReal) :=
  map_sum (⟨⟨Real.toEReal, EReal.coe_zero⟩, EReal.coe_add⟩ : ℝ →+ EReal) f Finset.univ

/-- Either a vector's entries are real and its norm is a positive real, or its norm is infinite. -/
theorem nrm_cases (ε : ℝ) (hε : 0 < ε) (v : K → EReal) :
    (∃ (w : K → ℝ) (n : ℝ), (∀ k, v k = w k) ∧ 0 < n ∧ nrm ε v = n) ∨ nrm ε v = ⊤ := by
  classical
  by_cases h : ∑ k, v k * v k = ⊤
  · right
    unfold nrm
    rw [h, show Ideal.sqrt ⊤ = ⊤ from rfl]
    exact max_eq_left le_top
  · left
    have hv : ∀ k, ∃ r : ℝ, v k = r := by
      intro k
      have hk : v k * v k ≠ ⊤ := by
        intro e
        apply h
        rw [← Finset.add_sum_erase _ _ (Finset.mem_univ k), e]
        exact EReal.top_add_of_ne_bot fun e' => by
          have : (0 : EReal) ≤ ∑ x ∈ Finset.univ.erase k, v x * v x := Finset.sum_nonneg fun i _ => sq_nonneg' _
          rw [e'] at this
          exact absurd this (by simp)
      generalize v k = x at hk
      induction x with
      | bot => exact absurd (by simp) hk
      | top => exact absurd (by simp) hk
      | coe r => exact ⟨r, rfl⟩
    choose w hw using hv
    have hsum : ∑ k, v k * v k = ((∑ k, w k * w k : ℝ) : EReal) := by
      rw [coe_sum]
      exact Finset.sum_congr rfl fun k _ => by rw [hw k, EReal.coe_mul]
    have hnn : ¬ (∑ k, w k * w k) < 0 := not_lt.mpr (Finset.sum_nonneg fun k _ => mul_self_nonneg _)
    refine ⟨w, max (Real.sqrt (∑ k, w k * w k)) ε, hw, lt_max_of_lt_right hε, ?_⟩
    unfold nrm
    rw [hsum]
    have : Ideal.sqrt ((∑ k, w k * w k : ℝ) : EReal) = (Real.sqrt (∑ k, w k * w k) : EReal) := by
      show (if (∑ k, w k * w k) < 0 then (⊥ : EReal) else _) = _
      rw [if_neg hnn]
    rw [this]
    exact (EReal.coe_strictMono.monotone.map_max).symm

/-- A vector divided by its norm has real entries. -/
theorem unit_real (ε : ℝ) (hε : 0 < ε) (v : K → EReal) : ∃ u : K → ℝ, ∀ k, unit ε v k = u k := by
  rcases nrm_cases ε hε v with ⟨w, n, hw, hn, e⟩ | e
  · refine ⟨fun k => w k * n⁻¹, fun k => ?_⟩
    unfold unit
    rw [e, div_pos (by exact_mod_cast hn), hw k, ← EReal.coe_inv, ← EReal.coe_mul]
  · refine ⟨fun _ => 0, fun k => ?_⟩
    unfold unit
    rw [e, div_pos (by simp), EReal.inv_top, mul_zero, EReal.coe_zero]

/-- The similarity is never the least value. -/
theorem sim_pos (ε : ℝ) (hε : 0 < ε) (a b : K → EReal) : ⊥ < sim ε a b := by
  obtain ⟨u, hu⟩ := unit_real ε hε a
  obtain ⟨w, hw⟩ := unit_real ε hε b
  have : sim ε a b = ((∑ k, u k * w k : ℝ) : EReal) := by
    rw [coe_sum]
    exact Finset.sum_congr rfl fun k _ => by rw [hu k, hw k, EReal.coe_mul]
  rw [this]
  exact EReal.bot_lt_coe _

/-- The two spellings of the similarity agree. -/
theorem simOut_eq (ε : ℝ) (hε : 0 < ε) (a b : K → EReal) : simOut ε a b = sim ε a b := by
  obtain ⟨u, hu⟩ := unit_real ε hε a
  rcases nrm_cases ε hε b with ⟨w, n, hw, hn, e⟩ | e
  · have h1 : sim ε a b = ((∑ k, u k * (w k * n⁻¹) : ℝ) : EReal) := by
      rw [coe_sum]
      refine Finset.sum_congr rfl fun k _ => ?_
      unfold unit
      rw [show Ideal.div (a k) (nrm ε a) = unit ε a k from rfl, hu k, e, div_pos (by exact_mod_cast hn), hw k,
        ← EReal.coe_inv, ← EReal.coe_mul, ← EReal.coe_mul]
    have h2 : simOut ε a b = (((∑ k, u k * w k) * n⁻¹ : ℝ) : EReal) := by
      unfold simOut
      rw [e, div_pos (by exact_mod_cast hn), one_mul, EReal.coe_mul, coe_sum, EReal.coe_inv]
      congr 1
      exact Finset.sum_congr rfl fun k _ => by rw [hu k, hw k, EReal.coe_mul]
    rw [h1, h2, Finset.sum_mul]
    congr 1
    exact Finset.sum_congr rfl fun k _ => by ring
  · have h1 : sim ε a b = 0 := by
      refine Finset.sum_eq_zero fun k _ => ?_
      have : unit ε b k = 0 := by unfold unit; rw [e, div_pos (by simp), EReal.inv_top, mul_zero]
      rw [this, mul_zero]
    unfold simOut
    rw [h1, e, div_pos (by simp), EReal.inv_top, mul_zero, mul_zero]

end Cert.Agg

end
-- ==== Proof.Pixel.lean ====
module

public import Idealize.ShloMosaic.Lib.Pointwise.Contract
public import proofs.«01_k».proof.Proof.Mirror
public import proofs.«01_k».proof.Proof.Similarity

@[expose] public section
set_option maxRecDepth 16384
noncomputable section

/-!
# The aggregation unit at one pixel

Every stage of the unit of `Proof/Mirror.lean`, over the extended reals, at one pixel and one
channel.
-/

namespace Cert.Agg
open Idealize.ShloMosaic

/-! ## Folds over the candidates -/

/-- A recursion over the first `D` numbers is the fold over them in order. -/
theorem foldl_finRange {β : Type} {D : Nat} (f : β → Fin D → β) (r : Nat → β)
    (hs : ∀ n (hn : n < D), r (n + 1) = f (r n) ⟨n, hn⟩) : (List.finRange D).foldl f (r 0) = r D := by
  induction D with
  | zero => rfl
  | succ n ih =>
    rw [List.finRange_succ_last, List.foldl_append, List.foldl_map, List.foldl_cons, List.foldl_nil,
      ih (fun b k => f b k.castSucc) (fun m hm => hs m (by omega)), hs n (by omega)]
    rfl

/-! ## The operations at an index -/

section
variable {hA wA HB WB h w H W n d : Nat}

theorem slice3_apply {α : Type} {H' W' K h' w' k : Nat} (i j c : Nat) (x : (P3 H' W' K).Idx → α)
    (hs : (P3 H' W' K).Slices ![i, j, c] (P3 h' w' k)) (y : Fin h') (z : Fin w') (e : Fin k)
    (I : Fin H') (J : Fin W') (E : Fin K) (hI : I.val = i + y.val) (hJ : J.val = j + z.val) (hE : E.val = c + e.val) :
    extractStridedSlice (P3 h' w' k) ![i, j, c] x hs (ix3 y z e) = x (ix3 I J E) :=
  extractStridedSlice_apply _ _ _ _ _ fun a => by fin_cases a; exacts [hI, hJ, hE]

theorem slice2_apply {α : Type} {H' W' h' w' : Nat} (i j : Nat) (x : (P2 H' W').Idx → α)
    (hs : (P2 H' W').Slices ![i, j] (P2 h' w')) (y : Fin h') (z : Fin w')
    (I : Fin H') (J : Fin W') (hI : I.val = i + y.val) (hJ : J.val = j + z.val) :
    extractStridedSlice (P2 h' w') ![i, j] x hs (ix2 y z) = x (ix2 I J) :=
  extractStridedSlice_apply _ _ _ _ _ fun a => by fin_cases a; exacts [hI, hJ]

theorem column_apply {α : Type} (x : (P2 h w).Idx → α) (k : (P2 h w).ShapeCasts (P3 h w 1)) (b : (P3 h w 1).Broadcasts (P3 h w n))
    (y : Fin h) (z : Fin w) (c : Fin n) : broadcastTo (P3 h w n) (shapeCast (P3 h w 1) x k) b (ix3 y z c) = x (ix2 y z) := by
  rw [broadcastTo_apply _ _ _ (ix3 y z 0) fun a => ?_, shapeCast_apply _ _ _ (ix2 y z) ?_]
  · rw [Shape.rowMajor_val_two, Shape.rowMajor_val_three]
    show y.val * w + z.val = (y.val * w + z.val) * 1 + 0
    omega
  · fin_cases a
    · show y.val = if h = 1 then 0 else y.val
      split <;> omega
    · show z.val = if w = 1 then 0 else z.val
      split <;> omega
    · show 0 = if 1 = 1 then 0 else _
      rfl

theorem sum_apply (x : FVec Ideal (P3 h w n) .f32) (r : (P3 h w n).Reduces [2] (P2 h w)) (y : Fin h) (z : Fin w) :
    multiReduction .add [2] (P2 h w) x 0x00000000#32 r (.inl rfl) rfl (ix2 y z) = ∑ k : Fin n, x (ix3 y z k) := by
  refine (Ideal.multiReduction_add_single x _ r _ _ _).trans (Finset.sum_congr rfl fun k _ => congrArg x (funext fun a => ?_))
  fin_cases a <;> exact Fin.ext rfl

theorem patches_apply (f : PatchFits hA wA h w) (x : FVec Ideal (P3 hA wA 32) .f32) (y : Fin h) (z : Fin w) (k : Fin 288)
    (I : Fin hA) (J : Fin wA) (hI : I.val = y.val + k.val / 32 / 3) (hJ : J.val = z.val + k.val / 32 % 3) :
    patches hA wA h w f x (ix3 y z k) = x (ix3 I J ⟨k.val % 32, Nat.mod_lt _ (by omega)⟩) := by
  have hk := k.isLt
  refine (concatenate_ofFn_apply (t := P3 h w 288) (s₁ := P3 h w 32) 2
    (fun n : Fin 9 => extractStridedSlice (P3 h w 32) ![n.val / 3 % 3, n.val % 3, 0] x (f.s n.val)) f.c rfl 32 rfl
    (ix3 y z k) ⟨k.val / 32, by omega⟩ rfl (ix3 y z ⟨k.val % 32, Nat.mod_lt _ (by omega)⟩) rfl ?_).trans ?_
  · intro b hb
    fin_cases b
    · rfl
    · rfl
    · exact absurd rfl hb
  · refine slice3_apply _ _ _ _ _ _ _ _ _ _ _ ?_ ?_ ?_
    · show I.val = k.val / 32 / 3 % 3 + y.val
      omega
    · show J.val = k.val / 32 % 3 + z.val
      omega
    · show k.val % 32 = 0 + k.val % 32
      omega

/-- The norms' floor. -/
def floor : EReal := Ideal.ofBits .f32 0x2B8CBCCC#32

theorem floor_real : ∃ ε : ℝ, 0 < ε ∧ floor = ε := by
  refine ⟨9223372 / 9223372036854775808, by norm_num, ?_⟩
  unfold floor
  simp [Ideal.ofBits, Ideal.ieee, -EReal.coe_mul]; norm_num

theorem neg_inf : Ideal.ofBits .f32 0xFF800000#32 = ⊥ := by simp [Ideal.ofBits, Ideal.ieee]

theorem zero_bits : Ideal.ofBits .f32 0x00000000#32 = 0 := by simp [Ideal.ofBits, Ideal.ieee]

theorem mul_at {s : Shape} (a b : FVec Ideal s .f32) (i : s.Idx) : mulf a b i = a i * b i := rfl

theorem ownHat_apply (f : PatchFits hA wA h w) (x : FVec Ideal (P3 hA wA 32) .f32) (y : Fin h) (z : Fin w) (k : Fin 288) :
    ownHat hA wA h w f x (ix3 y z k) = unit floor (fun k => patches hA wA h w f x (ix3 y z k)) k := by
  have e : ownHat hA wA h w f x (ix3 y z k) = Ideal.div (patches hA wA h w f x (ix3 y z k))
    (broadcastTo (P3 h w 288)
      (shapeCast (P3 h w 1) (maximumf (sqrt
          (multiReduction .add [2] (P2 h w) (mulf (patches hA wA h w f x) (patches hA wA h w f x))
            0x00000000#32 f.r (.inl rfl) rfl))
        (broadcast (P2 h w) (Scalar.ofBits .f32 0x2B8CBCCC#32))) f.k) f.b (ix3 y z k)) := rfl
  rw [e, column_apply]
  show Ideal.div _ (max (Ideal.sqrt (multiReduction (F := Ideal) (φ := .f32) _ _ _ _ _ _ _ _ _)) _) = _
  rw [sum_apply]
  rfl

theorem recips_apply (f : PatchFits HB WB H W) (x : FVec Ideal (P3 H W 288) .f32) (i : Fin H) (j : Fin W) :
    recips HB WB H W f x (ix2 i j) = Ideal.div 1 (nrm floor fun k => x (ix3 i j k)) := by
  show Ideal.div (Ideal.ofBits .f32 0x3F800000#32) (max (Ideal.sqrt (multiReduction (F := Ideal) (φ := .f32) _ _ _ _ _ _ _ _ _)) _) = _
  rw [sum_apply, show Ideal.ofBits .f32 0x3F800000#32 = 1 from Ideal.ofBits_one_f32]
  rfl

theorem searched_apply (f : PatchFits HB WB H W) (y ht cl ch : BitVec 32) (x : FVec Ideal (P3 HB WB 32) .f32)
    (i : Fin H) (j : Fin W) (k : Fin 288) :
    searched HB WB H W f y ht cl ch x (ix3 i j k)
      = patches HB WB H W f x (ix3 i j k) * inside (F := Ideal) HB WB H W f y ht cl ch (ix2 i j) := by
  refine (mul_at _ _ _).trans ?_
  rw [column_apply]

theorem simAt_apply (f : PatchFits hA wA h w) (fb : PatchFits HB WB H W) (g : WindowFits H W h w d) (A : FVec Ideal (P3 hA wA 32) .f32)
    (b : FVec Ideal (P3 H W 288) .f32) (dd : Nat) (y : Fin h) (z : Fin w) (I : Fin H) (J : Fin W)
    (hI : I.val = dd / d % d + y.val) (hJ : J.val = dd % d + z.val) :
    simAt hA wA h w H W d f g (ownHat hA wA h w f A) b (recips HB WB H W fb b) dd (ix2 y z)
      = simOut floor (fun k => patches hA wA h w f A (ix3 y z k)) (fun k => b (ix3 I J k)) := by
  refine (mul_at _ _ _).trans ?_
  rw [sum_apply, slice2_apply _ _ _ _ _ _ I J hI hJ, recips_apply]
  refine congrArg (· * _) (Finset.sum_congr rfl fun k _ => ?_)
  refine (mul_at _ _ _).trans ?_
  rw [ownHat_apply, slice3_apply _ _ _ _ _ _ _ _ I J k hI hJ (by omega)]

/-! ## The passes -/

theorem bestVec_apply {D : Nat} (s : Nat → FVec Ideal (P2 h w) .f32) (j : (P2 h w).Idx) (σ : Fin D → EReal)
    (hσ : ∀ dd : Fin D, s dd.val j = σ dd) : ((bestVec h w s D).1 j, (bestVec h w s D).2 j) = best σ := by
  have h0 : ((bestVec h w s 0).1 j, (bestVec h w s 0).2 j) = ((⊥ : EReal), 0#32) := by
    refine Prod.ext ?_ rfl
    exact neg_inf
  unfold best
  rw [← h0]
  refine (foldl_finRange (bestStep σ) (fun n => ((bestVec h w s n).1 j, (bestVec h w s n).2 j)) fun n hn => ?_).symm
  have e : cmpf .ogt (s n) (bestVec h w s n).1 j = BitVec.ofBool (decide ((bestVec h w s n).1 j < s n j)) := rfl
  have hn' : s n j = σ ⟨n, hn⟩ := hσ ⟨n, hn⟩
  refine Prod.ext ?_ ?_
  · show Scalar.select (cmpf .ogt (s n) (bestVec h w s n).1 j) (s n j) ((bestVec h w s n).1 j) = if (bestVec h w s n).1 j < _ then _ else _
    rw [e, hn']
    unfold Scalar.select
    by_cases hh : (bestVec h w s n).1 j < σ ⟨n, hn⟩ <;> simp [hh]
  · show Scalar.select (cmpf .ogt (s n) (bestVec h w s n).1 j) (BitVec.ofNat 32 n) ((bestVec h w s n).2 j) = if (bestVec h w s n).1 j < _ then _ else _
    rw [e, hn']
    unfold Scalar.select
    by_cases hh : (bestVec h w s n).1 j < σ ⟨n, hn⟩ <;> simp [hh]

theorem cmpi_eq_word (a b : BitVec 32) : IntOp.cmpi .eq a b = if a = b then 1#1 else 0#1 := by
  unfold IntOp.cmpi
  by_cases e : a = b <;> simp [e, beq_eq_false_iff_ne.mpr]

theorem passVec_apply {D : Nat} (s : Nat → FVec Ideal (P2 h w) .f32) (j : (P2 h w).Idx)
    (st : (Fin D → EReal) × (Fin D → EReal)) (a : EReal) (hσ : ∀ dd : Fin D, s dd.val j = st.2 dd) (dd : Fin D) :
    passVec h w D s dd.val j = (pass a st).2 dd := by
  show Scalar.select (IntOp.cmpi .eq ((bestVec h w s D).2 j) (BitVec.ofNat 32 dd.val)) (Ideal.ofBits .f32 0xFF800000#32)
    (s dd.val j) = if (best st.2).2 = _ then ⊥ else st.2 dd
  rw [← bestVec_apply s j st.2 hσ, cmpi_eq_word, hσ, neg_inf]
  unfold Scalar.select
  by_cases hh : (bestVec h w s D).2 j = BitVec.ofNat 32 dd.val <;> simp [hh]

theorem weightVec_apply {D : Nat} (s : Nat → FVec Ideal (P2 h w) .f32) (j : (P2 h w).Idx)
    (st : (Fin D → EReal) × (Fin D → EReal)) (a : EReal) (hσ : ∀ dd : Fin D, s dd.val j = st.2 dd)
    (wm : FVec Ideal (P2 h w) .f32) (dd : Fin D) (hw : wm j = st.1 dd) :
    weightVec h w D a s wm dd.val j = (pass a st).1 dd := by
  show wm j + a * (FloatOps.sitofp (F := Ideal) .f32
    ((IntOp.cmpi .eq ((bestVec h w s D).2 j) (BitVec.ofNat 32 dd.val)).setWidth 32))
      = st.1 dd + a * (if (best st.2).2 = _ then 1 else 0)
  rw [← bestVec_apply s j st.2 hσ, cmpi_eq_word, hw]
  by_cases hh : (bestVec h w s D).2 j = BitVec.ofNat 32 dd.val
  · rw [if_pos hh, if_pos hh]
    exact congrArg (fun t => st.1 dd + a * t) (by show (((1#1).setWidth 32).toInt : ℝ) = (1 : EReal); simp)
  · rw [if_neg hh, if_neg hh]
    exact congrArg (fun t => st.1 dd + a * t) (by show (((0#1).setWidth 32).toInt : ℝ) = (0 : EReal); simp)

/-- The weights the four passes give an offset. -/
theorem weights_apply {D : Nat} (s : Nat → FVec Ideal (P2 h w) .f32) (j : (P2 h w).Idx) (σ : Fin D → EReal)
    (a : Fin 4 → EReal) (hσ : ∀ dd : Fin D, s dd.val j = σ dd) (dd : Fin D) :
    weights h w D (a 0) (a 1) (a 2) (a 3) s dd.val j
      = (pass (a 3) (pass (a 2) (pass (a 1) (pass (a 0) (fun _ => 0, σ))))).1 dd := by
  have h1 := fun dd => passVec_apply s j (fun _ => 0, σ) (a 0) hσ dd
  have h2 := fun dd => passVec_apply _ j _ (a 1) h1 dd
  have h3 := fun dd => passVec_apply _ j _ (a 2) h2 dd
  unfold weights
  refine weightVec_apply _ _ _ _ h3 _ _ (weightVec_apply _ _ _ _ h2 _ _ (weightVec_apply _ _ _ _ h1 _ _
    (weightVec_apply _ _ (fun _ => 0, σ) _ hσ _ dd ?_)))
  exact zero_bits

theorem sumVec_succ (f : PatchFits hA wA h w) (g : WindowFits H W h w d) (wm : Nat → FVec Ideal (P2 h w) .f32)
    (b : FVec Ideal (P3 H W 288) .f32) (n : Nat) (j : (P3 h w 288).Idx) :
    sumVec hA wA h w H W d f g wm b (n + 1) j = sumVec hA wA h w H W d f g wm b n j
      + broadcastTo (P3 h w 288) (shapeCast (P3 h w 1) (wm n) f.k) f.b j
        * extractStridedSlice (P3 h w 288) ![n / d % d, n % d, 0] b (g.s3 n) j := rfl

/-- The weighted sum of the window's patches at one pixel and channel. -/
theorem sumVec_apply {D : Nat} (hd : D = d * d) (f : PatchFits hA wA h w) (g : WindowFits H W h w d) (s : Nat → FVec Ideal (P2 h w) .f32)
    (a : Fin 4 → EReal) (b : FVec Ideal (P3 H W 288) .f32) (y : Fin h) (z : Fin w) (k : Fin 288) (σ : Fin D → EReal)
    (hσ : ∀ dd : Fin D, s dd.val (ix2 y z) = σ dd) (I : Fin D → Fin H) (J : Fin D → Fin W)
    (hI : ∀ dd, (I dd).val = dd.val / d + y.val) (hJ : ∀ dd, (J dd).val = dd.val % d + z.val) :
    sumVec hA wA h w H W d f g (weights h w D (a 0) (a 1) (a 2) (a 3) s) b D (ix3 y z k)
      = passSum a σ (fun dd => b (ix3 (I dd) (J dd) k)) := by
  have hwm := weights_apply s (ix2 y z) σ a hσ
  generalize weights h w D (a 0) (a 1) (a 2) (a 3) s = wm at hwm ⊢
  have h0 : sumVec hA wA h w H W d f g wm b 0 (ix3 y z k) = 0 := by exact zero_bits
  have key := foldl_finRange (D := D) (fun acc dd => acc
    + (pass (a 3) (pass (a 2) (pass (a 1) (pass (a 0) (fun _ => 0, σ))))).1 dd * b (ix3 (I dd) (J dd) k))
    (fun n => sumVec hA wA h w H W d f g wm b n (ix3 y z k)) fun n hn => by
      have hdd : n / d % d = n / d := Nat.mod_eq_of_lt (Nat.div_lt_of_lt_mul (hd ▸ hn))
      rw [sumVec_succ, column_apply, slice3_apply _ _ _ _ _ _ _ _ (I ⟨n, hn⟩) (J ⟨n, hn⟩) k (by rw [hdd, hI]) (hJ _) (by omega),
        hwm ⟨n, hn⟩]
  rw [h0] at key
  exact key.symm

/-! ## The projection and the sum over the nine copies -/

theorem projVec_apply (r : Nat) (e : ProjFits hA wA HB WB h w n r) (x : FVec Ideal (P3 hA wA 32) .f32)
    (y : FVec Ideal (P3 HB WB 32) .f32) (wt : FVec Ideal (P2 64 288) .f32) (bi : FVec Ideal (P2 1 288) .f32)
    (i : Fin h) (j : Fin w) (k : Fin 288) (IA : Fin hA) (JA : Fin wA) (IB : Fin HB) (JB : Fin WB)
    (hIA : IA.val = 1 + i.val) (hJA : JA.val = 1 + j.val) (hIB : IB.val = r + i.val) (hJB : JB.val = r + j.val)
    (hn : n = h * w) :
    projVec hA wA HB WB h w n r e x y wt bi (ix3 i j k)
      = (∑ q : Fin 64, (if hq : q.val < 32 then x (ix3 IA JA ⟨q.val, hq⟩) else y (ix3 IB JB ⟨q.val - 32, by omega⟩)) * wt (ix2 q k))
        + bi (ix2 0 k) := by
  have hrow : i.val * w + j.val < n := by
    have := Nat.mul_le_mul_right w (Nat.succ_le_of_lt i.isLt)
    rw [Nat.succ_mul] at this
    have := j.isLt
    omega
  unfold projVec
  rw [shapeCast_apply _ _ _ (ix2 ⟨i.val * w + j.val, hrow⟩ k) ?_]
  · have hdot := Ideal.matmul_apply₁_of (projDot n e.d) (a := 1) rfl (K := 64) rfl
      (shapeCast (P2 n 64) (concatenate (P3 h w 64) 2
          [⟨P3 h w 32, extractStridedSlice (P3 h w 32) ![1, 1, 0] x e.sa⟩,
           ⟨P3 h w 32, extractStridedSlice (P3 h w 32) ![r, r, 0] y e.sb⟩] e.c) e.k)
      wt (constant (F := Ideal) (P2 n 288) .f32 0x00000000#32) (ix2 ⟨i.val * w + j.val, hrow⟩ k)
      (fun q => ix2 ⟨i.val * w + j.val, hrow⟩ q) (fun q => ix2 q k)
      (fun q => by rw [Shape.Idx.norm2]; rfl) (fun q => by rw [Shape.Idx.norm2]; rfl)
    refine (congrArg₂ (· + ·) hdot (broadcastTo_apply _ _ _ (ix2 0 k) fun a => by fin_cases a <;> rfl)).trans ?_
    rw [show constant (F := Ideal) (P2 n 288) .f32 0x00000000#32 (ix2 ⟨i.val * w + j.val, hrow⟩ k) = 0 from zero_bits, zero_add]
    refine congrArg (· + _) (Finset.sum_congr rfl fun q _ => congrArg (· * _) ?_)
    rw [shapeCast_apply _ _ _ (ix3 i j q) (by rw [Shape.rowMajor_val_two, Shape.rowMajor_val_three]; rfl)]
    by_cases hq : q.val < 32
    · rw [dif_pos hq]
      refine (concatenate_pair_apply_left (t := P3 h w 64) (s₁ := P3 h w 32) (s₂ := P3 h w 32) (2 : Fin 3) _ _ _ _ rfl (ix3 i j ⟨q.val, hq⟩)
        (fun b => by fin_cases b <;> rfl)).trans ?_
      rw [slice3_apply _ _ _ _ _ _ _ _ IA JA ⟨q.val, hq⟩ hIA hJA (by simp)]
    · rw [dif_neg hq]
      refine (concatenate_pair_apply_right (t := P3 h w 64) (s₁ := P3 h w 32) (s₂ := P3 h w 32) (2 : Fin 3) _ _ _ _ rfl rfl
        (ix3 i j ⟨q.val - 32, by omega⟩) (fun b hb => by fin_cases b; exacts [rfl, rfl, absurd rfl hb])
        (by show q.val - 32 + 32 = q.val; omega)).trans ?_
      rw [slice3_apply _ _ _ _ _ _ _ _ IB JB ⟨q.val - 32, by omega⟩ hIB hJB (by simp)]
  · rw [Shape.rowMajor_val_two, Shape.rowMajor_val_three]
    rfl

theorem copy_apply (f : PatchFits hA wA h w) (x : FVec Ideal (P3 h w 288) .f32) (i : Fin h) (j : Fin w) (c : Fin 32) (p : Nat) (hp : p < 9) :
    extractStridedSlice (P3 h w 32) ![0, 0, p % 9 * 32] x (f.t p) (ix3 i j c) = x (ix3 i j ⟨p * 32 + c.val, by omega⟩) :=
  slice3_apply _ _ _ _ _ _ _ _ i j ⟨p * 32 + c.val, by omega⟩ (by omega) (by omega) (by rw [Nat.mod_eq_of_lt hp])

theorem foldVec_succ (f : PatchFits hA wA h w) (x y : FVec Ideal (P3 h w 288) .f32) (k : Nat) (j : (P3 h w 32).Idx) :
    foldVec hA wA h w f x y (k + 1) j = foldVec hA wA h w f x y k j
      + extractStridedSlice (P3 h w 32) ![0, 0, (k + 1) % 9 * 32] x (f.t (k + 1)) j
        * extractStridedSlice (P3 h w 32) ![0, 0, (k + 1) % 9 * 32] y (f.t (k + 1)) j := rfl

/-- The products summed over the copies up to the last one taken. -/
theorem foldVec_apply (f : PatchFits hA wA h w) (x y : FVec Ideal (P3 h w 288) .f32) (i : Fin h) (j : Fin w) (c : Fin 32) (k : Nat)
    (hk : k < 9) :
    foldVec hA wA h w f x y k (ix3 i j c) = ∑ p : Fin (k + 1),
      x (ix3 i j ⟨p.val * 32 + c.val, by omega⟩) * y (ix3 i j ⟨p.val * 32 + c.val, by omega⟩) := by
  induction k with
  | zero =>
    rw [Fin.sum_univ_one]
    exact congrArg₂ (· * ·) (copy_apply f x i j c 0 (by omega)) (copy_apply f y i j c 0 (by omega))
  | succ k ih =>
    rw [Fin.sum_univ_castSucc, foldVec_succ, ih (by omega), copy_apply f x i j c (k + 1) hk, copy_apply f y i j c (k + 1) hk]
    rfl

/-- The unit at one pixel and channel: over the nine copies, the weighted four best patches plus the bias, times the projection. -/
theorem unitVec_apply {D r : Nat} (hd : D = d * d) (h4 : 4 ≤ D) (hD : D ≤ 2 ^ 32) (hn : n = h * w)
    (fa : PatchFits hA wA h w) (fb : PatchFits HB WB H W) (g : WindowFits H W h w d)
    (e : ProjFits hA wA HB WB h w n r) (y ht cl ch : BitVec 32) (A : FVec Ideal (P3 hA wA 32) .f32)
    (B : FVec Ideal (P3 HB WB 32) .f32) (a : Fin 4 → EReal) (ab : EReal)
    (wt : FVec Ideal (P2 64 288) .f32) (bi : FVec Ideal (P2 1 288) .f32) (i : Fin h) (j : Fin w) (c : Fin 32)
    (I : Fin D → Fin H) (J : Fin D → Fin W) (hI : ∀ dd, (I dd).val = dd.val / d + i.val) (hJ : ∀ dd, (J dd).val = dd.val % d + j.val)
    (IA : Fin hA) (JA : Fin wA) (IB : Fin HB) (JB : Fin WB)
    (hIA : IA.val = 1 + i.val) (hJA : JA.val = 1 + j.val) (hIB : IB.val = r + i.val) (hJB : JB.val = r + j.val)
    (av : Fin 288 → EReal) (hav : ∀ k, patches hA wA h w fa A (ix3 i j k) = av k)
    (bv : Fin D → Fin 288 → EReal) (hbv : ∀ dd k, searched HB WB H W fb y ht cl ch B (ix3 (I dd) (J dd) k) = bv dd k)
    (ca cb : Fin 32 → EReal) (hca : ∀ k, A (ix3 IA JA k) = ca k) (hcb : ∀ k, B (ix3 IB JB k) = cb k) :
    unitVec hA wA HB WB h w H W n d D r fa fb g e y ht cl ch A B (a 0) (a 1) (a 2) (a 3) ab wt bi (ix3 i j c)
      = ∑ p : Fin 9,
        (∑ s : Fin 4, a s * bv (nth (fun dd => sim floor av (bv dd)) (s.castLE h4)) ⟨p.val * 32 + c.val, by omega⟩ + ab)
        * (∑ q : Fin 64, (if hq : q.val < 32 then ca ⟨q.val, hq⟩ else cb ⟨q.val - 32, by omega⟩)
            * wt (ix2 q ⟨p.val * 32 + c.val, by omega⟩) + bi (ix2 0 ⟨p.val * 32 + c.val, by omega⟩)) := by
  obtain ⟨ε, hε, hfl⟩ := floor_real
  unfold unitVec
  rw [foldVec_apply _ _ _ _ _ _ _ (by omega)]
  refine Finset.sum_congr rfl fun p _ => ?_
  rw [projVec_apply r e A B wt bi i j _ IA JA IB JB hIA hJA hIB hJB hn]
  refine congrArg₂ (· * ·) ?_ ?_
  · refine (congrArg (· + ab) ((sumVec_apply hd fa g _ a _ i j _ (fun dd => sim floor av (bv dd)) ?_ I J hI hJ).trans ?_))
    · intro dd
      have hdd : dd.val / d % d = dd.val / d := Nat.mod_eq_of_lt (Nat.div_lt_of_lt_mul (hd ▸ dd.isLt))
      rw [simAt_apply fa fb g A _ _ i j (I dd) (J dd) (by rw [hdd, hI]) (hJ _), hfl, simOut_eq ε hε]
      simp only [hav, hbv]
    · rw [passSum_eq _ _ _ (fun dd => by rw [hfl]; exact sim_pos ε hε _ _) h4 hD]
      simp only [hbv]
  · simp only [hca, hcb]

end
end Cert.Agg
-- ==== Proof.KernelUp.lean ====
module

public import proofs.«01_k».proof.Proof.UpSpec
public import proofs.«01_k».proof.Proof.Pixel

/-!
The four quadrants the kernel writes of a doubled plane, pixel by pixel.
-/

@[expose] public section

set_option maxRecDepth 16384

noncomputable section

namespace Cert.Agg

open Idealize.ShloMosaic

theorem quarter_f32 : Ideal.ofBits .f32 0x3E800000#32 = ((1 / 4 : ℝ) : EReal) := by
  simp [Ideal.ofBits, Ideal.ieee, -EReal.coe_mul]; norm_num

theorem threeQuarters_f32 : Ideal.ofBits .f32 0x3F400000#32 = ((3 / 4 : ℝ) : EReal) := by
  simp [Ideal.ofBits, Ideal.ieee, -EReal.coe_mul]; norm_num

variable {h w : Nat}

theorem quarterOf_apply (x y : FVec Ideal (P3 h w 32) .f32) (j : (P3 h w 32).Idx) :
    quarterOf h w x y j = ((1 / 4 : ℝ) : EReal) * x j + ((3 / 4 : ℝ) : EReal) * y j := by
  have e : quarterOf h w x y j = Ideal.ofBits .f32 0x3E800000#32 * x j + Ideal.ofBits .f32 0x3F400000#32 * y j := rfl
  rw [e, quarter_f32, threeQuarters_f32]

theorem threeQuartersOf_apply (x y : FVec Ideal (P3 h w 32) .f32) (j : (P3 h w 32).Idx) :
    threeQuartersOf h w x y j = ((3 / 4 : ℝ) : EReal) * x j + ((1 / 4 : ℝ) : EReal) * y j := by
  have e : threeQuartersOf h w x y j = Ideal.ofBits .f32 0x3F400000#32 * x j + Ideal.ofBits .f32 0x3E800000#32 * y j := rfl
  rw [e, quarter_f32, threeQuarters_f32]

variable {h' w' : Nat} (u : UpFits h w h' w') (x : FVec Ideal (P3 h w 32) .f32)

theorem above_apply (hh : h = h' + 1) (y : Fin h) (z : Fin w) (c : Fin 32) :
    above h w h' w' u x (ix3 y z c) = x (ix3 ⟨y.val - 1, by omega⟩ z c) := by
  unfold above
  by_cases hy : y.val = 0
  · refine (concatenate_pair_apply_left (t := P3 h w 32) (s₁ := P3 1 w 32) (s₂ := P3 h' w 32) (0 : Fin 3) _ _ _ _ rfl (ix3 ⟨y.val, by omega⟩ z c)
      (fun b => match b with | ⟨0, _⟩ => rfl | ⟨1, _⟩ => rfl | ⟨2, _⟩ => rfl)).trans ?_
    exact slice3_apply _ _ _ _ _ _ _ _ _ _ _ (by show y.val - 1 = 0 + y.val; omega) (by omega) (by omega)
  · refine (concatenate_pair_apply_right (t := P3 h w 32) (s₁ := P3 1 w 32) (s₂ := P3 h' w 32) (0 : Fin 3) _ _ _ _ rfl rfl (ix3 ⟨y.val - 1, by omega⟩ z c)
      (fun b hb => match b with | ⟨0, _⟩ => absurd rfl hb | ⟨1, _⟩ => rfl | ⟨2, _⟩ => rfl) (by show y.val - 1 + 1 = y.val; omega)).trans ?_
    exact slice3_apply _ _ _ _ _ _ _ _ _ _ _ (by show y.val - 1 = 0 + (y.val - 1); omega) (by omega) (by omega)

theorem below_apply (hh : h = h' + 1) (y : Fin h) (z : Fin w) (c : Fin 32) :
    below h w h' w' u x (ix3 y z c) = x (ix3 ⟨min (y.val + 1) (h - 1), by omega⟩ z c) := by
  unfold below
  by_cases hy : y.val < h'
  · refine (concatenate_pair_apply_left (t := P3 h w 32) (s₁ := P3 h' w 32) (s₂ := P3 1 w 32) (0 : Fin 3) _ _ _ _ rfl (ix3 ⟨y.val, hy⟩ z c)
      (fun b => match b with | ⟨0, _⟩ => rfl | ⟨1, _⟩ => rfl | ⟨2, _⟩ => rfl)).trans ?_
    exact slice3_apply _ _ _ _ _ _ _ _ _ _ _ (by show min (y.val + 1) (h - 1) = 1 + y.val; omega) (by omega) (by omega)
  · refine (concatenate_pair_apply_right (t := P3 h w 32) (s₁ := P3 h' w 32) (s₂ := P3 1 w 32) (0 : Fin 3) _ _ _ _ rfl rfl (ix3 ⟨y.val - h', by omega⟩ z c)
      (fun b hb => match b with | ⟨0, _⟩ => absurd rfl hb | ⟨1, _⟩ => rfl | ⟨2, _⟩ => rfl) (by show y.val - h' + h' = y.val; omega)).trans ?_
    exact slice3_apply _ _ _ _ _ _ _ _ _ _ _ (by show min (y.val + 1) (h - 1) = h' + (y.val - h'); omega) (by omega) (by omega)

theorem leftOf_apply (hw : w = w' + 1) (y : Fin h) (z : Fin w) (c : Fin 32) :
    leftOf h w h' w' u x (ix3 y z c) = x (ix3 y ⟨z.val - 1, by omega⟩ c) := by
  unfold leftOf
  by_cases hz : z.val = 0
  · refine (concatenate_pair_apply_left (t := P3 h w 32) (s₁ := P3 h 1 32) (s₂ := P3 h w' 32) (1 : Fin 3) _ _ _ _ rfl (ix3 y ⟨z.val, by omega⟩ c)
      (fun b => match b with | ⟨0, _⟩ => rfl | ⟨1, _⟩ => rfl | ⟨2, _⟩ => rfl)).trans ?_
    exact slice3_apply _ _ _ _ _ _ _ _ _ _ _ (by omega) (by show z.val - 1 = 0 + z.val; omega) (by omega)
  · refine (concatenate_pair_apply_right (t := P3 h w 32) (s₁ := P3 h 1 32) (s₂ := P3 h w' 32) (1 : Fin 3) _ _ _ _ rfl rfl (ix3 y ⟨z.val - 1, by omega⟩ c)
      (fun b hb => match b with | ⟨0, _⟩ => rfl | ⟨1, _⟩ => absurd rfl hb | ⟨2, _⟩ => rfl) (by show z.val - 1 + 1 = z.val; omega)).trans ?_
    exact slice3_apply _ _ _ _ _ _ _ _ _ _ _ (by omega) (by show z.val - 1 = 0 + (z.val - 1); omega) (by omega)

theorem rightOf_apply (hw : w = w' + 1) (y : Fin h) (z : Fin w) (c : Fin 32) :
    rightOf h w h' w' u x (ix3 y z c) = x (ix3 y ⟨min (z.val + 1) (w - 1), by omega⟩ c) := by
  unfold rightOf
  by_cases hz : z.val < w'
  · refine (concatenate_pair_apply_left (t := P3 h w 32) (s₁ := P3 h w' 32) (s₂ := P3 h 1 32) (1 : Fin 3) _ _ _ _ rfl (ix3 y ⟨z.val, hz⟩ c)
      (fun b => match b with | ⟨0, _⟩ => rfl | ⟨1, _⟩ => rfl | ⟨2, _⟩ => rfl)).trans ?_
    exact slice3_apply _ _ _ _ _ _ _ _ _ _ _ (by omega) (by show min (z.val + 1) (w - 1) = 1 + z.val; omega) (by omega)
  · refine (concatenate_pair_apply_right (t := P3 h w 32) (s₁ := P3 h w' 32) (s₂ := P3 h 1 32) (1 : Fin 3) _ _ _ _ rfl rfl (ix3 y ⟨z.val - w', by omega⟩ c)
      (fun b hb => match b with | ⟨0, _⟩ => rfl | ⟨1, _⟩ => absurd rfl hb | ⟨2, _⟩ => rfl) (by show z.val - w' + w' = z.val; omega)).trans ?_
    exact slice3_apply _ _ _ _ _ _ _ _ _ _ _ (by omega) (by show min (z.val + 1) (w - 1) = w' + (z.val - w'); omega) (by omega)

theorem evenCols_apply (hw : w = w' + 1) (y : Fin h) (z : Fin w) (c : Fin 32) (o : Fin (2 * w)) (ho : o.val = 2 * z.val) :
    evenCols h w h' w' u x (ix4 (0 : Fin 1) y z c) = blend (fun z' => x (ix3 y z' c)) o := by
  unfold evenCols
  rw [shapeCast_apply _ _ _ (ix3 y z c) (by rw [Shape.rowMajor_val_three, Shape.rowMajor_val_four]; simp), quarterOf_apply, leftOf_apply u x hw,
    blend_even _ z o ho]

theorem oddCols_apply (hw : w = w' + 1) (y : Fin h) (z : Fin w) (c : Fin 32) (o : Fin (2 * w)) (ho : o.val = 2 * z.val + 1) :
    oddCols h w h' w' u x (ix4 (0 : Fin 1) y z c) = blend (fun z' => x (ix3 y z' c)) o := by
  unfold oddCols
  rw [shapeCast_apply _ _ _ (ix3 y z c) (by rw [Shape.rowMajor_val_three, Shape.rowMajor_val_four]; simp), threeQuartersOf_apply, rightOf_apply u x hw,
    blend_odd _ z o ho]

theorem evenRows_apply (hh : h = h' + 1) (y : Fin h) (z : Fin w) (c : Fin 32) (o : Fin (2 * h)) (ho : o.val = 2 * y.val) :
    quarterOf h w (above h w h' w' u x) x (ix3 y z c) = blend (fun y' => x (ix3 y' z c)) o := by
  rw [quarterOf_apply, above_apply u x hh, blend_even _ y o ho]

theorem oddRows_apply (hh : h = h' + 1) (y : Fin h) (z : Fin w) (c : Fin 32) (o : Fin (2 * h)) (ho : o.val = 2 * y.val + 1) :
    threeQuartersOf h w x (below h w h' w' u x) (ix3 y z c) = blend (fun y' => x (ix3 y' z c)) o := by
  rw [threeQuartersOf_apply, below_apply u x hh, blend_odd _ y o ho]

/-- Quadrant `q` holds the doubled plane's pixels whose row and column parities are `q / 2` and `q % 2`. -/
theorem upVec_apply (hh : h = h' + 1) (hw : w = w' + 1) (q : Fin 4) (y : Fin h) (z : Fin w) (c : Fin 32) (o : Fin (2 * h)) (p : Fin (2 * w))
    (ho : o.val = 2 * y.val + q.val / 2) (hp : p.val = 2 * z.val + q.val % 2) :
    upVec h w h' w' u x (ix5 (0 : Fin 1) q y z c) = upAt (fun y' z' => x (ix3 y' z' c)) o p := by
  unfold upVec upAt
  rw [shapeCast_apply _ _ _ (ix4 q y z c) (by rw [Shape.rowMajor_val_four, Shape.rowMajor_val_five]; simp)]
  have off : ∀ b : Fin (P4 1 h w).rank, b.cast (rfl : (P4 1 h w).rank = (P4 4 h w).rank) ≠ 0 →
      ((ix4 (0 : Fin 1) y z c : (P4 1 h w).Idx) b).val = ((ix4 q y z c : (P4 4 h w).Idx) (b.cast rfl)).val :=
    fun b hb => match b with | ⟨0, _⟩ => absurd rfl hb | ⟨1, _⟩ => rfl | ⟨2, _⟩ => rfl | ⟨3, _⟩ => rfl
  match q, off, ho, hp with
  | ⟨0, _⟩, off, ho, hp =>
    refine (concatenate_apply_piece (t := P4 4 h w) (0 : Fin 4) _ _ _ 0 (by show 0 < 4; omega) (P4 1 h w) _ rfl rfl 0 rfl (ix4 (0 : Fin 1) y z c) off rfl).trans ?_
    rw [evenCols_apply u _ hw y z c p (by simpa using hp)]
    exact congrArg (blend · p) (funext fun z' => evenRows_apply u x hh y z' c o (by simpa using ho))
  | ⟨1, _⟩, off, ho, hp =>
    refine (concatenate_apply_piece (t := P4 4 h w) (0 : Fin 4) _ _ _ 1 (by show 1 < 4; omega) (P4 1 h w) _ rfl rfl 1 rfl (ix4 (0 : Fin 1) y z c) off rfl).trans ?_
    rw [oddCols_apply u _ hw y z c p (by simpa using hp)]
    exact congrArg (blend · p) (funext fun z' => evenRows_apply u x hh y z' c o (by simpa using ho))
  | ⟨2, _⟩, off, ho, hp =>
    refine (concatenate_apply_piece (t := P4 4 h w) (0 : Fin 4) _ _ _ 2 (by show 2 < 4; omega) (P4 1 h w) _ rfl rfl 2 rfl (ix4 (0 : Fin 1) y z c) off rfl).trans ?_
    rw [evenCols_apply u _ hw y z c p (by simpa using hp)]
    exact congrArg (blend · p) (funext fun z' => oddRows_apply u x hh y z' c o (by simpa using ho))
  | ⟨3, _⟩, off, ho, hp =>
    refine (concatenate_apply_piece (t := P4 4 h w) (0 : Fin 4) _ _ _ 3 (by show 3 < 4; omega) (P4 1 h w) _ rfl rfl 3 rfl (ix4 (0 : Fin 1) y z c) off rfl).trans ?_
    rw [oddCols_apply u _ hw y z c p (by simpa using hp)]
    exact congrArg (blend · p) (funext fun z' => oddRows_apply u x hh y z' c o (by simpa using ho))

theorem double_row {n : Nat} (y : Fin n) (q : Fin 4) : 2 * y.val + q.val / 2 < 2 * n := by omega
theorem double_col {n : Nat} (y : Fin n) (q : Fin 4) : 2 * y.val + q.val % 2 < 2 * n := by omega

/-- The pixel of quadrant `q` of the doubled image. -/
def quadrantAt (A : Fin h → Fin w → EReal) (q : Fin 4) (y : Fin h) (z : Fin w) : EReal :=
  upAt A ⟨2 * y.val + q.val / 2, double_row y q⟩ ⟨2 * z.val + q.val % 2, double_col z q⟩

end Cert.Agg
-- ==== Proof.Spec.lean ====
module

public import proofs.«01_k».proof.Proof.Similarity
public import proofs.«01_k».proof.Proof.Pixel

/-!
The value of one level's aggregation at a pixel, over plain functions of a channel and a pixel: what both the kernel's
blocks and the reference's operations are shown to compute.
-/

@[expose] public section

noncomputable section

namespace Cert.Agg

open Idealize.ShloMosaic

/-- An image of 32 channels with a border of one zero. -/
def tapAt {h w : Nat} (A : Fin 32 → Fin h → Fin w → EReal) (c : Fin 32) (Y X : Nat) : EReal :=
  if hin : (1 ≤ Y ∧ Y - 1 < h) ∧ 1 ≤ X ∧ X - 1 < w then A c ⟨Y - 1, hin.1.2⟩ ⟨X - 1, hin.2.2⟩ else 0

/-- The entry of the 3 × 3 patch at a pixel: channel `k / 9`, place `k % 9`. -/
def patchAt {h w : Nat} (A : Fin 32 → Fin h → Fin w → EReal) (y x : Nat) (k : Fin 288) : EReal :=
  tapAt A ⟨k.val / 9, by omega⟩ (y + k.val % 9 / 3) (x + k.val % 9 % 3)

/-- The patch at place `dd` of a pixel's `d × d` window: zero where the place is outside the image. -/
def windowAt {h w : Nat} (d r : Nat) {D : Nat} (B : Fin 32 → Fin h → Fin w → EReal) (y x : Nat) (dd : Fin D) (k : Fin 288) : EReal :=
  if (r ≤ y + dd.val / d ∧ y + dd.val / d - r < h) ∧ r ≤ x + dd.val % d ∧ x + dd.val % d - r < w then
    patchAt B (y + dd.val / d - r) (x + dd.val % d - r) k else 0

/-- One level's aggregation of a centre image and a frame, at a channel and a pixel. -/
def levelAt {h w : Nat} (d r D : Nat) (h4 : 4 ≤ D) (A B : Fin 32 → Fin h → Fin w → EReal) (a : Fin 4 → EReal) (ab : EReal)
    (wt : Fin 288 → Fin 64 → EReal) (wb : Fin 288 → EReal) (c : Fin 32) (y : Fin h) (x : Fin w) : EReal :=
  ∑ p : Fin 9,
    (∑ s : Fin 4, a s * windowAt d r B y x
        (nth (fun dd : Fin D => sim floor (patchAt A y x) (windowAt d r B y x dd)) (s.castLE h4)) ⟨c.val * 9 + p.val, by omega⟩ + ab)
      * (∑ q : Fin 64, (if hq : q.val < 32 then A ⟨q.val, hq⟩ y x else B ⟨q.val - 32, by omega⟩ y x)
          * wt ⟨c.val * 9 + p.val, by omega⟩ q + wb ⟨c.val * 9 + p.val, by omega⟩)

end Cert.Agg
-- ==== Proof.NetSpec.lean ====
module

public import proofs.«01_k».proof.Proof.Spec
public import proofs.«01_k».proof.Proof.UpSpec

/-!
The network's result, pixel by pixel: three levels of aggregation, each adding the doubled result of the one before, then
the mixing of the three frames' channels, whose results are spread over the pixels of a doubled image.
-/

@[expose] public section

set_option maxRecDepth 16384

noncomputable section

namespace Cert.Agg

open Idealize.ShloMosaic

/-- Channel `k` of the mixing of three frames' thirty-two channels each, at a pixel. -/
def mixAt (A : Fin 3 → Fin 32 → Fin 40 → Fin 40 → EReal) (w : Fin 128 → Fin 96 → EReal) (b : Fin 128 → EReal) (y x : Fin 40) (k : Fin 128) : EReal :=
  (∑ q : Fin 96, A ⟨q.val / 32, by omega⟩ ⟨q.val % 32, by omega⟩ y x * w k q) + b k

/-- The channel of the mixing that lands on a pixel of the doubled image. -/
def spreadChannel (c : Fin 32) (Y X : Fin 80) : Fin 128 := ⟨c.val * 4 + (Y.val % 2 * 2 + X.val % 2), by omega⟩
/-- The pixel that a row or column of the doubled image comes from. -/
def halved (Y : Fin 80) : Fin 40 := ⟨Y.val / 2, by omega⟩

/-- The frames of a group of features: frame, channel, row, column. -/
def frames {H : Nat} (x : (⟨5, ![1, 32, 3, H, H]⟩ : Shape).Idx → EReal) (t : Fin 3) (c : Fin 32) (y z : Fin H) : EReal := x (ix5 (0 : Fin 1) c t y z)

/-- One level: each frame, and the middle one, with what the level before adds to the frame, aggregated. -/
def aggregated {H : Nat} (d r D : Nat) (h4 : 4 ≤ D) (S T : Fin 3 → Fin 32 → Fin H → Fin H → EReal) (a : (⟨1, ![4]⟩ : Shape).Idx → EReal)
    (ab : (⟨1, ![1]⟩ : Shape).Idx → EReal) (wt : (⟨2, ![288, 64]⟩ : Shape).Idx → EReal) (wb : (⟨1, ![288]⟩ : Shape).Idx → EReal)
    (t : Fin 3) : Fin 32 → Fin H → Fin H → EReal :=
  levelAt d r D h4 (fun c y x => S 1 c y x + T t c y x) (fun c y x => S t c y x + T t c y x) (fun s => a (ix1 s)) (ab (ix1 0))
    (fun k q => wt (ix2 k q)) (fun k => wb (ix1 k))

/-- What the third level adds to the second. -/
def third (x2 : (⟨5, ![1, 32, 3, 10, 10]⟩ : Shape).Idx → EReal) (x3 : (⟨1, ![4]⟩ : Shape).Idx → EReal)
    (x4 : (⟨1, ![1]⟩ : Shape).Idx → EReal) (x5 : (⟨2, ![288, 64]⟩ : Shape).Idx → EReal) (x6 : (⟨1, ![288]⟩ : Shape).Idx → EReal)
    (t : Fin 3) (c : Fin 32) (y x : Fin 20) : EReal :=
  upAt (h := 10) (w := 10) (aggregated 3 1 9 (by decide) (frames x2) (fun _ _ _ _ => 0) x3 x4 x5 x6 t c) y x

/-- What the second level adds to the first. -/
def second (x1 : (⟨5, ![1, 32, 3, 20, 20]⟩ : Shape).Idx → EReal) (T : Fin 3 → Fin 32 → Fin 20 → Fin 20 → EReal) (x7 : (⟨1, ![4]⟩ : Shape).Idx → EReal)
    (x8 : (⟨1, ![1]⟩ : Shape).Idx → EReal) (x9 : (⟨2, ![288, 64]⟩ : Shape).Idx → EReal) (x10 : (⟨1, ![288]⟩ : Shape).Idx → EReal)
    (t : Fin 3) (c : Fin 32) (y x : Fin 40) : EReal :=
  upAt (h := 20) (w := 20) (aggregated 5 2 25 (by decide) (frames x1) T x7 x8 x9 x10 t c) y x

/-- The first level and the mixing: the result. -/
def result (x0 : (⟨5, ![1, 32, 3, 40, 40]⟩ : Shape).Idx → EReal) (T : Fin 3 → Fin 32 → Fin 40 → Fin 40 → EReal) (x11 : (⟨1, ![4]⟩ : Shape).Idx → EReal)
    (x12 : (⟨1, ![1]⟩ : Shape).Idx → EReal) (x13 : (⟨2, ![288, 64]⟩ : Shape).Idx → EReal) (x14 : (⟨1, ![288]⟩ : Shape).Idx → EReal)
    (x15 : (⟨2, ![128, 96]⟩ : Shape).Idx → EReal) (x16 : (⟨1, ![128]⟩ : Shape).Idx → EReal) (c : Fin 32) (Y X : Fin 80) : EReal :=
  mixAt (aggregated 7 3 49 (by decide) (frames x0) T x11 x12 x13 x14) (fun k q => x15 (ix2 k q)) (fun k => x16 (ix1 k))
    (halved Y) (halved X) (spreadChannel c Y X)

end Cert.Agg
-- ==== Proof.KernelLevel.lean ====
module

public import proofs.«01_k».proof.Proof.Spec

/-!
The kernel's aggregation unit, of blocks cut out of images with a border of zeros, is the aggregation of `Proof/Spec.lean`.
-/

@[expose] public section

set_option maxRecDepth 16384

noncomputable section

namespace Cert.Agg

open Idealize.ShloMosaic

/-- An image of 32 channels with a border of `m` zeros. -/
def paddedAt {h w : Nat} (m : Nat) (A : Fin 32 → Fin h → Fin w → EReal) (c : Fin 32) (Y X : Nat) : EReal :=
  if hin : (m ≤ Y ∧ Y - m < h) ∧ m ≤ X ∧ X - m < w then A c ⟨Y - m, hin.1.2⟩ ⟨X - m, hin.2.2⟩ else 0

theorem paddedAt_eq {h w : Nat} {r m : Nat} (hm : m = r + 1) (A : Fin 32 → Fin h → Fin w → EReal) (c : Fin 32) (Y X Y' X' : Nat)
    (hY : Y = r + Y') (hX : X = r + X') : paddedAt m A c Y X = tapAt A c Y' X' := by
  subst hY hX hm
  unfold paddedAt tapAt
  have e1 : r + Y' - (r + 1) = Y' - 1 := by omega
  have e2 : r + X' - (r + 1) = X' - 1 := by omega
  simp only [e1, e2, Nat.add_le_add_iff_left]

theorem paddedAt_in {h w : Nat} {m : Nat} (A : Fin 32 → Fin h → Fin w → EReal) (c : Fin 32) (Y X : Nat) (y : Fin h) (x : Fin w)
    (hY : Y = m + y.val) (hX : X = m + x.val) : paddedAt m A c Y X = A c y x := by
  subst hY hX
  have hy := y.isLt
  have hx := x.isLt
  unfold paddedAt
  rw [dif_pos (by omega)]
  exact congrArg₂ (A c) (Fin.ext (by simp)) (Fin.ext (by simp))

/-- The bit of a condition, as a number. -/
theorem bit_value (b : Bool) : ((((BitVec.ofBool b).setWidth 32).toInt : ℝ) : EReal) = if b = true then 1 else 0 := by
  cases b
  · simp
  · simp

theorem word_sum {a : Nat} (y : BitVec 32) {u : ℤ} (hy : y.toInt = u) (ha : a < 2 ^ 29) (hu : -2 ^ 29 < u ∧ u < 2 ^ 29) :
    (BitVec.ofNat 32 a + y).toInt = a + u := by
  have h1 : (BitVec.ofNat 32 a).toInt = a := by
    rw [BitVec.toInt_eq_toNat_of_lt (by rw [BitVec.toNat_ofNat]; omega), BitVec.toNat_ofNat]
    have : a % 2 ^ 32 = a := Nat.mod_eq_of_lt (by omega)
    omega
  rw [BitVec.toInt_add, hy, h1]
  exact Int.bmod_eq_of_le (by omega) (by omega)

theorem word_nat {a : Nat} (ha : a < 2 ^ 29) : (BitVec.ofNat 32 a).toInt = a := by
  rw [BitVec.toInt_eq_toNat_of_lt (by rw [BitVec.toNat_ofNat]; omega), BitVec.toNat_ofNat]
  have : a % 2 ^ 32 = a := Nat.mod_eq_of_lt (by omega)
  omega

/-- Inside the image the mask is one, outside it is zero. -/
theorem inside_apply {HB WB H W Ht Wt y0 r : Nat} (f : PatchFits HB WB H W) (y ht cl ch : BitVec 32) (i : Fin H) (j : Fin W)
    (hH : H < 2 ^ 29) (hW : W < 2 ^ 29) (h0 : y0 < 2 ^ 28) (hr : r < 2 ^ 28)
    (hy : y.toInt = (y0 : ℤ) - r) (hht : ht.toInt = Ht) (hcl : cl.toInt = r) (hch : ch.toInt = (r : ℤ) + Wt) :
    inside (F := Ideal) HB WB H W f y ht cl ch (ix2 i j)
      = if (r ≤ y0 + i.val ∧ y0 + i.val - r < Ht) ∧ r ≤ j.val ∧ j.val - r < Wt then 1 else 0 := by
  have hi := i.isLt
  have hj := j.isLt
  have e : inside (F := Ideal) HB WB H W f y ht cl ch (ix2 i j)
    = (((((((BitVec.ofBool ((0#32).sle (BitVec.ofNat 32 i.val + y)) &&& BitVec.ofBool ((BitVec.ofNat 32 i.val + y).slt ht))
      &&& BitVec.ofBool (cl.sle (BitVec.ofNat 32 j.val))) &&& BitVec.ofBool ((BitVec.ofNat 32 j.val).slt ch))).setWidth 32).toInt : ℝ) : EReal) := by
    have ei : iota .tc (P2 H W) 32 [0] f.i0 (ix2 i j) = BitVec.ofNat 32 i.val := by
      show BitVec.ofNat 32 (0 * H + i.val) = _; rw [Nat.zero_mul, Nat.zero_add]
    have ej : iota .tc (P2 H W) 32 [1] f.i1 (ix2 i j) = BitVec.ofNat 32 j.val := by
      show BitVec.ofNat 32 (0 * W + j.val) = _; rw [Nat.zero_mul, Nat.zero_add]
    rw [← ei, ← ej]
    rfl
  rw [e, BitVec.ofBool_and_ofBool, BitVec.ofBool_and_ofBool, BitVec.ofBool_and_ofBool, bit_value]
  refine if_congr ?_ rfl rfl
  have hs := word_sum (a := i.val) y hy (by omega) ⟨by omega, by omega⟩
  have hn := word_nat (a := j.val) (by omega)
  simp only [Bool.and_eq_true, BitVec.sle, BitVec.slt, decide_eq_true_eq, hs, hn, hht, hcl, hch]
  have hz : (0#32).toInt = 0 := rfl
  rw [hz]
  omega

/-- The similarity of two vectors read in another order. -/
theorem sim_equiv {K : Type} [Fintype K] (e : K ≃ K) (ε : EReal) (a b : K → EReal) :
    sim ε (fun k => a (e k)) (fun k => b (e k)) = sim ε a b := by
  have hn : ∀ v : K → EReal, nrm ε (fun k => v (e k)) = nrm ε v := fun v => by
    unfold nrm
    rw [Equiv.sum_comp e (fun k => v k * v k)]
  unfold sim unit
  rw [hn, hn]
  exact Equiv.sum_comp e (fun k => Ideal.div (a k) (nrm ε a) * Ideal.div (b k) (nrm ε b))

/-- From place by place and channel by channel to channel by channel and place by place. -/
def swapped : Fin 288 ≃ Fin 288 where
  toFun k := ⟨k.val % 32 * 9 + k.val / 32, by omega⟩
  invFun k := ⟨k.val % 9 * 32 + k.val / 9, by omega⟩
  left_inv k := by apply Fin.ext; show (k.val % 32 * 9 + k.val / 32) % 9 * 32 + (k.val % 32 * 9 + k.val / 32) / 9 = k.val; omega
  right_inv k := by apply Fin.ext; show (k.val % 9 * 32 + k.val / 9) % 32 * 9 + (k.val % 9 * 32 + k.val / 9) / 32 = k.val; omega

theorem swapped_place (p : Fin 9) (c : Fin 32) (h : p.val * 32 + c.val < 288) (h' : c.val * 9 + p.val < 288) :
    swapped ⟨p.val * 32 + c.val, h⟩ = ⟨c.val * 9 + p.val, h'⟩ := by
  apply Fin.ext
  show (p.val * 32 + c.val) % 32 * 9 + (p.val * 32 + c.val) / 32 = c.val * 9 + p.val
  omega

/-- Patches of a block that reads a bordered image. -/
theorem patches_block {hA wA h w Ht Wt : Nat} (f : PatchFits hA wA h w) (x : FVec Ideal (P3 hA wA 32) .f32)
    (A : Fin 32 → Fin Ht → Fin Wt → EReal) {r : Nat} (y0 x0 : Nat)
    (hx : ∀ (I : Fin hA) (J : Fin wA) (c : Fin 32), x (ix3 I J c) = paddedAt (r + 1) A c (y0 + I.val) (x0 + J.val))
    (hh : h + 2 = hA) (hw : w + 2 = wA) (i : Fin h) (j : Fin w) (Y X : Nat) (hY : y0 + i.val = r + Y) (hX : x0 + j.val = r + X)
    (k : Fin 288) : patches hA wA h w f x (ix3 i j k) = patchAt A Y X (swapped k) := by
  have hk := k.isLt
  have hi := i.isLt
  have hj := j.isLt
  rw [patches_apply f x i j k ⟨i.val + k.val / 32 / 3, by omega⟩ ⟨j.val + k.val / 32 % 3, by omega⟩ rfl rfl, hx]
  have e9 : (k.val % 32 * 9 + k.val / 32) % 9 = k.val / 32 := by omega
  have ed : (k.val % 32 * 9 + k.val / 32) / 9 = k.val % 32 := by omega
  have ec : (⟨(swapped k).val / 9, by omega⟩ : Fin 32) = ⟨k.val % 32, Nat.mod_lt _ (by omega)⟩ := Fin.ext ed
  have ep : (swapped k).val % 9 = k.val / 32 := e9
  unfold patchAt
  rw [ec, ep]
  exact paddedAt_eq rfl A _ _ _ _ _ (by show y0 + (i.val + k.val / 32 / 3) = _; omega)
    (by show x0 + (j.val + k.val / 32 % 3) = _; omega)

/-- The unit of two bordered blocks, one a window of `d / 2` around the other, is the aggregation. -/
theorem unit_level {hA wA HB WB h w H W n d Ht Wt : Nat} {D r : Nat} (hd : D = d * d) (h4 : 4 ≤ D) (hD : D ≤ 2 ^ 20) (hn : n = h * w)
    (fa : PatchFits hA wA h w) (fb : PatchFits HB WB H W) (g : WindowFits H W h w d)
    (e : ProjFits hA wA HB WB h w n (r + 1)) (y ht cl ch : BitVec 32) (A : FVec Ideal (P3 hA wA 32) .f32)
    (B : FVec Ideal (P3 HB WB 32) .f32) (a : Fin 4 → EReal) (ab : EReal)
    (wt : FVec Ideal (P2 64 288) .f32) (bi : FVec Ideal (P2 1 288) .f32)
    (SA SB : Fin 32 → Fin Ht → Fin Wt → EReal) (wr : Fin 288 → Fin 64 → EReal) (br : Fin 288 → EReal) (y0 : Nat)
    (hA1 : h + 2 = hA) (hA2 : w + 2 = wA) (hB1 : H + 2 = HB) (hB2 : W + 2 = WB) (hH1 : h + (d - 1) = H) (hW1 : w + (d - 1) = W)
    (hdr : d = 2 * r + 1)
    (hH : H < 2 ^ 29) (hW : W < 2 ^ 29) (h0 : y0 < 2 ^ 28) (hr : r < 2 ^ 28)
    (hy : y.toInt = (y0 : ℤ) - r) (hht : ht.toInt = Ht) (hcl : cl.toInt = r) (hch : ch.toInt = (r : ℤ) + Wt)
    (hAv : ∀ I J c, A (ix3 I J c) = paddedAt (r + 1) SA c (y0 + r + I.val) (r + J.val))
    (hBv : ∀ I J c, B (ix3 I J c) = paddedAt (r + 1) SB c (y0 + I.val) (0 + J.val))
    (hw : ∀ q k, wt (ix2 q k) = wr (swapped k) q) (hb : ∀ k, bi (ix2 0 k) = br (swapped k))
    (i : Fin h) (j : Fin w) (c : Fin 32) (Y : Fin Ht) (X : Fin Wt) (hY : Y.val = y0 + i.val) (hX : X.val = j.val) :
    unitVec hA wA HB WB h w H W n d D (r + 1) fa fb g e y ht cl ch A B (a 0) (a 1) (a 2) (a 3) ab wt bi (ix3 i j c)
      = levelAt d r D h4 SA SB a ab wr br c Y X := by
  have hi := i.isLt
  have hj := j.isLt
  have hd0 : 0 < d := by omega
  have hdd : ∀ dd : Fin D, dd.val / d < d := fun dd => Nat.div_lt_of_lt_mul (hd ▸ dd.isLt)
  have hdm : ∀ dd : Fin D, dd.val % d < d := fun dd => Nat.mod_lt _ hd0
  rw [unitVec_apply hd h4 (by omega) hn fa fb g e y ht cl ch A B a ab wt bi i j c
    (fun dd => ⟨dd.val / d + i.val, by have := hdd dd; omega⟩) (fun dd => ⟨dd.val % d + j.val, by have := hdm dd; omega⟩)
    (fun _ => rfl) (fun _ => rfl) ⟨1 + i.val, by omega⟩ ⟨1 + j.val, by omega⟩ ⟨r + 1 + i.val, by omega⟩ ⟨r + 1 + j.val, by omega⟩
    rfl rfl rfl rfl (fun k => patchAt SA Y X (swapped k))
    (fun k => patches_block fa A SA (y0 + r) r hAv hA1 hA2 i j Y X (by omega) (by omega) k)
    (fun dd k => windowAt d r SB Y X dd (swapped k))
    (fun dd k => by
      rw [searched_apply, inside_apply (y0 := y0) (r := r) fb y ht cl ch _ _ hH hW h0 hr hy hht hcl hch]
      unfold windowAt
      simp only
      have e1 : y0 + (dd.val / d + i.val) = Y.val + dd.val / d := by omega
      have e2 : dd.val % d + j.val = X.val + dd.val % d := by omega
      by_cases hc : (r ≤ Y.val + dd.val / d ∧ Y.val + dd.val / d - r < Ht) ∧ r ≤ X.val + dd.val % d ∧ X.val + dd.val % d - r < Wt
      · rw [if_pos (by rw [e1, e2]; exact hc), if_pos hc, mul_one]
        refine patches_block fb B SB (r := r) y0 0 hBv hB1 hB2 _ _ _ _ ?_ ?_ k
        · show y0 + (dd.val / d + i.val) = _
          omega
        · show 0 + (dd.val % d + j.val) = _
          omega
      · rw [if_neg (by rw [e1, e2]; exact hc), if_neg hc, mul_zero])
    (fun k => SA k Y X) (fun k => SB k Y X)
    (fun k => (hAv _ _ _).trans (paddedAt_in SA k _ _ Y X
      (by show y0 + r + (1 + i.val) = _; omega) (by show r + (1 + j.val) = _; omega)))
    (fun k => (hBv _ _ _).trans (paddedAt_in SB k _ _ Y X
      (by show y0 + (r + 1 + i.val) = _; omega) (by show 0 + (r + 1 + j.val) = _; omega)))]
  unfold levelAt
  refine Finset.sum_congr rfl fun p _ => ?_
  have hsim : ∀ dd : Fin D, sim floor (fun k => patchAt SA Y X (swapped k)) (fun k => windowAt d r SB Y X dd (swapped k))
      = sim floor (patchAt SA Y X) (windowAt d r SB Y X dd) := fun dd => sim_equiv swapped floor _ _
  simp only [hsim, hw, hb, swapped_place p c _ (by omega)]

end Cert.Agg
-- ==== Proof.RefMirror.lean ====
module

public import Idealize.ShloMosaic.Lib.KernelVsHost
public import Idealize.ShloMosaic.Lib.Pointwise.Tactic

/-!
The reference's aggregation of one level, written once over the level's extents. Every level of the reference is this
sequence of operations at its own extents; `level3`, `level2` and `level1` say so.
-/

@[expose] public section

set_option maxRecDepth 16384

noncomputable section

namespace Cert.Ref

open Idealize.ShloMosaic

variable {F : FTy → Type} [FloatOps F]

/-- The shape of a single element. -/
abbrev R0 : Shape := ⟨0, ![]⟩
/-- Three frames of `c` channels of an image. -/
abbrev R4 (c h w : Nat) : Shape := ⟨4, ![3, c, h, w]⟩
/-- Three frames with two axes before, or one after, an image. -/
abbrev R5 (c k h w : Nat) : Shape := ⟨5, ![3, c, k, h, w]⟩
/-- Three frames with three axes before an image. -/
abbrev R6 (c k l h w : Nat) : Shape := ⟨6, ![3, c, k, l, h, w]⟩

/-- The shape facts of laying `k × k` shifted copies of `C` channels side by side. -/
structure UnfoldFits (C h w hp wp k r CK : Nat) : Prop where
  pads : (R4 C h w).Pads (![0, 0, r, r] : Fin 4 → Nat) ![0, 0, r, r] ![0, 0, 0, 0] (R4 C hp wp)
  slices : ∀ i j : Fin k, (R4 C hp wp).Slices (![0, 0, i.val, j.val] : Fin 4 → Nat) (R4 C h w)
  single : (R4 C h w).BroadcastsInDim (R5 C 1 h w) (![0, 1, 3, 4] : Fin 4 → Fin 5)
  row : Shape.Concatenates (List.ofFn fun _ : Fin k => R5 C 1 h w) (R5 C k h w) 2
  lift : (R5 C k h w).BroadcastsInDim (R6 C 1 k h w) (![0, 1, 3, 4, 5] : Fin 5 → Fin 6)
  rows : Shape.Concatenates (List.ofFn fun _ : Fin k => R6 C 1 k h w) (R6 C k k h w) 2
  flat : (R6 C k k h w).ShapeCasts (R4 CK h w)

/-- The zero the reference pads with: the integer zero made a float. -/
def fill : FVec F R0 .f32 := sitofp .f32 (constantI R0 32 0#32)

/-- One row of shifted copies. -/
def unfoldRow {C h w hp wp k r CK : Nat} (f : UnfoldFits C h w hp wp k r CK) (x : FVec F (R4 C hp wp) .f32) (i : Fin k) :
    FVec F (R5 C k h w) .f32 :=
  concatenate (R5 C k h w) 2
    (List.ofFn fun j : Fin k => (⟨R5 C 1 h w, broadcastInDim (R5 C 1 h w) ![0, 1, 3, 4] f.single
      (extractStridedSlice (R4 C h w) ![0, 0, i.val, j.val] x (f.slices i j))⟩ : Σ s : Shape, s.Idx → F .f32))
    (by rw [List.map_ofFn]; exact f.row)

/-- The `k × k` shifted copies of the padded image, the copies' axis folded into the channels'. -/
def unfold {C h w hp wp k r CK : Nat} (f : UnfoldFits C h w hp wp k r CK) (x : FVec F (R4 C h w) .f32) :
    FVec F (R4 CK h w) .f32 :=
  shapeCast (R4 CK h w)
    (concatenate (R6 C k k h w) 2
      (List.ofFn fun i : Fin k => (⟨R6 C 1 k h w, broadcastInDim (R6 C 1 k h w) ![0, 1, 3, 4, 5] f.lift
        (unfoldRow f (pad (R4 C hp wp) ![0, 0, r, r] ![0, 0, r, r] ![0, 0, 0, 0] x (fill (F := F)) f.pads (by decide)) i)⟩ :
          Σ s : Shape, s.Idx → F .f32))
      (by rw [List.map_ofFn]; exact f.rows)) f.flat

/-- The shape facts of dividing by the norm over the channels. -/
structure NormFits (h w n : Nat) : Prop where
  sum : (R5 288 h w n).ReducesTo [1] (R4 h w n)
  keep : (R4 h w n).BroadcastsInDim (R5 1 h w n) (![0, 2, 3, 4] : Fin 4 → Fin 5)
  splat : R0.BroadcastsInDim (R5 1 h w n) (![] : Fin 0 → Fin 5)
  all : (R5 1 h w n).BroadcastsInDim (R5 288 h w n) (![0, 1, 2, 3, 4] : Fin 5 → Fin 5)

/-- Each vector over the channels divided by its length, kept from zero. -/
def normalize {h w n : Nat} (f : NormFits h w n) (x : FVec F (R5 288 h w n) .f32) : FVec F (R5 288 h w n) .f32 :=
  Host.divf x (broadcastInDim (R5 288 h w n) ![0, 1, 2, 3, 4] f.all
    (maximumf (Host.sqrt (broadcastInDim (R5 1 h w n) ![0, 2, 3, 4] f.keep
        (Host.reduceAdd (mulf x x) (constant R0 .f32 0x00000000#32) f.sum (by decide))))
      (broadcastInDim (R5 1 h w n) ![] f.splat (constant R0 .f32 0x2B8CBCCC#32))))

/-- The remaining shape facts of one level. -/
structure LevelFits (h w D E : Nat) : Prop where
  split : (R4 E h w).ShapeCasts (R5 288 D h w)
  last : (R5 288 D h w).Transposes [0, 1, 3, 4, 2] (R5 288 h w D)
  own : (R4 288 h w).BroadcastsInDim (R5 288 h w 1) (![0, 1, 2, 3] : Fin 4 → Fin 5)
  spread : (R5 288 h w 1).BroadcastsInDim (R5 288 h w D) (![0, 1, 2, 3, 4] : Fin 5 → Fin 5)
  sum : (R5 288 h w D).ReducesTo [1] (R4 h w D)
  keep : (R4 h w D).BroadcastsInDim (R5 1 h w D) (![0, 2, 3, 4] : Fin 4 → Fin 5)
  four : (R5 1 h w D).Slices (fun _ => 0) (R5 1 h w 4)
  each : (R5 1 h w 4).BroadcastsInDim (R5 288 h w 4) (![0, 1, 2, 3, 4] : Fin 5 → Fin 5)
  splat : R0.BroadcastsInDim (R5 288 h w 4) (![] : Fin 0 → Fin 5)
  index : (R5 288 h w 4).ShapeCasts ⟨6, ![3, 288, h, w, 4, 1]⟩
  take : GatherDims.WF (R5 288 h w D) ⟨6, ![3, 288, h, w, 4, 1]⟩ (R5 288 h w 4) [] [4] [0, 1, 2, 3] [4] [0, 1, 2, 3] 5
    ![1, 1, 1, 1, 1]
  mix : DotDims.WF ⟨1, ![4]⟩ (R5 288 h w 4) (R4 288 h w) [0] [4] [] [0, 1, 2, 3] [] []
  scalar : (⟨1, ![1]⟩ : Shape).ShapeCasts R0
  bias : R0.BroadcastsInDim (R4 288 h w) (![] : Fin 0 → Fin 4)
  nine : (R4 288 h w).ShapeCasts (R5 32 9 h w)
  both : Shape.Concatenates [R4 32 h w, R4 32 h w] (R4 64 h w) 1
  proj : DotDims.WF (R4 64 h w) ⟨2, ![288, 64]⟩ ⟨4, ![3, h, w, 288]⟩ [1] [1] [0, 2, 3] [0] [] []
  back : (⟨4, ![3, h, w, 288]⟩ : Shape).Transposes [0, 3, 1, 2] (R4 288 h w)
  bias1 : (⟨1, ![288]⟩ : Shape).BroadcastsInDim ⟨4, ![1, 288, 1, 1]⟩ (![1] : Fin 1 → Fin 4)
  bias2 : (⟨4, ![1, 288, 1, 1]⟩ : Shape).BroadcastsInDim (R4 288 h w) (![0, 1, 2, 3] : Fin 4 → Fin 4)
  fold : (R5 32 9 h w).ReducesTo [2] (R4 32 h w)

/-- The similarity of each pixel's patch to each patch of its window. -/
def similarity {h w D E : Nat} (f : LevelFits h w D E) (n1 : NormFits h w 1) (nD : NormFits h w D)
    (u : FVec F (R4 288 h w) .f32) (disp : FVec F (R5 288 h w D) .f32) : FVec F (R5 1 h w D) .f32 :=
  broadcastInDim (R5 1 h w D) ![0, 2, 3, 4] f.keep
    (Host.reduceAdd
      (mulf (broadcastInDim (R5 288 h w D) ![0, 1, 2, 3, 4] f.spread
        (normalize n1 (broadcastInDim (R5 288 h w 1) ![0, 1, 2, 3] f.own u))) (normalize nD disp))
      (constant R0 .f32 0x00000000#32) f.sum (by decide))

/-- The gather's dimension numbers: along the last axis, all the others batch axes. -/
abbrev takeDims {h w D E : Nat} (f : LevelFits h w D E) :
    GatherDims (R5 288 h w D) ⟨6, ![3, 288, h, w, 4, 1]⟩ (R5 288 h w 4) where
  offsetDims := []
  collapsedSliceDims := [4]
  operandBatchingDims := [0, 1, 2, 3]
  startIndicesBatchingDims := [0, 1, 2, 3]
  startIndexMap := [4]
  indexVectorDim := 5
  sliceSizes := ![1, 1, 1, 1, 1]
  wf := f.take

/-- The positions of the four most similar patches. -/
def positions {h w D E : Nat} (f : LevelFits h w D E) (sim : FVec F (R5 1 h w D) .f32) :
    IVec (R5 288 h w 4) 32 :=
  broadcastInDim (R5 288 h w 4) ![0, 1, 2, 3, 4] f.each
    (Host.topK (R5 1 h w 4) 4 (FloatOps.cmpfTotal .gt) sim f.four).2

/-- Positions below zero count from the end. -/
def wrapped {h w D E : Nat} (f : LevelFits h w D E) (len : BitVec 32) (p : IVec (R5 288 h w 4) 32) : IVec (R5 288 h w 4) 32 :=
  select (cmpi .slt p (broadcastInDim (R5 288 h w 4) ![] f.splat (constantI R0 32 0#32)))
    (addi p (broadcastInDim (R5 288 h w 4) ![] f.splat (constantI R0 32 len))) p

/-- The four most similar patches of each pixel's window. -/
def gathered {h w D E : Nat} (f : LevelFits h w D E) (n1 : NormFits h w 1) (nD : NormFits h w D) (len : BitVec 32)
    (u : FVec F (R4 288 h w) .f32) (disp : FVec F (R5 288 h w D) .f32) : FVec F (R5 288 h w 4) .f32 :=
  Host.gather (takeDims f) disp
    (shapeCast ⟨6, ![3, 288, h, w, 4, 1]⟩ (wrapped f len (positions f (similarity f n1 nD u disp))) f.index)

/-- The weighted sum of the four, with its bias. -/
def mixed {h w D E : Nat} (f : LevelFits h w D E) (g : FVec F (R5 288 h w 4) .f32) (a : FVec F ⟨1, ![4]⟩ .f32)
    (b : FVec F ⟨1, ![1]⟩ .f32) : FVec F (R4 288 h w) .f32 :=
  addf (Host.dotGeneral ⟨[0], [4], [], [0, 1, 2, 3], [], [], f.mix⟩ none a g)
    (broadcastInDim (R4 288 h w) ![] f.bias (shapeCast R0 b f.scalar))

/-- The projection of the two images' channels, with its bias. -/
def projected {h w D E : Nat} (f : LevelFits h w D E) (x y : FVec F (R4 32 h w) .f32) (wt : FVec F ⟨2, ![288, 64]⟩ .f32)
    (b : FVec F ⟨1, ![288]⟩ .f32) : FVec F (R4 288 h w) .f32 :=
  addf (transpose (R4 288 h w) [0, 3, 1, 2]
      (Host.dotGeneral ⟨[1], [1], [0, 2, 3], [0], [], [], f.proj⟩ none
        (concatenate (R4 64 h w) 1 [⟨R4 32 h w, x⟩, ⟨R4 32 h w, y⟩] f.both) wt) f.back)
    (broadcastInDim (R4 288 h w) ![0, 1, 2, 3] f.bias2 (broadcastInDim ⟨4, ![1, 288, 1, 1]⟩ ![1] f.bias1 b))

/-- The patches of each pixel's window, the window's axis last. -/
def window {h w D E hp wp d r : Nat} (f : LevelFits h w D E) (fw : UnfoldFits 288 h w hp wp d r E) (v : FVec F (R4 288 h w) .f32) :
    FVec F (R5 288 h w D) .f32 :=
  transpose (R5 288 h w D) [0, 1, 3, 4, 2] (shapeCast (R5 288 D h w) (unfold fw v) f.split) f.last

/-- One level's aggregation. -/
def aggregate {h w D E h3 w3 hp wp d r : Nat} (f : LevelFits h w D E) (n1 : NormFits h w 1) (nD : NormFits h w D)
    (f3 : UnfoldFits 32 h w h3 w3 3 1 288) (fw : UnfoldFits 288 h w hp wp d r E) (len : BitVec 32)
    (x y : FVec F (R4 32 h w) .f32) (a : FVec F ⟨1, ![4]⟩ .f32) (ab : FVec F ⟨1, ![1]⟩ .f32)
    (wt : FVec F ⟨2, ![288, 64]⟩ .f32) (wb : FVec F ⟨1, ![288]⟩ .f32) : FVec F (R4 32 h w) .f32 :=
  Host.reduceAdd
    (mulf (shapeCast (R5 32 9 h w) (mixed f (gathered f n1 nD len (unfold f3 x) (window f fw (unfold f3 y))) a ab) f.nine)
      (shapeCast (R5 32 9 h w) (projected f x y wt wb) f.nine))
    (constant R0 .f32 0x00000000#32) f.fold (by decide)

theorem patches3 : UnfoldFits 32 10 10 12 12 3 1 288 := by constructor <;> decide
theorem window3 : UnfoldFits 288 10 10 12 12 3 1 2592 := by constructor <;> decide
theorem one3 : NormFits 10 10 1 := by constructor <;> decide
theorem all3 : NormFits 10 10 9 := by constructor <;> decide
theorem rest3 : LevelFits 10 10 9 2592 := by constructor <;> decide
theorem patches2 : UnfoldFits 32 20 20 22 22 3 1 288 := by constructor <;> decide
theorem window2 : UnfoldFits 288 20 20 24 24 5 2 7200 := by constructor <;> decide
theorem one2 : NormFits 20 20 1 := by constructor <;> decide
theorem all2 : NormFits 20 20 25 := by constructor <;> decide
theorem rest2 : LevelFits 20 20 25 7200 := by constructor <;> decide
theorem patches1 : UnfoldFits 32 40 40 42 42 3 1 288 := by constructor <;> decide
theorem window1 : UnfoldFits 288 40 40 46 46 7 3 14112 := by constructor <;> decide
theorem one1 : NormFits 40 40 1 := by constructor <;> decide
theorem all1 : NormFits 40 40 49 := by constructor <;> decide
theorem rest1 : LevelFits 40 40 49 14112 := by constructor <;> decide

end Cert.Ref
-- ==== Proof.RefPixel.lean ====
module

public import Idealize.ShloMosaic.Lib.Pointwise.Contract
public import Idealize.ShloMosaic.Lib.ValueIdxRank6
public import Idealize.ShloMosaic.Lib.Pipeline.Value
public import proofs.«01_k».proof.Proof.RefMirror
public import Idealize.ShloMosaic.Lib.SortNet.PrintedCmp
public import proofs.«01_k».proof.Proof.Spec

/-!
The reference's aggregation read at one pixel, over the extended reals.
-/

@[expose] public section

set_option maxRecDepth 16384

noncomputable section

namespace Cert.Ref

open Idealize.ShloMosaic Cert.Agg

variable {α : Type}

theorem fill_apply (i : R0.Idx) : fill (F := Ideal) i = 0 := by
  show (((0#32 : BitVec 32).toInt : ℝ) : EReal) = 0
  simp

/-- A padded image at a place: zero around it. -/
theorem pad_image {C h w hp wp r : Nat} (hf : (R4 C h w).Pads (![0, 0, r, r] : Fin 4 → Nat) ![0, 0, r, r] ![0, 0, 0, 0] (R4 C hp wp))
    (x : FVec Ideal (R4 C h w) .f32) (t : Fin 3) (q : Fin C) (Y : Fin hp) (X : Fin wp) :
    pad (R4 C hp wp) ![0, 0, r, r] ![0, 0, r, r] ![0, 0, 0, 0] x (fill (F := Ideal)) hf (by decide) (ix4 t q Y X)
      = if hin : (r ≤ Y.val ∧ Y.val - r < h) ∧ r ≤ X.val ∧ X.val - r < w then
          x (ix4 t q ⟨Y.val - r, hin.1.2⟩ ⟨X.val - r, hin.2.2⟩) else 0 := by
  split
  · rename_i hin
    refine pad_apply_of_inside _ _ _ _ _ _ _ _ (ix4 t q ⟨Y.val - r, hin.1.2⟩ ⟨X.val - r, hin.2.2⟩) fun a => ?_
    match a with
    | ⟨0, _⟩ => show t.val = 0 + t.val * 1; omega
    | ⟨1, _⟩ => show q.val = 0 + q.val * 1; omega
    | ⟨2, _⟩ => show Y.val = r + (Y.val - r) * 1; omega
    | ⟨3, _⟩ => show X.val = r + (X.val - r) * 1; omega
  · rename_i hin
    by_cases hY : r ≤ Y.val ∧ Y.val - r < h
    · have hX : ¬ (r ≤ X.val ∧ X.val - r < w) := fun h' => hin ⟨hY, h'⟩
      refine (pad_apply_of_not_inside _ _ _ _ _ _ _ _ (3 : Fin 4) fun h' => hX ⟨h'.1, ?_⟩).trans (fill_apply _)
      have := h'.2.2
      change (X.val - r) / (0 + 1) < w at this
      rwa [Nat.zero_add, Nat.div_one] at this
    · refine (pad_apply_of_not_inside _ _ _ _ _ _ _ _ (2 : Fin 4) fun h' => hY ⟨h'.1, ?_⟩).trans (fill_apply _)
      have := h'.2.2
      change (Y.val - r) / (0 + 1) < h at this
      rwa [Nat.zero_add, Nat.div_one] at this

/-- A broadcast read at an index: the operand where the named axes agree. -/
theorem spread_apply {s t : Shape} (dims : Fin s.rank → Fin t.rank) (h : s.BroadcastsInDim t dims) (x : s.Idx → α) (j : t.Idx)
    (k : s.Idx) (hk : ∀ a : Fin s.rank, s.size a ≠ 1 → (k a).val = (j (dims a)).val) : broadcastInDim t dims h x j = x k := by
  refine broadcastInDim_apply dims h x j k fun a => ?_
  by_cases h1 : s.size a = 1
  · rw [if_pos h1]
    have := (k a).isLt
    omega
  · rw [if_neg h1]
    exact hk a h1

theorem stack5_apply {C k h w : Nat} (f : Fin k → (R5 C 1 h w).Idx → α)
    (hf : Shape.Concatenates ((List.ofFn fun n : Fin k => (⟨R5 C 1 h w, f n⟩ : (s : Shape) × (s.Idx → α))).map (·.1)) (R5 C k h w) 2)
    (t : Fin 3) (q : Fin C) (j : Fin k) (y : Fin h) (z : Fin w) :
    concatenate (R5 C k h w) 2 (List.ofFn fun n : Fin k => (⟨R5 C 1 h w, f n⟩ : (s : Shape) × (s.Idx → α))) hf (ix5 t q j y z)
      = f j (ix5 t q 0 y z) := by
  refine concatenate_ofFn_apply (t := R5 C k h w) (s₁ := R5 C 1 h w) 2 f hf rfl 1 rfl (ix5 t q j y z) j (Nat.div_one _)
    (ix5 t q 0 y z) (Nat.mod_one _).symm fun b hb => ?_
  match b with
  | ⟨0, _⟩ => rfl
  | ⟨1, _⟩ => rfl
  | ⟨2, _⟩ => exact absurd rfl hb
  | ⟨3, _⟩ => rfl
  | ⟨4, _⟩ => rfl

theorem stack6_apply {C k h w : Nat} (f : Fin k → (R6 C 1 k h w).Idx → α)
    (hf : Shape.Concatenates ((List.ofFn fun n : Fin k => (⟨R6 C 1 k h w, f n⟩ : (s : Shape) × (s.Idx → α))).map (·.1)) (R6 C k k h w) 2)
    (t : Fin 3) (q : Fin C) (i j : Fin k) (y : Fin h) (z : Fin w) :
    concatenate (R6 C k k h w) 2 (List.ofFn fun n : Fin k => (⟨R6 C 1 k h w, f n⟩ : (s : Shape) × (s.Idx → α))) hf
      (ValueIdx.ix6 t q i j y z) = f i (ValueIdx.ix6 t q 0 j y z) := by
  refine concatenate_ofFn_apply (t := R6 C k k h w) (s₁ := R6 C 1 k h w) 2 f hf rfl 1 rfl (ValueIdx.ix6 t q i j y z) i (Nat.div_one _)
    (ValueIdx.ix6 t q 0 j y z) (Nat.mod_one _).symm fun b hb => ?_
  match b with
  | ⟨0, _⟩ => rfl
  | ⟨1, _⟩ => rfl
  | ⟨2, _⟩ => exact absurd rfl hb
  | ⟨3, _⟩ => rfl
  | ⟨4, _⟩ => rfl
  | ⟨5, _⟩ => rfl

theorem unfoldRow_apply {C h w hp wp k r CK : Nat} (f : UnfoldFits C h w hp wp k r CK) (x : FVec Ideal (R4 C hp wp) .f32) (i : Fin k)
    (t : Fin 3) (q : Fin C) (j : Fin k) (y : Fin h) (z : Fin w) (Y : Fin hp) (X : Fin wp) (hY : Y.val = y.val + i.val)
    (hX : X.val = z.val + j.val) :
    unfoldRow f x i (ix5 t q j y z) = x (ix4 t q Y X) := by
  unfold unfoldRow
  refine (stack5_apply _ _ t q j y z).trans ?_
  refine (spread_apply _ _ _ _ (ix4 t q y z) fun a _ => ?_).trans ?_
  · match a with
    | ⟨0, _⟩ => rfl
    | ⟨1, _⟩ => rfl
    | ⟨2, _⟩ => rfl
    | ⟨3, _⟩ => rfl
  · refine extractStridedSlice_apply _ _ _ _ _ fun a => ?_
    match a with
    | ⟨0, _⟩ => exact (Nat.zero_add _).symm
    | ⟨1, _⟩ => exact (Nat.zero_add _).symm
    | ⟨2, _⟩ => show Y.val = i.val + y.val; omega
    | ⟨3, _⟩ => show X.val = j.val + z.val; omega

/-- The shifted copies at a pixel: the channel's copy is its image moved by the copy's place, zero outside. -/
theorem unfold_apply {C h w hp wp k r CK : Nat} (f : UnfoldFits C h w hp wp k r CK) (hCK : CK = C * (k * k))
    (x : FVec Ideal (R4 C h w) .f32) (t : Fin 3) (q : Fin CK) (c : Fin C) (i j : Fin k)
    (hq : q.val = c.val * (k * k) + (i.val * k + j.val)) (y : Fin h) (z : Fin w) :
    unfold f x (ix4 t q y z)
      = if hin : (r ≤ y.val + i.val ∧ y.val + i.val - r < h) ∧ r ≤ z.val + j.val ∧ z.val + j.val - r < w then
          x (ix4 t c ⟨y.val + i.val - r, hin.1.2⟩ ⟨z.val + j.val - r, hin.2.2⟩) else 0 := by
  have hy : y.val + i.val < hp := by
    have : i.val + h ≤ hp := (f.slices i j).2 2
    omega
  have hz : z.val + j.val < wp := by
    have : j.val + w ≤ wp := (f.slices i j).2 3
    omega
  unfold unfold
  refine (shapeCast_apply _ _ _ (ValueIdx.ix6 t c i j y z) ?_).trans ?_
  · rw [Shape.rowMajor_val_six, Shape.rowMajor_val_four]
    have e : ((t.val * C + c.val) * k + i.val) * k + j.val = t.val * CK + q.val := by rw [hq, hCK]; ring
    show ((((t.val * C + c.val) * k + i.val) * k + j.val) * h + y.val) * w + z.val = ((t.val * CK + q.val) * h + y.val) * w + z.val
    rw [e]
  refine (stack6_apply _ _ t c i j y z).trans ?_
  refine (spread_apply _ _ _ _ (ix5 t c j y z) fun a _ => ?_).trans ?_
  · match a with
    | ⟨0, _⟩ => rfl
    | ⟨1, _⟩ => rfl
    | ⟨2, _⟩ => rfl
    | ⟨3, _⟩ => rfl
    | ⟨4, _⟩ => rfl
  exact (unfoldRow_apply f _ i t c j y z ⟨_, hy⟩ ⟨_, hz⟩ rfl rfl).trans (pad_image f.pads x t c ⟨_, hy⟩ ⟨_, hz⟩)

/-- The sum over the channels. -/
theorem channelSum_apply {h w n : Nat} (hf : (R5 288 h w n).ReducesTo [1] (R4 h w n)) (x : FVec Ideal (R5 288 h w n) .f32)
    (t : Fin 3) (y : Fin h) (z : Fin w) (m : Fin n) :
    Host.reduceAdd x (constant (F := Ideal) R0 .f32 0x00000000#32) hf (by decide) (ix4 t y z m) = ∑ k : Fin 288, x (ix5 t k y z m) := by
  have h0 : constant (F := Ideal) R0 .f32 0x00000000#32 (Shape.Idx.first (by decide)) = 0 := zero_bits
  simp only [Host.reduceAdd, Ideal.hostReduceAdd_def]
  rw [Ideal.hostReduceAdd_single hf ⟨hf.1, Nat.succ_pos 3, hf.2⟩, h0, zero_add]
  refine Finset.sum_congr rfl fun k _ => ?_
  exact congrArg x (funext fun a => Fin.ext (by match a with | ⟨0, _⟩ => rfl | ⟨1, _⟩ => rfl | ⟨2, _⟩ => rfl | ⟨3, _⟩ => rfl | ⟨4, _⟩ => rfl))

/-- The sum over the channels, its axis kept. -/
theorem keptSum_apply {h w n : Nat} (hf : (R5 288 h w n).ReducesTo [1] (R4 h w n))
    (hk : (R4 h w n).BroadcastsInDim (R5 1 h w n) (![0, 2, 3, 4] : Fin 4 → Fin 5)) (x : FVec Ideal (R5 288 h w n) .f32)
    (t : Fin 3) (y : Fin h) (z : Fin w) (m : Fin n) :
    broadcastInDim (R5 1 h w n) ![0, 2, 3, 4] hk
      (Host.reduceAdd x (constant (F := Ideal) R0 .f32 0x00000000#32) hf (by decide)) (ix5 t 0 y z m) = ∑ k : Fin 288, x (ix5 t k y z m) := by
  refine (spread_apply _ _ _ _ (ix4 t y z m) fun a _ => ?_).trans (channelSum_apply hf x t y z m)
  match a with
  | ⟨0, _⟩ => rfl
  | ⟨1, _⟩ => rfl
  | ⟨2, _⟩ => rfl
  | ⟨3, _⟩ => rfl

theorem root_apply {s : Shape} (X Y : FVec Ideal s .f32) (i : s.Idx) : maximumf (Host.sqrt X) Y i = max (Ideal.sqrt (X i)) (Y i) := rfl

theorem quotient_apply {s : Shape} (X Y : FVec Ideal s .f32) (i : s.Idx) : Host.divf X Y i = Ideal.div (X i) (Y i) := rfl

theorem normalize_apply {h w n : Nat} (f : NormFits h w n) (x : FVec Ideal (R5 288 h w n) .f32) (t : Fin 3) (k : Fin 288)
    (y : Fin h) (z : Fin w) (m : Fin n) :
    normalize f x (ix5 t k y z m) = unit floor (fun k => x (ix5 t k y z m)) k := by
  have hn : (broadcastInDim (R5 288 h w n) ![0, 1, 2, 3, 4] f.all
    (maximumf (Host.sqrt (broadcastInDim (R5 1 h w n) ![0, 2, 3, 4] f.keep
        (Host.reduceAdd (mulf x x) (constant (F := Ideal) R0 .f32 0x00000000#32) f.sum (by decide))))
      (broadcastInDim (R5 1 h w n) ![] f.splat (constant (F := Ideal) R0 .f32 0x2B8CBCCC#32)))) (ix5 t k y z m)
        = nrm floor (fun k => x (ix5 t k y z m)) := by
    refine (spread_apply _ _ _ _ (ix5 t 0 y z m) fun a ha => ?_).trans ?_
    · match a, ha with
      | ⟨0, _⟩, _ => rfl
      | ⟨1, _⟩, ha => exact absurd rfl ha
      | ⟨2, _⟩, _ => rfl
      | ⟨3, _⟩, _ => rfl
      | ⟨4, _⟩, _ => rfl
    rw [root_apply]
    exact congrArg₂ max (congrArg Ideal.sqrt (keptSum_apply _ _ _ t y z m)) rfl
  unfold normalize
  rw [quotient_apply, hn]
  rfl

theorem similarity_apply {h w D E : Nat} (f : LevelFits h w D E) (n1 : NormFits h w 1) (nD : NormFits h w D)
    (u : FVec Ideal (R4 288 h w) .f32) (disp : FVec Ideal (R5 288 h w D) .f32) (t : Fin 3) (y : Fin h) (z : Fin w) (m : Fin D) :
    similarity f n1 nD u disp (ix5 t 0 y z m) = sim floor (fun k => u (ix4 t k y z)) (fun k => disp (ix5 t k y z m)) := by
  have h1 : ∀ k, broadcastInDim (R5 288 h w D) ![0, 1, 2, 3, 4] f.spread
        (normalize n1 (broadcastInDim (R5 288 h w 1) ![0, 1, 2, 3] f.own u)) (ix5 t k y z m) = unit floor (fun k => u (ix4 t k y z)) k := by
    intro k
    refine (spread_apply _ _ _ _ (ix5 t k y z 0) fun a ha => ?_).trans ?_
    · match a, ha with
      | ⟨0, _⟩, _ => rfl
      | ⟨1, _⟩, _ => rfl
      | ⟨2, _⟩, _ => rfl
      | ⟨3, _⟩, _ => rfl
      | ⟨4, _⟩, ha => exact absurd rfl ha
    refine (normalize_apply _ _ _ _ _ _ _).trans (congrArg (fun v => unit floor v k) (funext fun k => ?_))
    refine spread_apply _ _ _ _ (ix4 t k y z) fun a _ => ?_
    match a with
    | ⟨0, _⟩ => rfl
    | ⟨1, _⟩ => rfl
    | ⟨2, _⟩ => rfl
    | ⟨3, _⟩ => rfl
  unfold similarity
  refine (keptSum_apply _ _ _ t y z m).trans ?_
  unfold sim
  refine Finset.sum_congr rfl fun k _ => ?_
  rw [mul_at, h1, normalize_apply]

theorem topK_snd {s : Shape} {β : Type} (t : Shape) (d : Nat) (gt : β → β → BitVec 1) (x : s.Idx → β) (h : s.Slices (fun _ => 0) t) :
    (Host.topK t d gt x h).2 = extractStridedSlice t (fun _ => 0)
      (Host.sort2 s d (fun l r => gt l.1 r.1) x (fun i => if hd : d < s.rank then iotaInDim s 32 ⟨d, hd⟩ i else 0#32)).2 h := rfl

theorem positions_apply {h w D E : Nat} (f : LevelFits h w D E) (h4 : 4 ≤ D) (sm : FVec Ideal (R5 1 h w D) .f32)
    (t : Fin 3) (k : Fin 288) (y : Fin h) (z : Fin w) (s : Fin 4) :
    positions f sm (ix5 t k y z s) = BitVec.ofNat 32 (nth (fun dd => sm (ix5 t 0 y z dd)) (s.castLE h4)).val := by
  unfold positions
  refine (spread_apply _ _ _ _ (ix5 t 0 y z s) fun a ha => ?_).trans ?_
  · match a, ha with
    | ⟨0, _⟩, _ => rfl
    | ⟨1, _⟩, ha => exact absurd rfl ha
    | ⟨2, _⟩, _ => rfl
    | ⟨3, _⟩, _ => rfl
    | ⟨4, _⟩, _ => rfl
  rw [topK_snd]
  refine (extractStridedSlice_apply (s := R5 1 h w D) (t := R5 1 h w 4) _ _ _ _ (ix5 t 0 y z (s.castLE h4)) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm
  have hal : ∀ p k : Fin D, (ix5 t 0 y z p : (R5 1 h w D).Idx).along (4 : Fin 5) k = ix5 t 0 y z k := fun p k => by
    funext a
    match a with
    | ⟨0, _⟩ => rfl
    | ⟨1, _⟩ => rfl
    | ⟨2, _⟩ => rfl
    | ⟨3, _⟩ => rfl
    | ⟨4, _⟩ => rfl
  unfold Host.sort2
  rw [dif_pos (show 4 < (R5 1 h w D).rank from (by decide : 4 < 5))]
  have hb : (fun k k' : Fin D => FloatOps.cmpfTotal (F := Ideal) (φ := .f32) .gt
        (sm ((ix5 t 0 y z (s.castLE h4) : (R5 1 h w D).Idx).along (4 : Fin 5) k))
        (sm ((ix5 t 0 y z (s.castLE h4) : (R5 1 h w D).Idx).along (4 : Fin 5) k')) == 1#1)
      = fun k k' => decide (sm (ix5 t 0 y z k') < sm (ix5 t 0 y z k)) := by
    funext k k'
    rw [hal, hal]
    show (BitVec.ofBool (decide (sm (ix5 t 0 y z k') < sm (ix5 t 0 y z k))) == 1#1) = _
    cases decide (sm (ix5 t 0 y z k') < sm (ix5 t 0 y z k)) <;> rfl
  exact congrArg (fun q : Fin D => BitVec.ofNat 32 q.val) (congrFun (congrArg sortedFrom hb) (s.castLE h4))

theorem wrapped_apply {h w D E : Nat} (f : LevelFits h w D E) (len : BitVec 32) (p : IVec (R5 288 h w 4) 32) (i : (R5 288 h w 4).Idx)
    (v : Nat) (hv : v < 2 ^ 31) (hp : p i = BitVec.ofNat 32 v) : wrapped f len p i = BitVec.ofNat 32 v :=
  SortNet.wrapIndex_apply p _ _ i v hv hp rfl

theorem gather_apply {h w D E : Nat} (f : LevelFits h w D E) (x : FVec Ideal (R5 288 h w D) .f32)
    (idx : IVec ⟨6, ![3, 288, h, w, 4, 1]⟩ 32) (t : Fin 3) (k : Fin 288) (y : Fin h) (z : Fin w) (s : Fin 4) (v : Fin D) (hD : D < 2 ^ 31)
    (hv : idx (ValueIdx.ix6 t k y z s 0) = BitVec.ofNat 32 v.val) :
    Host.gather (takeDims f) x idx (ix5 t k y z s) = x (ix5 t k y z v) := by
  unfold Host.gather
  have hbat : ∀ a : Fin 5, a ∈ (takeDims f).operandBatchingDims → ∀ n : Nat, (takeDims f).batchCoord (ix5 t k y z s) a = n →
      ((takeDims f).operandIdx (ix5 t k y z s) idx a).val = n := fun a ha n hn => by
    show (takeDims f).start _ idx a + (takeDims f).batchCoord _ a + (takeDims f).offCoord _ a = n
    rw [GatherDims.start_batching _ _ _ _ ha, GatherDims.offCoord_eq_zero _ _ _ (fun h => ((GatherDims.mem_sKept _ _).mp h).2 ha), hn]
    omega
  refine congrArg x (funext fun a => Fin.ext ?_)
  match a with
  | ⟨0, _⟩ => exact hbat 0 (by simp) _ rfl
  | ⟨1, _⟩ => exact hbat 1 (by simp) _ rfl
  | ⟨2, _⟩ => exact hbat 2 (by simp) _ rfl
  | ⟨3, _⟩ => exact hbat 3 (by simp) _ rfl
  | ⟨4, _⟩ =>
    show (takeDims f).start _ idx 4 + (takeDims f).batchCoord _ 4 + (takeDims f).offCoord _ 4 = v.val
    rw [GatherDims.batchCoord_eq_zero _ _ _ (by simp),
      GatherDims.offCoord_eq_zero _ _ _ (fun h => ((GatherDims.mem_sKept _ _).mp h).1 (List.mem_singleton.mpr rfl))]
    unfold GatherDims.start
    rw [dif_pos (show (4 : Fin 5) ∈ (takeDims f).startIndexMap from List.mem_singleton.mpr rfl)]
    have hsi : (takeDims f).siIdx (ix5 t k y z s) ⟨List.idxOf (4 : Fin 5) (takeDims f).startIndexMap,
        List.idxOf_lt_length_iff.2 (List.mem_singleton.mpr rfl)⟩ = ValueIdx.ix6 t k y z s 0 := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi, hv]
    have hvl := v.isLt
    have e : (BitVec.ofNat 32 v.val).toInt = v.val := by
      rw [BitVec.toInt_eq_toNat_cond, BitVec.toNat_ofNat, Nat.mod_eq_of_lt (by omega), if_pos (by omega)]
    rw [e]
    show min v.val (D - 1) + 0 + 0 = v.val
    omega

end Cert.Ref
-- ==== Proof.HostMaps.lean ====
module

public import proofs.«01_k».proof.Proof.KernelUp
public import proofs.«01_k».proof.Proof.NetSpec
public import proofs.«01_k».proof.Proof.KernelLevel
public import proofs.«01_k».proof.Proof.RefPixel
public import Idealize.ShloMosaic.Lib.ValueIdxRank6

/-!
What the host's rearrangements put at an index: channels moved last, borders of zeros, the projection's rows and bias
reordered, the four quadrants interleaved, a frame taken out, and the channels spread over pixels at the end.
-/

@[expose] public section

set_option maxRecDepth 16384

noncomputable section

namespace Cert.Agg

open Idealize.ShloMosaic

theorem lastly_apply {α : Type} {H : Nat} (x : (⟨5, ![1, 32, 3, H, H]⟩ : Shape).Idx → α)
    (h1 : (⟨5, ![1, 32, 3, H, H]⟩ : Shape).ShapeCasts ⟨4, ![32, 3, H, H]⟩) (h2 : (⟨4, ![32, 3, H, H]⟩ : Shape).Transposes [1, 2, 3, 0] (P4 3 H H))
    (t : Fin 3) (y z : Fin H) (c : Fin 32) :
    transpose (P4 3 H H) [1, 2, 3, 0] (shapeCast ⟨4, ![32, 3, H, H]⟩ x h1) h2 (ix4 t y z c) = x (ix5 (0 : Fin 1) c t y z) := by
  rw [transpose_apply _ _ _ _ (ix4 c t y z) (fun b => match b with | ⟨0, _⟩ => rfl | ⟨1, _⟩ => rfl | ⟨2, _⟩ => rfl | ⟨3, _⟩ => rfl),
    shapeCast_apply _ _ _ (ix5 (0 : Fin 1) c t y z) (by rw [Shape.rowMajor_val_four, Shape.rowMajor_val_five]; simp)]

theorem border_apply {H Hp m : Nat} (x : FVec Ideal (P4 3 H H) .f32)
    (hf : (P4 3 H H).Pads (![0, m, m, 0] : Fin 4 → Nat) ![0, m, m, 0] ![0, 0, 0, 0] (P4 3 Hp Hp)) (h0 : 0 < (⟨0, ![]⟩ : Shape).numel)
    (t : Fin 3) (Y X : Fin Hp) (c : Fin 32) :
    pad (P4 3 Hp Hp) ![0, m, m, 0] ![0, m, m, 0] ![0, 0, 0, 0] x (sitofp (F := Ideal) .f32 (constantI ⟨0, ![]⟩ 32 0#32)) hf h0 (ix4 t Y X c)
      = paddedAt m (fun c y z => x (ix4 t y z c)) c Y.val X.val := by
  unfold paddedAt
  split
  · rename_i hin
    refine pad_apply_of_inside _ _ _ _ _ _ _ _ (ix4 t ⟨Y.val - m, hin.1.2⟩ ⟨X.val - m, hin.2.2⟩ c) fun a => ?_
    match a with
    | ⟨0, _⟩ => show t.val = 0 + t.val * 1; omega
    | ⟨1, _⟩ => show Y.val = m + (Y.val - m) * 1; omega
    | ⟨2, _⟩ => show X.val = m + (X.val - m) * 1; omega
    | ⟨3, _⟩ => show c.val = 0 + c.val * 1; omega
  · rename_i hin
    by_cases hY : m ≤ Y.val ∧ Y.val - m < H
    · have hX : ¬ (m ≤ X.val ∧ X.val - m < H) := fun h' => hin ⟨hY, h'⟩
      refine (pad_apply_of_not_inside _ _ _ _ _ _ _ _ (2 : Fin 4) fun h' => hX ⟨h'.1, ?_⟩).trans (Cert.Ref.fill_apply _)
      have := h'.2.2
      change (X.val - m) / (0 + 1) < H at this
      rwa [Nat.zero_add, Nat.div_one] at this
    · refine (pad_apply_of_not_inside _ _ _ _ _ _ _ _ (1 : Fin 4) fun h' => hY ⟨h'.1, ?_⟩).trans (Cert.Ref.fill_apply _)
      have := h'.2.2
      change (Y.val - m) / (0 + 1) < H at this
      rwa [Nat.zero_add, Nat.div_one] at this

theorem rows_apply {α : Type} (x : (⟨2, ![288, 64]⟩ : Shape).Idx → α) (h1 : (⟨2, ![288, 64]⟩ : Shape).ShapeCasts ⟨3, ![32, 9, 64]⟩)
    (h2 : (⟨3, ![32, 9, 64]⟩ : Shape).Transposes [1, 0, 2] ⟨3, ![9, 32, 64]⟩) (h3 : (⟨3, ![9, 32, 64]⟩ : Shape).ShapeCasts ⟨2, ![288, 64]⟩)
    (h4 : (⟨2, ![288, 64]⟩ : Shape).Transposes [1, 0] ⟨2, ![64, 288]⟩) (q : Fin 64) (k : Fin 288) :
    transpose ⟨2, ![64, 288]⟩ [1, 0] (shapeCast ⟨2, ![288, 64]⟩ (transpose ⟨3, ![9, 32, 64]⟩ [1, 0, 2] (shapeCast ⟨3, ![32, 9, 64]⟩ x h1) h2) h3) h4
      (ix2 q k) = x (ix2 (swapped k) q) := by
  have hk := k.isLt
  rw [transpose_apply _ _ _ _ (ix2 k q) (fun b => match b with | ⟨0, _⟩ => rfl | ⟨1, _⟩ => rfl),
    shapeCast_apply _ _ _ (ix3 (⟨k.val / 32, by omega⟩ : Fin 9) (⟨k.val % 32, by omega⟩ : Fin 32) q)
      (by
        rw [Shape.rowMajor_val_three, Shape.rowMajor_val_two]
        show (k.val / 32 * 32 + k.val % 32) * 64 + q.val = k.val * 64 + q.val
        omega),
    transpose_apply _ _ _ _ (ix3 (⟨k.val % 32, by omega⟩ : Fin 32) (⟨k.val / 32, by omega⟩ : Fin 9) q)
      (fun b => match b with | ⟨0, _⟩ => rfl | ⟨1, _⟩ => rfl | ⟨2, _⟩ => rfl),
    shapeCast_apply _ _ _ (ix2 (swapped k) q) (by rw [Shape.rowMajor_val_three, Shape.rowMajor_val_two]; rfl)]

theorem bias_apply {α : Type} (x : (⟨1, ![288]⟩ : Shape).Idx → α) (h1 : (⟨1, ![288]⟩ : Shape).ShapeCasts ⟨2, ![32, 9]⟩)
    (h2 : (⟨2, ![32, 9]⟩ : Shape).Transposes [1, 0] ⟨2, ![9, 32]⟩) (h3 : (⟨2, ![9, 32]⟩ : Shape).ShapeCasts ⟨2, ![1, 288]⟩) (k : Fin 288) :
    shapeCast ⟨2, ![1, 288]⟩ (transpose ⟨2, ![9, 32]⟩ [1, 0] (shapeCast ⟨2, ![32, 9]⟩ x h1) h2) h3 (ix2 (0 : Fin 1) k) = x (ix1 (swapped k)) := by
  have hk := k.isLt
  rw [shapeCast_apply _ _ _ (ix2 (⟨k.val / 32, by omega⟩ : Fin 9) (⟨k.val % 32, by omega⟩ : Fin 32))
      (by
        rw [Shape.rowMajor_val_two, Shape.rowMajor_val_two]
        show k.val / 32 * 32 + k.val % 32 = 0 * 288 + k.val
        omega),
    transpose_apply _ _ _ _ (ix2 (⟨k.val % 32, by omega⟩ : Fin 32) (⟨k.val / 32, by omega⟩ : Fin 9))
      (fun b => match b with | ⟨0, _⟩ => rfl | ⟨1, _⟩ => rfl),
    shapeCast_apply _ _ _ (ix1 (swapped k)) (by rw [Shape.rowMajor_val_one, Shape.rowMajor_val_two]; rfl)]

/-- The four quadrants put together. -/
theorem interleave_apply {H K : Nat} (hK : K = 2 * H) (x : (⟨5, ![3, 4, H, H, 32]⟩ : Shape).Idx → EReal)
    (h1 : (⟨5, ![3, 4, H, H, 32]⟩ : Shape).ShapeCasts ⟨6, ![3, 2, 2, H, H, 32]⟩)
    (h2 : (⟨6, ![3, 2, 2, H, H, 32]⟩ : Shape).Transposes [0, 3, 1, 4, 2, 5] ⟨6, ![3, H, 2, H, 2, 32]⟩)
    (h3 : (⟨6, ![3, H, 2, H, 2, 32]⟩ : Shape).ShapeCasts (P4 3 K K)) (A : Fin 3 → Fin 32 → Fin H → Fin H → EReal)
    (hx : ∀ t q y z c, x (ix5 t q y z c) = quadrantAt (A t c) q y z) (t : Fin 3) (Y X : Fin K) (c : Fin 32) :
    shapeCast (P4 3 K K) (transpose ⟨6, ![3, H, 2, H, 2, 32]⟩ [0, 3, 1, 4, 2, 5] (shapeCast ⟨6, ![3, 2, 2, H, H, 32]⟩ x h1) h2) h3 (ix4 t Y X c)
      = upAt (A t c) (Y.cast hK) (X.cast hK) := by
  subst hK
  have hY := Y.isLt
  have hX := X.isLt
  rw [shapeCast_apply _ _ _ (ValueIdx.ix6 t (⟨Y.val / 2, by omega⟩ : Fin H) (⟨Y.val % 2, by omega⟩ : Fin 2) (⟨X.val / 2, by omega⟩ : Fin H)
      (⟨X.val % 2, by omega⟩ : Fin 2) c)
      (by
        rw [Shape.rowMajor_val_six, Shape.rowMajor_val_four]
        show ((((t.val * H + Y.val / 2) * 2 + Y.val % 2) * H + X.val / 2) * 2 + X.val % 2) * 32 + c.val
          = ((t.val * (2 * H) + Y.val) * (2 * H) + X.val) * 32 + c.val
        have e1 : (t.val * H + Y.val / 2) * 2 + Y.val % 2 = t.val * (2 * H) + Y.val := by
          have := Nat.div_add_mod Y.val 2
          ring_nf; omega
        rw [e1]
        have e2 : ∀ a : Nat, (a * H + X.val / 2) * 2 + X.val % 2 = a * (2 * H) + X.val := fun a => by
          have := Nat.div_add_mod X.val 2
          ring_nf; omega
        rw [e2]),
    transpose_apply _ _ _ _ (ValueIdx.ix6 t (⟨Y.val % 2, by omega⟩ : Fin 2) (⟨X.val % 2, by omega⟩ : Fin 2) (⟨Y.val / 2, by omega⟩ : Fin H)
      (⟨X.val / 2, by omega⟩ : Fin H) c)
      (fun b => match b with | ⟨0, _⟩ => rfl | ⟨1, _⟩ => rfl | ⟨2, _⟩ => rfl | ⟨3, _⟩ => rfl | ⟨4, _⟩ => rfl | ⟨5, _⟩ => rfl),
    shapeCast_apply _ _ _ (ix5 t (⟨Y.val % 2 * 2 + X.val % 2, by omega⟩ : Fin 4) (⟨Y.val / 2, by omega⟩ : Fin H) (⟨X.val / 2, by omega⟩ : Fin H) c)
      (by
        rw [Shape.rowMajor_val_five, Shape.rowMajor_val_six]
        show (((t.val * 4 + (Y.val % 2 * 2 + X.val % 2)) * H + Y.val / 2) * H + X.val / 2) * 32 + c.val
          = ((((t.val * 2 + Y.val % 2) * 2 + X.val % 2) * H + Y.val / 2) * H + X.val / 2) * 32 + c.val
        rw [show t.val * 4 + (Y.val % 2 * 2 + X.val % 2) = (t.val * 2 + Y.val % 2) * 2 + X.val % 2 by omega]),
    hx]
  unfold quadrantAt
  exact congrArg₂ (upAt (A t c)) (Fin.ext (by show 2 * (Y.val / 2) + (Y.val % 2 * 2 + X.val % 2) / 2 = Y.val; omega))
    (Fin.ext (by show 2 * (X.val / 2) + (Y.val % 2 * 2 + X.val % 2) % 2 = X.val; omega))

theorem frame_apply {α : Type} (n : Nat) (x : (P4 3 40 40).Idx → α) (h1 : (P4 3 40 40).Slices ![n, 0, 0, 0] (P4 1 40 40))
    (h2 : (P4 1 40 40).ShapeCasts (P3 40 40 32)) (t : Fin 3) (ht : t.val = n) (y z : Fin 40) (c : Fin 32) :
    shapeCast (P3 40 40 32) (extractStridedSlice (P4 1 40 40) ![n, 0, 0, 0] x h1) h2 (ix3 y z c) = x (ix4 t y z c) := by
  rw [shapeCast_apply _ _ _ (ix4 (0 : Fin 1) y z c) (by rw [Shape.rowMajor_val_three, Shape.rowMajor_val_four]; simp),
    extractStridedSlice_apply _ _ _ _ (ix4 t y z c) (fun a => match a with
      | ⟨0, _⟩ => by show t.val = n + 0; omega
      | ⟨1, _⟩ => by show y.val = 0 + y.val; omega
      | ⟨2, _⟩ => by show z.val = 0 + z.val; omega
      | ⟨3, _⟩ => by show c.val = 0 + c.val; omega)]

theorem spread_pixels {α : Type} (x : (⟨3, ![40, 40, 128]⟩ : Shape).Idx → α) (h1 : (⟨3, ![40, 40, 128]⟩ : Shape).ShapeCasts ⟨5, ![40, 40, 32, 2, 2]⟩)
    (h2 : (⟨5, ![40, 40, 32, 2, 2]⟩ : Shape).Transposes [2, 0, 3, 1, 4] ⟨5, ![32, 40, 2, 40, 2]⟩)
    (h3 : (⟨5, ![32, 40, 2, 40, 2]⟩ : Shape).ShapeCasts ⟨4, ![1, 32, 80, 80]⟩) (c : Fin 32) (Y X : Fin 80) :
    shapeCast ⟨4, ![1, 32, 80, 80]⟩ (transpose ⟨5, ![32, 40, 2, 40, 2]⟩ [2, 0, 3, 1, 4] (shapeCast ⟨5, ![40, 40, 32, 2, 2]⟩ x h1) h2) h3
      (ix4 (0 : Fin 1) c Y X) = x (ix3 (halved Y) (halved X) (spreadChannel c Y X)) := by
  have hY := Y.isLt
  have hX := X.isLt
  rw [shapeCast_apply _ _ _ (ix5 c (halved Y) (⟨Y.val % 2, by omega⟩ : Fin 2) (halved X) (⟨X.val % 2, by omega⟩ : Fin 2))
      (by
        rw [Shape.rowMajor_val_five, Shape.rowMajor_val_four]
        show (((c.val * 40 + Y.val / 2) * 2 + Y.val % 2) * 40 + X.val / 2) * 2 + X.val % 2 = ((0 * 32 + c.val) * 80 + Y.val) * 80 + X.val
        omega),
    transpose_apply _ _ _ _ (ix5 (halved Y) (halved X) c (⟨Y.val % 2, by omega⟩ : Fin 2) (⟨X.val % 2, by omega⟩ : Fin 2))
      (fun b => match b with | ⟨0, _⟩ => rfl | ⟨1, _⟩ => rfl | ⟨2, _⟩ => rfl | ⟨3, _⟩ => rfl | ⟨4, _⟩ => rfl),
    shapeCast_apply _ _ _ (ix3 (halved Y) (halved X) (spreadChannel c Y X))
      (by
        rw [Shape.rowMajor_val_three, Shape.rowMajor_val_five]
        show (Y.val / 2 * 40 + X.val / 2) * 128 + (c.val * 4 + (Y.val % 2 * 2 + X.val % 2))
          = (((Y.val / 2 * 40 + X.val / 2) * 32 + c.val) * 2 + Y.val % 2) * 2 + X.val % 2
        omega)]

end Cert.Agg
-- ==== Proof.Entry.lean ====
module

public import proofs.«01_k».proof.Proof.HostMaps
public import proofs.«01_k».proof.Proof.Gen.KernelIdeal.Frame

/-!
What the calls read: each buffer at a call's entry, as the host's operations before it left it.
-/

@[expose] public section

set_option maxRecDepth 16384

noncomputable section

namespace Cert.KernelIdeal.Level

open Cert.KernelIdeal Cert.KernelIdeal.Gen Cert.Agg
open Idealize.ShloMosaic Idealize.ShloMosaic.TcCoe Idealize.ShloMosaic.Tactic

variable (m : (ℓ : Loc nD τ sig) → Buf (Elt Ideal) ℓ) (ρ : Dev nD → PrngReg) (c : Dev nD)

/-- A buffer the host leaves alone between the first stretch and the first call. -/
theorem keep4 (r : Ref sig .tc) (h1 : r ∉ hostOps0_1_W) (h2 : r ∉ hostOps0_2_W) (h3 : r ∉ hostOps0_3_W) : W4 m ρ c r = W1 m ρ c r :=
  (W4_of m ρ c r h3).trans ((W3_of m ρ c r h2).trans (W2_of m ρ c r h1))

/-- A buffer neither the first call nor the host's operations after it write. -/
theorem keep9 (r : Ref sig .tc) (h0 : ∀ w : Fin cfg0.W, Pipeline.arrRef spec0 w = r → (cfg0.win w).isOut = false)
    (h1 : r ∉ hostOps1_W) (h2 : r ∉ hostOps1_1_W) (h3 : r ∉ hostOps1_2_W) (h4 : r ∉ hostOps1_3_W) : W9 m ρ c r = W4 m ρ c r :=
  (W9_of m ρ c r h4).trans ((W8_of m ρ c r h3).trans ((W7_of m ρ c r h2).trans ((W6_of m ρ c r h1).trans (W5_of m ρ c r h0))))

/-- A buffer neither the second call nor the host's operations after it write. -/
theorem keep14 (r : Ref sig .tc) (h0 : ∀ w : Fin cfg1.W, Pipeline.arrRef spec1 w = r → (cfg1.win w).isOut = false)
    (h1 : r ∉ hostOps2_W) (h2 : r ∉ hostOps2_1_W) (h3 : r ∉ hostOps2_2_W) (h4 : r ∉ hostOps2_3_W) : W14 m ρ c r = W9 m ρ c r :=
  (W14_of m ρ c r h4).trans ((W13_of m ρ c r h3).trans ((W12_of m ρ c r h2).trans ((W11_of m ρ c r h1).trans (W10_of m ρ c r h0))))

/-! The features with their channels last. -/

theorem features1 : W1 m ρ c main_v1 = transpose S3x40x40x32 [1, 2, 3, 0] (shapeCast S32x3x40x40 (m ((c : Thread nD τ).loc main_arg0))
    shapeCasts_S1x32x3x40x40_S32x3x40x40) transposes_S32x3x40x40_S3x40x40x32_1_2_3_0 := by
  unfold W1
  after_results
  rfl

theorem features2 : W1 m ρ c main_v3 = transpose S3x20x20x32 [1, 2, 3, 0] (shapeCast S32x3x20x20 (m ((c : Thread nD τ).loc main_arg1))
    shapeCasts_S1x32x3x20x20_S32x3x20x20) transposes_S32x3x20x20_S3x20x20x32_1_2_3_0 := by
  unfold W1
  after_results
  rfl

theorem features3 : W1 m ρ c main_v5 = transpose S3x10x10x32 [1, 2, 3, 0] (shapeCast S32x3x10x10 (m ((c : Thread nD τ).loc main_arg2))
    shapeCasts_S1x32x3x10x10_S32x3x10x10) transposes_S32x3x10x10_S3x10x10x32_1_2_3_0 := by
  unfold W1
  after_results
  rfl

/-! The projections' rows and biases, reordered. -/

def rowsOf (x : FVec Ideal S288x64 .f32) : FVec Ideal S64x288 .f32 :=
  transpose S64x288 [1, 0] (shapeCast S288x64 (transpose S9x32x64 [1, 0, 2] (shapeCast S32x9x64 x shapeCasts_S288x64_S32x9x64)
    transposes_S32x9x64_S9x32x64_1_0_2) shapeCasts_S9x32x64_S288x64) transposes_S288x64_S64x288_1_0

def biasOf (x : FVec Ideal S288 .f32) : FVec Ideal S1x288 .f32 :=
  shapeCast S1x288 (transpose S9x32 [1, 0] (shapeCast S32x9 x shapeCasts_S288_S32x9) transposes_S32x9_S9x32_1_0) shapeCasts_S9x32_S1x288

theorem rows3 : W1 m ρ c main_v9 = rowsOf (m ((c : Thread nD τ).loc main_arg5)) := by
  unfold W1
  after_results
  rfl

theorem bias3 : W1 m ρ c main_v12 = biasOf (m ((c : Thread nD τ).loc main_arg6)) := by
  unfold W1
  after_results
  rfl

theorem rows2 : W1 m ρ c main_v16 = rowsOf (m ((c : Thread nD τ).loc main_arg9)) := by
  unfold W1
  after_results
  rfl

theorem bias2 : W1 m ρ c main_v19 = biasOf (m ((c : Thread nD τ).loc main_arg10)) := by
  unfold W1
  after_results
  rfl

theorem rows1 : W1 m ρ c main_v23 = rowsOf (m ((c : Thread nD τ).loc main_arg13)) := by
  unfold W1
  after_results
  rfl

theorem bias1 : W1 m ρ c main_v26 = biasOf (m ((c : Thread nD τ).loc main_arg14)) := by
  unfold W1
  after_results
  rfl

theorem rowsOf_apply (x : FVec Ideal S288x64 .f32) (q : Fin 64) (k : Fin 288) : rowsOf x (ix2 q k) = x (ix2 (swapped k) q) :=
  rows_apply x _ _ _ _ q k

theorem biasOf_apply (x : FVec Ideal S288 .f32) (k : Fin 288) : biasOf x (ix2 0 k) = x (ix1 (swapped k)) :=
  bias_apply x _ _ _ k

/-! The padded arrays at the three levels' calls. -/

/-- The zero that the host pads with. -/
def border : FVec Ideal S_ .f32 := sitofp (F := Ideal) .f32 (constantI S_ 32 0#32)

theorem source3 : W4 m ρ c main_v28
    = pad S3x14x14x32 ![0, 2, 2, 0] ![0, 2, 2, 0] ![0, 0, 0, 0] (W1 m ρ c main_v5) border pads_S3x10x10x32_S3x14x14x32_000_220_220_000 h_S_ := by
  rw [W4_of m ρ c main_v28 (by decide), W3_of m ρ c main_v28 (by decide)]
  unfold W2
  after_results
  rfl

/-- Nothing is added at the coarsest level. -/
def nothing : FVec Ideal S3x10x10x32 .f32 := broadcastInDim S3x10x10x32 ![] bcast_S_S3x10x10x32 (constant S_ .f32 0x00000000#32)

theorem nothing_apply (i : S3x10x10x32.Idx) : nothing i = 0 := Ideal.ofBits_zero_f32

theorem added3 : W4 m ρ c main_v29
    = pad S3x14x14x32 ![0, 2, 2, 0] ![0, 2, 2, 0] ![0, 0, 0, 0] nothing border pads_S3x10x10x32_S3x14x14x32_000_220_220_000 h_S_ := by
  unfold W4
  after_results
  rfl

theorem source2 : W9 m ρ c main_v34
    = pad S3x26x26x32 ![0, 3, 3, 0] ![0, 3, 3, 0] ![0, 0, 0, 0] (W5 m ρ c main_v3) border pads_S3x20x20x32_S3x26x26x32_000_330_330_000 h_S_ := by
  rw [W9_of m ρ c main_v34 (by decide), W8_of m ρ c main_v34 (by decide)]
  unfold W7
  after_results
  rfl

/-- The four quadrants put together, at the second level. -/
def together2 (x : FVec Ideal S3x4x10x10x32 .f32) : FVec Ideal S3x20x20x32 .f32 :=
  shapeCast S3x20x20x32 (transpose S3x10x2x10x2x32 [0, 3, 1, 4, 2, 5] (shapeCast S3x2x2x10x10x32 x shapeCasts_S3x4x10x10x32_S3x2x2x10x10x32)
    transposes_S3x2x2x10x10x32_S3x10x2x10x2x32_0_3_1_4_2_5) shapeCasts_S3x10x2x10x2x32_S3x20x20x32

theorem added2 : W9 m ρ c main_v35
    = pad S3x26x26x32 ![0, 3, 3, 0] ![0, 3, 3, 0] ![0, 0, 0, 0] (together2 (W5 m ρ c main_v30)) border
      pads_S3x20x20x32_S3x26x26x32_000_330_330_000 h_S_ := by
  unfold W9
  after_results
  rfl

theorem source1 : W14 m ρ c main_v40
    = pad S3x48x48x32 ![0, 4, 4, 0] ![0, 4, 4, 0] ![0, 0, 0, 0] (W10 m ρ c main_v1) border pads_S3x40x40x32_S3x48x48x32_000_440_440_000 h_S_ := by
  rw [W14_of m ρ c main_v40 (by decide), W13_of m ρ c main_v40 (by decide)]
  unfold W12
  after_results
  rfl

/-- The four quadrants put together, at the first level. -/
def together1 (x : FVec Ideal S3x4x20x20x32 .f32) : FVec Ideal S3x40x40x32 .f32 :=
  shapeCast S3x40x40x32 (transpose S3x20x2x20x2x32 [0, 3, 1, 4, 2, 5] (shapeCast S3x2x2x20x20x32 x shapeCasts_S3x4x20x20x32_S3x2x2x20x20x32)
    transposes_S3x2x2x20x20x32_S3x20x2x20x2x32_0_3_1_4_2_5) shapeCasts_S3x20x2x20x2x32_S3x40x40x32

theorem added1 : W14 m ρ c main_v41
    = pad S3x48x48x32 ![0, 4, 4, 0] ![0, 4, 4, 0] ![0, 0, 0, 0] (together1 (W10 m ρ c main_v36)) border
      pads_S3x40x40x32_S3x48x48x32_000_440_440_000 h_S_ := by
  unfold W14
  after_results
  rfl

/-! What the last call reads, and the result. -/

theorem frame0 : W16 m ρ c main_v44 = shapeCast S40x40x32 (extractStridedSlice S1x40x40x32 ![0, 0, 0, 0] (W15 m ρ c main_v42)
    slices_S3x40x40x32_S1x40x40x32_0_0_0_0) shapeCasts_S1x40x40x32_S40x40x32 := by
  unfold W16
  after_results
  rfl

theorem frame1 : W16 m ρ c main_v46 = shapeCast S40x40x32 (extractStridedSlice S1x40x40x32 ![1, 0, 0, 0] (W15 m ρ c main_v42)
    slices_S3x40x40x32_S1x40x40x32_1_0_0_0) shapeCasts_S1x40x40x32_S40x40x32 := by
  unfold W16
  after_results
  rfl

theorem frame2 : W16 m ρ c main_v48 = shapeCast S40x40x32 (extractStridedSlice S1x40x40x32 ![2, 0, 0, 0] (W15 m ρ c main_v42)
    slices_S3x40x40x32_S1x40x40x32_2_0_0_0) shapeCasts_S1x40x40x32_S40x40x32 := by
  unfold W16
  after_results
  rfl

theorem mixing : W16 m ρ c main_v49 = transpose S96x128 [1, 0] (m ((c : Thread nD τ).loc main_arg15)) transposes_S128x96_S96x128_1_0 := by
  rw [← W15_args m ρ c main_arg15 (by decide)]
  unfold W16
  after_results

theorem mixingBias : W16 m ρ c main_v50 = shapeCast S1x128 (m ((c : Thread nD τ).loc main_arg16)) shapeCasts_S128_S1x128 := by
  rw [← W15_args m ρ c main_arg16 (by decide)]
  unfold W16
  after_results
  rfl

theorem left : W18 m ρ c main_v54 = shapeCast S1x32x80x80 (transpose S32x40x2x40x2 [2, 0, 3, 1, 4] (shapeCast S40x40x32x2x2 (W17 m ρ c main_v51)
    shapeCasts_S40x40x128_S40x40x32x2x2) transposes_S40x40x32x2x2_S32x40x2x40x2_2_0_3_1_4) shapeCasts_S32x40x2x40x2_S1x32x80x80 := by
  unfold W18
  after_results
  rfl

end Cert.KernelIdeal.Level
-- ==== Proof.Blocks.lean ====
module

public import proofs.«01_k».proof.Proof.Gen.KernelIdeal.Frame
public import proofs.«01_k».proof.Proof.Mirror

@[expose] public section
set_option maxRecDepth 16384
noncomputable section

/-!
# What the three level calls leave in their blocks

Each level call's body, as one term of the arrays it is given: the generic aggregation unit of the
blocks it reads, and for the two coarser levels the four quadrants of the doubled plane.
-/

namespace Cert.KernelIdeal.Level
open Cert.KernelIdeal Cert.KernelIdeal.Gen Cert.Agg
open Idealize.ShloMosaic Idealize.ShloMosaic.TcCoe Idealize.ShloMosaic.Tactic
variable {F : FTy → Type} [FloatOps F]

/-- The only index of a single entry. -/
abbrev one : S1.Idx := Shape.Idx.first (by decide)

/-- A block of `h × w` pixels of one frame, as the body loads it from the whole array `x`. -/
def block {H W : Nat} (h w : Nat) (a : Memref sig .tc .vmem (P4 3 H W) .f32) (ha : a.IsWhole)
    (x : Vec F (P4 3 H W) .f32) (off : Fin 4 → Nat)
    (inb : ∀ d, off d + (P4 1 h w).size d ≤ (P4 3 H W).size d) (k : (P4 1 h w).ShapeCasts (P3 h w 32)) :
    FVec F (P3 h w 32) .f32 :=
  shapeCast (P3 h w 32)
    (View.readAt (Elt F) a.view (Rect.unit (s := P4 3 H W) off (P4 1 h w).size inb).toLoadRect (ha.unread x)) k

/-- The block is the array at the offsets. -/
theorem block_eq {H W : Nat} (h w : Nat) (a : Memref sig .tc .vmem (P4 3 H W) .f32) (ha : a.IsWhole)
    (x : Vec F (P4 3 H W) .f32) (off : Fin 4 → Nat)
    (inb : ∀ d, off d + (P4 1 h w).size d ≤ (P4 3 H W).size d) (k : (P4 1 h w).ShapeCasts (P3 h w 32)) :
    block h w a ha x off inb k = shapeCast (P3 h w 32) (View.ld x (Rect.unit (s := P4 3 H W) off (P4 1 h w).size inb)) k := by
  unfold block
  rw [View.readAt_eq_ld, ha.read_unread]

/-- One entry of a table of scalars, as the body loads it. -/
def entry {n : Nat} (a : Memref sig .tc .smem ⟨1, ![n]⟩ .f32) (ha : a.IsWhole) (x : Vec F ⟨1, ![n]⟩ .f32) (k : Nat)
    (inb : ∀ d, (![k] : Fin 1 → Nat) d + S1.size d ≤ (⟨1, ![n]⟩ : Shape).size d) : Elt F .f32 :=
  (a.access (Rect.unit (s := ⟨1, ![n]⟩) ![k] S1.size inb)).read (Elt F) (ha.unread x) one

theorem entry_eq {n : Nat} (a : Memref sig .tc .smem ⟨1, ![n]⟩ .f32) (ha : a.IsWhole) (x : Vec F ⟨1, ![n]⟩ .f32) (k : Fin n)
    (inb : ∀ d, (![k.val] : Fin 1 → Nat) d + S1.size d ≤ (⟨1, ![n]⟩ : Shape).size d) :
    entry a ha x k.val inb = x (ix1 k) := by
  have e : entry a ha x k.val inb = View.ld (a.view.read (Elt F) (ha.unread x)) (Rect.unit (s := ⟨1, ![n]⟩) ![k.val] S1.size inb) one := rfl
  rw [e, ha.read_unread]
  refine congrArg x (funext fun d => ?_)
  fin_cases d
  exact Fin.ext rfl

/-- A matrix loaded whole. -/
def whole2 {n k : Nat} (a : Memref sig .tc .vmem (P2 n k) .f32) (ha : a.IsWhole) (x : Vec F (P2 n k) .f32)
    (inb : ∀ d, (![0, 0] : Fin 2 → Nat) d + (P2 n k).size d ≤ (P2 n k).size d) (h : (P2 n k).ShapeCasts (P2 n k)) :
    FVec F (P2 n k) .f32 :=
  shapeCast (P2 n k) (View.readAt (Elt F) a.view (Rect.unit (s := P2 n k) ![0, 0] (P2 n k).size inb).toLoadRect (ha.unread x)) h

theorem whole2_eq {n k : Nat} (a : Memref sig .tc .vmem (P2 n k) .f32) (ha : a.IsWhole) (x : Vec F (P2 n k) .f32)
    (inb : ∀ d, (![0, 0] : Fin 2 → Nat) d + (P2 n k).size d ≤ (P2 n k).size d) (h : (P2 n k).ShapeCasts (P2 n k)) :
    whole2 a ha x inb h = x := by
  unfold whole2
  rw [View.readAt_eq_ld, ha.read_unread, View.ld_unit_zero (by funext d; fin_cases d <;> rfl)]
  funext j
  exact shapeCast_apply _ _ _ _ rfl

theorem own0 : PatchFits 12 12 10 10 where
  s := patchSlices (by decide) (by decide)
  c := by decide
  r := by decide
  k := by decide
  b := by decide
  i0 := by decide
  i1 := by decide
  t := copySlices

theorem searchedFits0 : PatchFits 14 14 12 12 where
  s := patchSlices (by decide) (by decide)
  c := by decide
  r := by decide
  k := by decide
  b := by decide
  i0 := by decide
  i1 := by decide
  t := copySlices

theorem window0 : WindowFits 12 12 10 10 3 := .of 3 (by decide) (by decide) (by decide)

theorem proj0 : ProjFits 12 12 14 14 10 10 100 2 := by constructor <;> decide

theorem up0 : UpFits 10 10 9 9 := by constructor <;> decide

theorem own1 : PatchFits 22 22 20 20 where
  s := patchSlices (by decide) (by decide)
  c := by decide
  r := by decide
  k := by decide
  b := by decide
  i0 := by decide
  i1 := by decide
  t := copySlices

theorem searchedFits1 : PatchFits 26 26 24 24 where
  s := patchSlices (by decide) (by decide)
  c := by decide
  r := by decide
  k := by decide
  b := by decide
  i0 := by decide
  i1 := by decide
  t := copySlices

theorem window1 : WindowFits 24 24 20 20 5 := .of 5 (by decide) (by decide) (by decide)

theorem proj1 : ProjFits 22 22 26 26 20 20 400 3 := by constructor <;> decide

theorem up1 : UpFits 20 20 19 19 := by constructor <;> decide

theorem own2 : PatchFits 12 42 10 40 where
  s := patchSlices (by decide) (by decide)
  c := by decide
  r := by decide
  k := by decide
  b := by decide
  i0 := by decide
  i1 := by decide
  t := copySlices

theorem searchedFits2 : PatchFits 18 48 16 46 where
  s := patchSlices (by decide) (by decide)
  c := by decide
  r := by decide
  k := by decide
  b := by decide
  i0 := by decide
  i1 := by decide
  t := copySlices

theorem window2 : WindowFits 16 46 10 40 7 := .of 7 (by decide) (by decide) (by decide)

theorem proj2 : ProjFits 12 42 18 48 10 40 400 4 := by constructor <;> decide

/-- The block a point of call 0 leaves. -/
theorem left0 (c : Dev nD) (i : grid0.Coords) (arg2 : Memref sig .tc .vmem S3x14x14x32 .f32) (harg2 : arg2.IsWhole)
    (arg3 : Memref sig .tc .vmem S3x14x14x32 .f32) (harg3 : arg3.IsWhole) (arg4 : Memref sig .tc .smem S4 .f32)
    (harg4 : arg4.IsWhole) (arg5 : Memref sig .tc .smem S1 .f32) (harg5 : arg5.IsWhole)
    (arg6 : Memref sig .tc .vmem S64x288 .f32) (harg6 : arg6.IsWhole) (arg7 : Memref sig .tc .vmem S1x288 .f32)
    (harg7 : arg7.IsWhole) (arg8 : Memref sig .tc .vmem S1x4x10x10x32 .f32) (harg8 : arg8.IsWhole)
    (x0 x1 : Vec F S3x14x14x32 .f32) (x2 : Vec F S4 .f32) (x3 : Vec F S1 .f32) (x4 : Vec F S64x288 .f32)
    (x5 : Vec F S1x288 .f32) :
    out0_A_6 c i arg2 harg2 arg3 harg3 arg4 harg4 arg5 harg5 arg6 harg6 arg7 harg7 arg8 harg8 x0 x1 x2 x3 x4 x5 =
    upVec 10 10 9 9 up0 (unitVec 12 12 14 14 10 10 12 12 100 3 9 2 own0 searchedFits0 window0 proj0
      (Scalar.subi (Scalar.muli (BitVec.ofNat 32 (i 1).val) 10#32) 1#32) 10#32 1#32 11#32
      (addf (block 12 12 arg2 harg2 x0 (k0_off1 i) (k0_off1_inb i) (by decide))
        (block 12 12 arg3 harg3 x1 (k0_off2 i) (k0_off2_inb i) (by decide)))
      (addf (block 14 14 arg2 harg2 x0 (k0_off3 i) (k0_off3_inb i) (by decide))
        (block 14 14 arg3 harg3 x1 (k0_off3 i) (k0_off3_inb i) (by decide)))
      (entry arg4 harg4 x2 0 inb_S4_S1_0) (entry arg4 harg4 x2 1 inb_S4_S1_1)
      (entry arg4 harg4 x2 2 inb_S4_S1_2) (entry arg4 harg4 x2 3 inb_S4_S1_3)
      (entry arg5 harg5 x3 0 inb_S1_S1_0)
      (whole2 arg6 harg6 x4 inb_S64x288_S64x288_0_0 shapeCasts_S64x288_S64x288)
      (whole2 arg7 harg7 x5 inb_S1x288_S1x288_0_0 shapeCasts_S1x288_S1x288)) := by
  unfold out0_A_6
  rw [View.read_writes_eq_canon _ _ _ (cover0_A_6 c _ _ _ _ _ _ _ _ _ _ _ _ _ _ _ _ _ _ _ _ _)]
  unfold kernelRun0_A
  dsimp only
  sl_unfold_words
  refine (View.canon_unit_zero (by funext d; fin_cases d <;> rfl) _ _).trans ?_
  sl_kernel_rfl

/-- The block a point of call 1 leaves. -/
theorem left1 (c : Dev nD) (i : grid1.Coords) (arg2 : Memref sig .tc .vmem S3x26x26x32 .f32) (harg2 : arg2.IsWhole)
    (arg3 : Memref sig .tc .vmem S3x26x26x32 .f32) (harg3 : arg3.IsWhole) (arg4 : Memref sig .tc .smem S4 .f32)
    (harg4 : arg4.IsWhole) (arg5 : Memref sig .tc .smem S1 .f32) (harg5 : arg5.IsWhole)
    (arg6 : Memref sig .tc .vmem S64x288 .f32) (harg6 : arg6.IsWhole) (arg7 : Memref sig .tc .vmem S1x288 .f32)
    (harg7 : arg7.IsWhole) (arg8 : Memref sig .tc .vmem S1x4x20x20x32 .f32) (harg8 : arg8.IsWhole)
    (x0 x1 : Vec F S3x26x26x32 .f32) (x2 : Vec F S4 .f32) (x3 : Vec F S1 .f32) (x4 : Vec F S64x288 .f32)
    (x5 : Vec F S1x288 .f32) :
    out1_A_6 c i arg2 harg2 arg3 harg3 arg4 harg4 arg5 harg5 arg6 harg6 arg7 harg7 arg8 harg8 x0 x1 x2 x3 x4 x5 =
    upVec 20 20 19 19 up1 (unitVec 22 22 26 26 20 20 24 24 400 5 25 3 own1 searchedFits1 window1 proj1
      (Scalar.subi (Scalar.muli (BitVec.ofNat 32 (i 1).val) 20#32) 2#32) 20#32 2#32 22#32
      (addf (block 22 22 arg2 harg2 x0 (k1_off1 i) (k1_off1_inb i) (by decide))
        (block 22 22 arg3 harg3 x1 (k1_off2 i) (k1_off2_inb i) (by decide)))
      (addf (block 26 26 arg2 harg2 x0 (k1_off3 i) (k1_off3_inb i) (by decide))
        (block 26 26 arg3 harg3 x1 (k1_off3 i) (k1_off3_inb i) (by decide)))
      (entry arg4 harg4 x2 0 inb_S4_S1_0) (entry arg4 harg4 x2 1 inb_S4_S1_1)
      (entry arg4 harg4 x2 2 inb_S4_S1_2) (entry arg4 harg4 x2 3 inb_S4_S1_3)
      (entry arg5 harg5 x3 0 inb_S1_S1_0)
      (whole2 arg6 harg6 x4 inb_S64x288_S64x288_0_0 shapeCasts_S64x288_S64x288)
      (whole2 arg7 harg7 x5 inb_S1x288_S1x288_0_0 shapeCasts_S1x288_S1x288)) := by
  unfold out1_A_6
  rw [View.read_writes_eq_canon _ _ _ (cover1_A_6 c _ _ _ _ _ _ _ _ _ _ _ _ _ _ _ _ _ _ _ _ _)]
  unfold kernelRun1_A
  dsimp only
  sl_unfold_words
  refine (View.canon_unit_zero (by funext d; fin_cases d <;> rfl) _ _).trans ?_
  sl_kernel_rfl

/-- The block a point of call 2 leaves. -/
theorem left2 (c : Dev nD) (i : grid2.Coords) (arg2 : Memref sig .tc .vmem S3x48x48x32 .f32) (harg2 : arg2.IsWhole)
    (arg3 : Memref sig .tc .vmem S3x48x48x32 .f32) (harg3 : arg3.IsWhole) (arg4 : Memref sig .tc .smem S4 .f32)
    (harg4 : arg4.IsWhole) (arg5 : Memref sig .tc .smem S1 .f32) (harg5 : arg5.IsWhole)
    (arg6 : Memref sig .tc .vmem S64x288 .f32) (harg6 : arg6.IsWhole) (arg7 : Memref sig .tc .vmem S1x288 .f32)
    (harg7 : arg7.IsWhole) (arg8 : Memref sig .tc .vmem S1x10x40x32 .f32) (harg8 : arg8.IsWhole)
    (x0 x1 : Vec F S3x48x48x32 .f32) (x2 : Vec F S4 .f32) (x3 : Vec F S1 .f32) (x4 : Vec F S64x288 .f32)
    (x5 : Vec F S1x288 .f32) :
    out2_A_6 c i arg2 harg2 arg3 harg3 arg4 harg4 arg5 harg5 arg6 harg6 arg7 harg7 arg8 harg8 x0 x1 x2 x3 x4 x5 =
    shapeCast S1x10x40x32 (unitVec 12 42 18 48 10 40 16 46 400 7 49 4 own2 searchedFits2 window2 proj2
      (Scalar.subi (Scalar.muli (BitVec.ofNat 32 (i 1).val) 10#32) 3#32) 40#32 3#32 43#32
      (addf (block 12 42 arg2 harg2 x0 (k2_off1 i) (k2_off1_inb i) (by decide))
        (block 12 42 arg3 harg3 x1 (k2_off2 i) (k2_off2_inb i) (by decide)))
      (addf (block 18 48 arg2 harg2 x0 (k2_off3 i) (k2_off3_inb i) (by decide))
        (block 18 48 arg3 harg3 x1 (k2_off3 i) (k2_off3_inb i) (by decide)))
      (entry arg4 harg4 x2 0 inb_S4_S1_0) (entry arg4 harg4 x2 1 inb_S4_S1_1)
      (entry arg4 harg4 x2 2 inb_S4_S1_2) (entry arg4 harg4 x2 3 inb_S4_S1_3)
      (entry arg5 harg5 x3 0 inb_S1_S1_0)
      (whole2 arg6 harg6 x4 inb_S64x288_S64x288_0_0 shapeCasts_S64x288_S64x288)
      (whole2 arg7 harg7 x5 inb_S1x288_S1x288_0_0 shapeCasts_S1x288_S1x288)) (by decide) := by
  unfold out2_A_6
  rw [View.read_writes_eq_canon _ _ _ (cover2_A_6 c _ _ _ _ _ _ _ _ _ _ _ _ _ _ _ _ _ _ _ _ _)]
  unfold kernelRun2_A
  dsimp only
  sl_unfold_words
  refine (View.canon_unit_zero (by funext d; fin_cases d <;> rfl) _ _).trans ?_
  sl_kernel_rfl

end Cert.KernelIdeal.Level
-- ==== Proof.KernelBlocks.lean ====
module

public import proofs.«01_k».proof.Proof.KernelLevel
public import proofs.«01_k».proof.Proof.Blocks

/-!
The aggregation unit of the blocks that a level call cuts out of its padded arrays.
-/

@[expose] public section

set_option maxRecDepth 16384

noncomputable section

namespace Cert.KernelIdeal.Level

open Cert.KernelIdeal Cert.KernelIdeal.Gen Cert.Agg
open Idealize.ShloMosaic Idealize.ShloMosaic.TcCoe

/-- A block that starts at the origin and has the array's extents reads the array. -/
theorem whole_read {s : Shape} {α : Type} (f : s.Idx → α) (e : s.Idx → s.Idx) (h : ∀ j d, (e j d).val = 0 * s.size d + 1 * (j d).val) :
    (fun j => f (e j)) = f := by
  refine funext fun j => congrArg f (funext fun d => Fin.ext ?_)
  rw [h, Nat.zero_mul, Nat.zero_add, Nat.one_mul]

/-- A block of one frame at a pixel. -/
theorem block_at {H W : Nat} (h w : Nat) (a : Memref sig .tc .vmem (P4 3 H W) .f32) (ha : a.IsWhole)
    (x : Vec Ideal (P4 3 H W) .f32) (off : Fin 4 → Nat) (inb : ∀ d, off d + (P4 1 h w).size d ≤ (P4 3 H W).size d)
    (k : (P4 1 h w).ShapeCasts (P3 h w 32)) (t : Fin 3) (Y X : Nat) (hoff : off = ![t.val, Y, X, 0])
    (I : Fin h) (J : Fin w) (c : Fin 32) (hI : Y + I.val < H) (hJ : X + J.val < W) :
    block h w a ha x off inb k (ix3 I J c) = x (ix4 t ⟨Y + I.val, hI⟩ ⟨X + J.val, hJ⟩ c) := by
  subst hoff
  rw [block_eq]
  refine (shapeCast_apply (s := P4 1 h w) (t := P3 h w 32) _ k _ (ix4 0 I J c) ?_).trans ?_
  · rw [Shape.rowMajor_val_four, Shape.rowMajor_val_three]
    show ((0 * h + I.val) * w + J.val) * 32 + c.val = (I.val * w + J.val) * 32 + c.val
    rw [Nat.zero_mul, Nat.zero_add]
  · refine congrArg x (funext fun d => Fin.ext ?_)
    match d with
    | ⟨0, _⟩ => show t.val + 1 * 0 = t.val; omega
    | ⟨1, _⟩ => show Y + 1 * I.val = Y + I.val; omega
    | ⟨2, _⟩ => show X + 1 * J.val = X + J.val; omega
    | ⟨3, _⟩ => show 0 + 1 * c.val = c.val; omega

theorem entry_0 (a : Memref sig .tc .smem S4 .f32) (ha : a.IsWhole) (x : Vec Ideal S4 .f32) :
    entry (n := 4) a ha x 0 inb_S4_S1_0 = x (ix1 0) := entry_eq a ha x (0 : Fin 4) _
theorem entry_1 (a : Memref sig .tc .smem S4 .f32) (ha : a.IsWhole) (x : Vec Ideal S4 .f32) :
    entry (n := 4) a ha x 1 inb_S4_S1_1 = x (ix1 1) := entry_eq a ha x (1 : Fin 4) _
theorem entry_2 (a : Memref sig .tc .smem S4 .f32) (ha : a.IsWhole) (x : Vec Ideal S4 .f32) :
    entry (n := 4) a ha x 2 inb_S4_S1_2 = x (ix1 2) := entry_eq a ha x (2 : Fin 4) _
theorem entry_3 (a : Memref sig .tc .smem S4 .f32) (ha : a.IsWhole) (x : Vec Ideal S4 .f32) :
    entry (n := 4) a ha x 3 inb_S4_S1_3 = x (ix1 3) := entry_eq a ha x (3 : Fin 4) _
theorem entry_single (a : Memref sig .tc .smem S1 .f32) (ha : a.IsWhole) (x : Vec Ideal S1 .f32) :
    entry (n := 1) a ha x 0 inb_S1_S1_0 = x (ix1 0) := entry_eq a ha x (0 : Fin 1) _

theorem padded_add {h w : Nat} (m : Nat) (A B : Fin 32 → Fin h → Fin w → EReal) (c : Fin 32) (Y X : Nat) :
    paddedAt m A c Y X + paddedAt m B c Y X = paddedAt m (fun c y x => A c y x + B c y x) c Y X := by
  unfold paddedAt
  split
  · rfl
  · rw [add_zero]

/-- The unit of the blocks that one point of a level call reads: the aggregation at its rows. -/
theorem unit_of_padded {hA wA HB WB h w H W n d Ht Wt Hp Wp : Nat} {D r : Nat} (hd : D = d * d) (h4 : 4 ≤ D) (hD : D ≤ 2 ^ 20)
    (hn : n = h * w) (fa : PatchFits hA wA h w) (fb : PatchFits HB WB H W) (g : WindowFits H W h w d)
    (e : ProjFits hA wA HB WB h w n (r + 1)) (y ht cl ch : BitVec 32)
    (a0 a1 : Memref sig .tc .vmem (P4 3 Hp Wp) .f32) (ha0 : a0.IsWhole) (ha1 : a1.IsWhole)
    (x0 x1 : Vec Ideal (P4 3 Hp Wp) .f32) (off1 off2 off3 : Fin 4 → Nat)
    (inb1 : ∀ d, off1 d + (P4 1 hA wA).size d ≤ (P4 3 Hp Wp).size d)
    (inb2 : ∀ d, off2 d + (P4 1 hA wA).size d ≤ (P4 3 Hp Wp).size d)
    (inb3 : ∀ d, off3 d + (P4 1 HB WB).size d ≤ (P4 3 Hp Wp).size d)
    (kA : (P4 1 hA wA).ShapeCasts (P3 hA wA 32)) (kB : (P4 1 HB WB).ShapeCasts (P3 HB WB 32))
    (t : Fin 3) (y0 : Nat) (hoff1 : off1 = ![1, y0 + r, r, 0]) (hoff2 : off2 = ![t.val, y0 + r, r, 0]) (hoff3 : off3 = ![t.val, y0, 0, 0])
    (S T : Fin 3 → Fin 32 → Fin Ht → Fin Wt → EReal)
    (hx0 : ∀ t Y X k, x0 (ix4 t Y X k) = paddedAt (r + 1) (S t) k Y.val X.val)
    (hx1 : ∀ t Y X k, x1 (ix4 t Y X k) = paddedAt (r + 1) (T t) k Y.val X.val)
    (a : Fin 4 → EReal) (ab : EReal) (wt : FVec Ideal (P2 64 288) .f32) (bi : FVec Ideal (P2 1 288) .f32)
    (wr : Fin 288 → Fin 64 → EReal) (br : Fin 288 → EReal)
    (hw : ∀ q k, wt (ix2 q k) = wr (swapped k) q) (hb : ∀ k, bi (ix2 0 k) = br (swapped k))
    (hA1 : h + 2 = hA) (hA2 : w + 2 = wA) (hB1 : H + 2 = HB) (hB2 : W + 2 = WB) (hH1 : h + (d - 1) = H) (hW1 : w + (d - 1) = W)
    (hdr : d = 2 * r + 1) (hP : y0 + h + 2 * (r + 1) ≤ Hp) (hQ : w + 2 * (r + 1) ≤ Wp)
    (hH : H < 2 ^ 29) (hW : W < 2 ^ 29) (h0 : y0 < 2 ^ 28) (hr : r < 2 ^ 28)
    (hy : y.toInt = (y0 : ℤ) - r) (hht : ht.toInt = Ht) (hcl : cl.toInt = r) (hch : ch.toInt = (r : ℤ) + Wt)
    (i : Fin h) (j : Fin w) (c : Fin 32) (Y : Fin Ht) (X : Fin Wt) (hY : Y.val = y0 + i.val) (hX : X.val = j.val) :
    unitVec hA wA HB WB h w H W n d D (r + 1) fa fb g e y ht cl ch
        (addf (block hA wA a0 ha0 x0 off1 inb1 kA) (block hA wA a1 ha1 x1 off2 inb2 kA))
        (addf (block HB WB a0 ha0 x0 off3 inb3 kB) (block HB WB a1 ha1 x1 off3 inb3 kB))
        (a 0) (a 1) (a 2) (a 3) ab wt bi (ix3 i j c)
      = levelAt d r D h4 (fun c y x => S 1 c y x + T t c y x) (fun c y x => S t c y x + T t c y x) a ab wr br c Y X := by
  have hi := i.isLt
  have hj := j.isLt
  refine unit_level hd h4 hD hn fa fb g e y ht cl ch _ _ a ab wt bi _ _ wr br y0 hA1 hA2 hB1 hB2 hH1 hW1 hdr hH hW h0 hr hy hht hcl hch
    ?_ ?_ hw hb i j c Y X hY hX
  · intro I J k
    have hI := I.isLt
    have hJ := J.isLt
    refine (congrArg₂ (· + ·) (block_at hA wA a0 ha0 x0 off1 inb1 kA 1 (y0 + r) r hoff1 I J k (by omega) (by omega))
      (block_at hA wA a1 ha1 x1 off2 inb2 kA t (y0 + r) r hoff2 I J k (by omega) (by omega))).trans ?_
    rw [hx0, hx1]
    exact padded_add _ _ _ _ _ _
  · intro I J k
    have hI := I.isLt
    have hJ := J.isLt
    refine (congrArg₂ (· + ·) (block_at HB WB a0 ha0 x0 off3 inb3 kB t y0 0 hoff3 I J k (by omega) (by omega))
      (block_at HB WB a1 ha1 x1 off3 inb3 kB t y0 0 hoff3 I J k (by omega) (by omega))).trans ?_
    rw [hx0, hx1]
    exact padded_add _ _ _ _ _ _

end Cert.KernelIdeal.Level
-- ==== Proof.Region0.lean ====
module

public import proofs.«01_k».proof.Proof.KernelBlocks
public import proofs.«01_k».proof.Proof.KernelUp
public import proofs.«01_k».proof.Proof.Gen.KernelIdeal.Frame
public import Idealize.ShloMosaic.Lib.Pipeline.ValueKit

/-!
The array that the coarsest level's call leaves: the aggregation at every pixel of every frame, doubled, in four quadrants.
-/

@[expose] public section

set_option maxRecDepth 16384

noncomputable section

namespace Cert.KernelIdeal.Level

open Cert.KernelIdeal Cert.KernelIdeal.Gen Cert.Agg
open Idealize.ShloMosaic Idealize.ShloMosaic.TcCoe

theorem word0 (i : Fin 1) : (Scalar.subi (Scalar.muli (BitVec.ofNat 32 i.val) 10#32) 1#32).toInt = ((10 * i.val : Nat) : ℤ) - (1 : Nat) := by
  revert i; decide

theorem index0 : ∀ t : Fin cfg0.N, win0_6.index t (0 : Fin 5) = (grid0.coords t 0).val ∧ win0_6.index t (1 : Fin 5) = 0
    ∧ win0_6.index t (2 : Fin 5) = (grid0.coords t 1).val ∧ win0_6.index t (3 : Fin 5) = 0 ∧ win0_6.index t (4 : Fin 5) = 0 :=
  (by decide +kernel : ∀ t : Fin grid0.N, _)

variable (V : (c : Dev nD) → (b : Ref sig .tc) → Buf (Elt Ideal) ((c : Thread nD τ).loc b)) (c : Dev nD)

theorem in0_0 (t : Fin cfg0.N) : iblk0 V c 0 t = V c main_v28 :=
  whole_read (V c main_v28) _ fun _ d => match d with | ⟨0, _⟩ => rfl | ⟨1, _⟩ => rfl | ⟨2, _⟩ => rfl | ⟨3, _⟩ => rfl

theorem in0_1 (t : Fin cfg0.N) : iblk0 V c 1 t = V c main_v29 :=
  whole_read (V c main_v29) _ fun _ d => match d with | ⟨0, _⟩ => rfl | ⟨1, _⟩ => rfl | ⟨2, _⟩ => rfl | ⟨3, _⟩ => rfl

theorem in0_2 (t : Fin cfg0.N) : iblk0 V c 2 t = V c main_arg3 :=
  whole_read (V c main_arg3) _ fun _ d => match d with | ⟨0, _⟩ => rfl

theorem in0_3 (t : Fin cfg0.N) : iblk0 V c 3 t = V c main_arg4 :=
  whole_read (V c main_arg4) _ fun _ d => match d with | ⟨0, _⟩ => rfl

theorem in0_4 (t : Fin cfg0.N) : iblk0 V c 4 t = V c main_v9 :=
  whole_read (V c main_v9) _ fun _ d => match d with | ⟨0, _⟩ => rfl | ⟨1, _⟩ => rfl

theorem in0_5 (t : Fin cfg0.N) : iblk0 V c 5 t = V c main_v12 :=
  whole_read (V c main_v12) _ fun _ d => match d with | ⟨0, _⟩ => rfl | ⟨1, _⟩ => rfl

/-- The coarsest level's array. -/
theorem array0 (S T : Fin 3 → Fin 32 → Fin 10 → Fin 10 → EReal) (x0 x1 : Vec Ideal S3x14x14x32 .f32) (x2 : Vec Ideal S4 .f32)
    (x3 : Vec Ideal S1 .f32) (x4 : Vec Ideal S64x288 .f32) (x5 : Vec Ideal S1x288 .f32)
    (e0 : V c main_v28 = x0) (e1 : V c main_v29 = x1) (e2 : V c main_arg3 = x2) (e3 : V c main_arg4 = x3)
    (e4 : V c main_v9 = x4) (e5 : V c main_v12 = x5)
    (h0 : ∀ t Y X k, x0 (ix4 t Y X k) = paddedAt 2 (S t) k Y.val X.val)
    (h1 : ∀ t Y X k, x1 (ix4 t Y X k) = paddedAt 2 (T t) k Y.val X.val)
    (wr : Fin 288 → Fin 64 → EReal) (br : Fin 288 → EReal)
    (h4 : ∀ q k, x4 (ix2 q k) = wr (swapped k) q) (h5 : ∀ k, x5 (ix2 0 k) = br (swapped k)) :
    (dat0 V c).arrAt 6 cfg0.N = (fun j => quadrantAt (fun y x => levelAt 3 1 9 (by decide) (fun c y x => S 1 c y x + T (j 0) c y x)
      (fun c y x => S (j 0) c y x + T (j 0) c y x) (fun s => x2 (ix1 s)) (x3 (ix1 0)) wr br (j 4) y x) (j 1) (j 2) (j 3) : Vec Ideal S3x4x10x10x32 .f32) := by
  refine (dat0 V c).arrAt_eq_of_covers 6 _ (by decide +kernel) fun t hf y => ?_
  blk_simp
  rw [after0_6]
  unfold outsAt0
  rw [left0, in0_0, in0_1, in0_2, in0_3, in0_4, in0_5, e0, e1, e2, e3, e4, e5, whole2_eq, whole2_eq, entry_0 _ _ x2, entry_1 _ _ x2,
    entry_2 _ _ x2, entry_3 _ _ x2, entry_single _ _ x3]
  obtain ⟨i0, i1, i2, i3, i4⟩ := index0 t
  have hc : (grid0.coords t 1).val < 1 := (grid0.coords t 1).isLt
  have hz : (y 0).val < 1 := (y 0).isLt
  have ey : y = ix5 (0 : Fin 1) (y 1 : Fin 4) (y 2 : Fin 10) (y 3 : Fin 10) (y 4 : Fin 32) := funext fun a => match a with
    | ⟨0, _⟩ => Fin.ext (by show (y 0).val = 0; omega) | ⟨1, _⟩ => rfl | ⟨2, _⟩ => rfl | ⟨3, _⟩ => rfl | ⟨4, _⟩ => rfl
  have f0 : (win0_6.blk t).view.emb y 0 = (grid0.coords t 0 : Fin 3) := Fin.ext (by
    show win0_6.index t (0 : Fin 5) * 1 + 1 * (y 0).val = _
    omega)
  have f1 : (win0_6.blk t).view.emb y 1 = (y 1 : Fin 4) := Fin.ext (by
    show win0_6.index t (1 : Fin 5) * 4 + 1 * (y 1).val = _
    omega)
  have f2 : (win0_6.blk t).view.emb y 2 = (y 2 : Fin 10) := Fin.ext (by
    show win0_6.index t (2 : Fin 5) * 10 + 1 * (y 2).val = _
    omega)
  have f3 : (win0_6.blk t).view.emb y 3 = (y 3 : Fin 10) := Fin.ext (by
    show win0_6.index t (3 : Fin 5) * 10 + 1 * (y 3).val = _
    omega)
  have f4 : (win0_6.blk t).view.emb y 4 = (y 4 : Fin 32) := Fin.ext (by
    show win0_6.index t (4 : Fin 5) * 32 + 1 * (y 4).val = _
    omega)
  rw [f0, f1, f2, f3, f4]
  refine (congrArg _ ey).trans ((upVec_apply up0 _ rfl rfl (y 1) (y 2) (y 3) (y 4) ⟨2 * (y 2).val + (y 1).val / 2, double_row _ _⟩
    ⟨2 * (y 3).val + (y 1).val % 2, double_col _ _⟩ rfl rfl).trans ?_)
  unfold quadrantAt
  refine congrArg (fun A => upAt A _ _) (funext fun i => funext fun j => ?_)
  refine unit_of_padded (r := 1) rfl (by decide) (by decide) rfl own0 searchedFits0 window0 proj0 _ _ _ _ _ _ _ _ x0 x1 _ _ _ _ _ _ _ _
    (grid0.coords t 0) (10 * (grid0.coords t 1).val) ?_ ?_ ?_ S T h0 h1 (fun s => x2 (ix1 s)) _ x4 x5 wr br h4 h5
    rfl rfl rfl rfl rfl rfl rfl ?_ (by decide) (by decide) (by decide) ?_ (by decide) (word0 (grid0.coords t 1)) rfl rfl rfl _ _ _ _ _ ?_ rfl
  · exact k0_off1_eq _
  · exact k0_off2_eq _
  · exact k0_off3_eq _
  · omega
  · omega
  · omega

end Cert.KernelIdeal.Level
-- ==== Proof.Region1.lean ====
module

public import proofs.«01_k».proof.Proof.KernelBlocks
public import proofs.«01_k».proof.Proof.KernelUp
public import proofs.«01_k».proof.Proof.Gen.KernelIdeal.Frame
public import Idealize.ShloMosaic.Lib.Pipeline.ValueKit

/-!
The array that the middle level's call leaves: the aggregation at every pixel of every frame, doubled, in four quadrants.
-/

@[expose] public section

set_option maxRecDepth 16384

noncomputable section

namespace Cert.KernelIdeal.Level

open Cert.KernelIdeal Cert.KernelIdeal.Gen Cert.Agg
open Idealize.ShloMosaic Idealize.ShloMosaic.TcCoe

theorem word1 (i : Fin 1) : (Scalar.subi (Scalar.muli (BitVec.ofNat 32 i.val) 20#32) 2#32).toInt = ((20 * i.val : Nat) : ℤ) - (2 : Nat) := by
  revert i; decide

theorem index1 : ∀ t : Fin cfg1.N, win1_6.index t (0 : Fin 5) = (grid1.coords t 0).val ∧ win1_6.index t (1 : Fin 5) = 0
    ∧ win1_6.index t (2 : Fin 5) = (grid1.coords t 1).val ∧ win1_6.index t (3 : Fin 5) = 0 ∧ win1_6.index t (4 : Fin 5) = 0 :=
  (by decide +kernel : ∀ t : Fin grid1.N, _)

variable (V : (c : Dev nD) → (b : Ref sig .tc) → Buf (Elt Ideal) ((c : Thread nD τ).loc b)) (c : Dev nD)

theorem in1_0 (t : Fin cfg1.N) : iblk1 V c 0 t = V c main_v34 :=
  whole_read (V c main_v34) _ fun _ d => match d with | ⟨0, _⟩ => rfl | ⟨1, _⟩ => rfl | ⟨2, _⟩ => rfl | ⟨3, _⟩ => rfl

theorem in1_1 (t : Fin cfg1.N) : iblk1 V c 1 t = V c main_v35 :=
  whole_read (V c main_v35) _ fun _ d => match d with | ⟨0, _⟩ => rfl | ⟨1, _⟩ => rfl | ⟨2, _⟩ => rfl | ⟨3, _⟩ => rfl

theorem in1_2 (t : Fin cfg1.N) : iblk1 V c 2 t = V c main_arg7 :=
  whole_read (V c main_arg7) _ fun _ d => match d with | ⟨0, _⟩ => rfl

theorem in1_3 (t : Fin cfg1.N) : iblk1 V c 3 t = V c main_arg8 :=
  whole_read (V c main_arg8) _ fun _ d => match d with | ⟨0, _⟩ => rfl

theorem in1_4 (t : Fin cfg1.N) : iblk1 V c 4 t = V c main_v16 :=
  whole_read (V c main_v16) _ fun _ d => match d with | ⟨0, _⟩ => rfl | ⟨1, _⟩ => rfl

theorem in1_5 (t : Fin cfg1.N) : iblk1 V c 5 t = V c main_v19 :=
  whole_read (V c main_v19) _ fun _ d => match d with | ⟨0, _⟩ => rfl | ⟨1, _⟩ => rfl

/-- The middle level's array. -/
theorem array1 (S T : Fin 3 → Fin 32 → Fin 20 → Fin 20 → EReal) (x0 x1 : Vec Ideal S3x26x26x32 .f32) (x2 : Vec Ideal S4 .f32)
    (x3 : Vec Ideal S1 .f32) (x4 : Vec Ideal S64x288 .f32) (x5 : Vec Ideal S1x288 .f32)
    (e0 : V c main_v34 = x0) (e1 : V c main_v35 = x1) (e2 : V c main_arg7 = x2) (e3 : V c main_arg8 = x3)
    (e4 : V c main_v16 = x4) (e5 : V c main_v19 = x5)
    (h0 : ∀ t Y X k, x0 (ix4 t Y X k) = paddedAt 3 (S t) k Y.val X.val)
    (h1 : ∀ t Y X k, x1 (ix4 t Y X k) = paddedAt 3 (T t) k Y.val X.val)
    (wr : Fin 288 → Fin 64 → EReal) (br : Fin 288 → EReal)
    (h4 : ∀ q k, x4 (ix2 q k) = wr (swapped k) q) (h5 : ∀ k, x5 (ix2 0 k) = br (swapped k)) :
    (dat1 V c).arrAt 6 cfg1.N = (fun j => quadrantAt (fun y x => levelAt 5 2 25 (by decide) (fun c y x => S 1 c y x + T (j 0) c y x)
      (fun c y x => S (j 0) c y x + T (j 0) c y x) (fun s => x2 (ix1 s)) (x3 (ix1 0)) wr br (j 4) y x) (j 1) (j 2) (j 3) : Vec Ideal S3x4x20x20x32 .f32) := by
  refine (dat1 V c).arrAt_eq_of_covers 6 _ (by decide +kernel) fun t hf y => ?_
  blk_simp
  rw [after1_6]
  unfold outsAt1
  rw [left1, in1_0, in1_1, in1_2, in1_3, in1_4, in1_5, e0, e1, e2, e3, e4, e5, whole2_eq, whole2_eq, entry_0 _ _ x2, entry_1 _ _ x2,
    entry_2 _ _ x2, entry_3 _ _ x2, entry_single _ _ x3]
  obtain ⟨i0, i1, i2, i3, i4⟩ := index1 t
  have hc : (grid1.coords t 1).val < 1 := (grid1.coords t 1).isLt
  have hz : (y 0).val < 1 := (y 0).isLt
  have ey : y = ix5 (0 : Fin 1) (y 1 : Fin 4) (y 2 : Fin 20) (y 3 : Fin 20) (y 4 : Fin 32) := funext fun a => match a with
    | ⟨0, _⟩ => Fin.ext (by show (y 0).val = 0; omega) | ⟨1, _⟩ => rfl | ⟨2, _⟩ => rfl | ⟨3, _⟩ => rfl | ⟨4, _⟩ => rfl
  have f0 : (win1_6.blk t).view.emb y 0 = (grid1.coords t 0 : Fin 3) := Fin.ext (by
    show win1_6.index t (0 : Fin 5) * 1 + 1 * (y 0).val = _
    omega)
  have f1 : (win1_6.blk t).view.emb y 1 = (y 1 : Fin 4) := Fin.ext (by
    show win1_6.index t (1 : Fin 5) * 4 + 1 * (y 1).val = _
    omega)
  have f2 : (win1_6.blk t).view.emb y 2 = (y 2 : Fin 20) := Fin.ext (by
    show win1_6.index t (2 : Fin 5) * 20 + 1 * (y 2).val = _
    omega)
  have f3 : (win1_6.blk t).view.emb y 3 = (y 3 : Fin 20) := Fin.ext (by
    show win1_6.index t (3 : Fin 5) * 20 + 1 * (y 3).val = _
    omega)
  have f4 : (win1_6.blk t).view.emb y 4 = (y 4 : Fin 32) := Fin.ext (by
    show win1_6.index t (4 : Fin 5) * 32 + 1 * (y 4).val = _
    omega)
  rw [f0, f1, f2, f3, f4]
  refine (congrArg _ ey).trans ((upVec_apply up1 _ rfl rfl (y 1) (y 2) (y 3) (y 4) ⟨2 * (y 2).val + (y 1).val / 2, double_row _ _⟩
    ⟨2 * (y 3).val + (y 1).val % 2, double_col _ _⟩ rfl rfl).trans ?_)
  unfold quadrantAt
  refine congrArg (fun A => upAt A _ _) (funext fun i => funext fun j => ?_)
  refine unit_of_padded (r := 2) rfl (by decide) (by decide) rfl own1 searchedFits1 window1 proj1 _ _ _ _ _ _ _ _ x0 x1 _ _ _ _ _ _ _ _
    (grid1.coords t 0) (20 * (grid1.coords t 1).val) ?_ ?_ ?_ S T h0 h1 (fun s => x2 (ix1 s)) _ x4 x5 wr br h4 h5
    rfl rfl rfl rfl rfl rfl rfl ?_ (by decide) (by decide) (by decide) ?_ (by decide) (word1 (grid1.coords t 1)) rfl rfl rfl _ _ _ _ _ ?_ rfl
  · exact k1_off1_eq _
  · exact k1_off2_eq _
  · exact k1_off3_eq _
  · omega
  · omega
  · omega

end Cert.KernelIdeal.Level
-- ==== Proof.Region2.lean ====
module

public import proofs.«01_k».proof.Proof.KernelBlocks
public import proofs.«01_k».proof.Proof.Gen.KernelIdeal.Frame
public import Idealize.ShloMosaic.Lib.Pipeline.ValueKit

/-!
The array that the finest level's call leaves: the aggregation at every pixel of every frame.
-/

@[expose] public section

set_option maxRecDepth 16384

noncomputable section

namespace Cert.KernelIdeal.Level

open Cert.KernelIdeal Cert.KernelIdeal.Gen Cert.Agg
open Idealize.ShloMosaic Idealize.ShloMosaic.TcCoe

theorem word2 (i : Fin 4) : (Scalar.subi (Scalar.muli (BitVec.ofNat 32 i.val) 10#32) 3#32).toInt = ((10 * i.val : Nat) : ℤ) - (3 : Nat) := by
  revert i; decide

theorem index2 : ∀ t : Fin cfg2.N, win2_6.index t (0 : Fin 4) = (grid2.coords t 0).val ∧ win2_6.index t (1 : Fin 4) = (grid2.coords t 1).val
    ∧ win2_6.index t (2 : Fin 4) = 0 ∧ win2_6.index t (3 : Fin 4) = 0 :=
  (by decide +kernel : ∀ t : Fin grid2.N, _)

variable (V : (c : Dev nD) → (b : Ref sig .tc) → Buf (Elt Ideal) ((c : Thread nD τ).loc b)) (c : Dev nD)

theorem in2_0 (t : Fin cfg2.N) : iblk2 V c 0 t = V c main_v40 :=
  whole_read (V c main_v40) _ fun _ d => match d with | ⟨0, _⟩ => rfl | ⟨1, _⟩ => rfl | ⟨2, _⟩ => rfl | ⟨3, _⟩ => rfl

theorem in2_1 (t : Fin cfg2.N) : iblk2 V c 1 t = V c main_v41 :=
  whole_read (V c main_v41) _ fun _ d => match d with | ⟨0, _⟩ => rfl | ⟨1, _⟩ => rfl | ⟨2, _⟩ => rfl | ⟨3, _⟩ => rfl

theorem in2_2 (t : Fin cfg2.N) : iblk2 V c 2 t = V c main_arg11 :=
  whole_read (V c main_arg11) _ fun _ d => match d with | ⟨0, _⟩ => rfl

theorem in2_3 (t : Fin cfg2.N) : iblk2 V c 3 t = V c main_arg12 :=
  whole_read (V c main_arg12) _ fun _ d => match d with | ⟨0, _⟩ => rfl

theorem in2_4 (t : Fin cfg2.N) : iblk2 V c 4 t = V c main_v23 :=
  whole_read (V c main_v23) _ fun _ d => match d with | ⟨0, _⟩ => rfl | ⟨1, _⟩ => rfl

theorem in2_5 (t : Fin cfg2.N) : iblk2 V c 5 t = V c main_v26 :=
  whole_read (V c main_v26) _ fun _ d => match d with | ⟨0, _⟩ => rfl | ⟨1, _⟩ => rfl

/-- The finest level's array. -/
theorem array2 (S T : Fin 3 → Fin 32 → Fin 40 → Fin 40 → EReal) (x0 x1 : Vec Ideal S3x48x48x32 .f32) (x2 : Vec Ideal S4 .f32)
    (x3 : Vec Ideal S1 .f32) (x4 : Vec Ideal S64x288 .f32) (x5 : Vec Ideal S1x288 .f32)
    (e0 : V c main_v40 = x0) (e1 : V c main_v41 = x1) (e2 : V c main_arg11 = x2) (e3 : V c main_arg12 = x3)
    (e4 : V c main_v23 = x4) (e5 : V c main_v26 = x5)
    (h0 : ∀ t Y X k, x0 (ix4 t Y X k) = paddedAt 4 (S t) k Y.val X.val)
    (h1 : ∀ t Y X k, x1 (ix4 t Y X k) = paddedAt 4 (T t) k Y.val X.val)
    (wr : Fin 288 → Fin 64 → EReal) (br : Fin 288 → EReal)
    (h4 : ∀ q k, x4 (ix2 q k) = wr (swapped k) q) (h5 : ∀ k, x5 (ix2 0 k) = br (swapped k)) :
    (dat2 V c).arrAt 6 cfg2.N = (fun j => levelAt 7 3 49 (by decide) (fun c y x => S 1 c y x + T (j 0) c y x)
      (fun c y x => S (j 0) c y x + T (j 0) c y x) (fun s => x2 (ix1 s)) (x3 (ix1 0)) wr br (j 3) (j 1) (j 2) : Vec Ideal S3x40x40x32 .f32) := by
  refine (dat2 V c).arrAt_eq_of_covers 6 _ (by decide +kernel) fun t hf y => ?_
  blk_simp
  rw [after2_6]
  unfold outsAt2
  rw [left2, in2_0, in2_1, in2_2, in2_3, in2_4, in2_5, e0, e1, e2, e3, e4, e5, whole2_eq, whole2_eq, entry_0 _ _ x2, entry_1 _ _ x2,
    entry_2 _ _ x2, entry_3 _ _ x2, entry_single _ _ x3]
  obtain ⟨i0, i1, i2, i3⟩ := index2 t
  have hc := (grid2.coords t 1).isLt
  refine (shapeCast_apply (s := P3 10 40 32) (t := S1x10x40x32) _ _ y (ix3 (y 1) (y 2) (y 3)) ?_).trans ?_
  · rw [Shape.rowMajor_val_four, Shape.rowMajor_val_three]
    have hz : (y 0).val < 1 := (y 0).isLt
    show ((y 1).val * 40 + (y 2).val) * 32 + (y 3).val = (((y 0).val * 10 + (y 1).val) * 40 + (y 2).val) * 32 + (y 3).val
    omega
  · have f0 : (win2_6.blk t).view.emb y 0 = (grid2.coords t 0 : Fin 3) := Fin.ext (by
      have hz : (y 0).val < 1 := (y 0).isLt
      show win2_6.index t (0 : Fin 4) * 1 + 1 * (y 0).val = _
      omega)
    have f3 : (win2_6.blk t).view.emb y 3 = (y 3 : Fin 32) := Fin.ext (by
      show win2_6.index t (3 : Fin 4) * 32 + 1 * (y 3).val = _
      omega)
    rw [f0, f3]
    refine unit_of_padded (r := 3) rfl (by decide) (by decide) rfl own2 searchedFits2 window2 proj2 _ _ _ _ _ _ _ _ x0 x1 _ _ _ _ _ _ _ _
      (grid2.coords t 0) (10 * (grid2.coords t 1).val) ?_ ?_ ?_ S T h0 h1 (fun s => x2 (ix1 s)) _ x4 x5 wr br h4 h5
      rfl rfl rfl rfl rfl rfl rfl ?_ (by decide) (by decide) (by decide) ?_ (by decide) (word2 (grid2.coords t 1)) rfl rfl rfl _ _ _ _ _ ?_ ?_
    · exact k2_off1_eq _
    · exact k2_off2_eq _
    · exact k2_off3_eq _
    · have : (grid2.coords t 1).val < 4 := hc
      omega
    · have : (grid2.coords t 1).val < 4 := hc
      omega
    · show win2_6.index t (1 : Fin 4) * 10 + 1 * (y 1).val = _
      omega
    · show win2_6.index t (2 : Fin 4) * 40 + 1 * (y 2).val = _
      omega

end Cert.KernelIdeal.Level
-- ==== Proof.Region3.lean ====
module

public import proofs.«01_k».proof.Proof.KernelBlocks
public import proofs.«01_k».proof.Proof.KernelUp
public import proofs.«01_k».proof.Proof.NetSpec
public import proofs.«01_k».proof.Proof.Gen.KernelIdeal.Frame
public import Idealize.ShloMosaic.Lib.Pipeline.ValueKit

/-!
The array that the last call leaves: at every pixel, the mixing of the three frames' channels.
-/

@[expose] public section

set_option maxRecDepth 16384

noncomputable section

namespace Cert.KernelIdeal.Level

open Cert.KernelIdeal Cert.KernelIdeal.Gen Cert.Agg
open Idealize.ShloMosaic Idealize.ShloMosaic.TcCoe

theorem same_cast {α : Type} {s : Shape} (x : s.Idx → α) (h : s.ShapeCasts s) : shapeCast s x h = x :=
  funext fun j => shapeCast_apply _ _ _ _ rfl

theorem pay_apply (A : Fin 3 → Fin 32 → Fin 40 → Fin 40 → EReal) (w : Fin 128 → Fin 96 → EReal) (b : Fin 128 → EReal)
    (x0 x1 x2 : Vec Ideal S40x40x32 .f32) (x3 : Vec Ideal S96x128 .f32) (x4 : Vec Ideal S1x128 .f32)
    (h0 : ∀ y x c, x0 (ix3 y x c) = A 0 c y x) (h1 : ∀ y x c, x1 (ix3 y x c) = A 1 c y x) (h2 : ∀ y x c, x2 (ix3 y x c) = A 2 c y x)
    (h3 : ∀ q k, x3 (ix2 q k) = w k q) (h4 : ∀ k, x4 (ix2 0 k) = b k) (y x : Fin 40) (k : Fin 128) :
    k3_pay1 x0 x1 x2 x3 x4 (ix3 y x k) = mixAt A w b y x k := by
  have hr : y.val * 40 + x.val < 1600 := by omega
  unfold k3_pay1
  rw [same_cast, same_cast, same_cast, same_cast, same_cast, shapeCast_apply _ _ _ (ix2 (⟨y.val * 40 + x.val, hr⟩ : Fin 1600) k)
    (by rw [Shape.rowMajor_val_two, Shape.rowMajor_val_three]; rfl)]
  refine (congrArg₂ (· + ·) (Ideal.matmul_apply₁_of dot_S1600x96_S96x128_S1600x128_1_0_0_1_n_n (a := 1) rfl (K := 96) rfl _ x3
    (constant (F := Ideal) S1600x128 .f32 0x00000000#32) (ix2 (⟨y.val * 40 + x.val, hr⟩ : Fin 1600) k)
      (fun q => ix2 (⟨y.val * 40 + x.val, hr⟩ : Fin 1600) q) (fun q => ix2 q k)
      (fun q => by rw [Shape.Idx.norm2]; rfl) (fun q => by rw [Shape.Idx.norm2]; rfl))
    (broadcastTo_apply _ _ _ (ix2 (0 : Fin 1) k) fun a => match a with | ⟨0, _⟩ => rfl | ⟨1, _⟩ => rfl)).trans ?_
  rw [show constant (F := Ideal) S1600x128 .f32 0x00000000#32 (ix2 (⟨y.val * 40 + x.val, hr⟩ : Fin 1600) k) = 0 from zero_bits, zero_add, h4]
  unfold mixAt
  refine congrArg (· + _) (Finset.sum_congr rfl fun q _ => congrArg₂ (· * ·) ?_ (h3 q k))
  rw [shapeCast_apply _ _ _ (ix3 y x q) (by rw [Shape.rowMajor_val_two, Shape.rowMajor_val_three]; rfl)]
  have off : ∀ (e : Fin 32) (b : Fin S40x40x32.rank), b.cast (rfl : S40x40x32.rank = S40x40x96.rank) ≠ 2 →
      ((ix3 y x e : S40x40x32.Idx) b).val = ((ix3 y x q : S40x40x96.Idx) (b.cast rfl)).val :=
    fun e b hb => match b with | ⟨0, _⟩ => rfl | ⟨1, _⟩ => rfl | ⟨2, _⟩ => absurd rfl hb
  have hq := q.isLt
  have place : q.val = q.val / 32 * 32 + q.val % 32 := by omega
  by_cases c0 : q.val / 32 = 0
  · refine (concatenate_apply_piece (t := S40x40x96) (2 : Fin 3) _ _ _ 0 (by show 0 < 3; omega) S40x40x32 _ rfl rfl 0 rfl
      (ix3 y x ⟨q.val % 32, by omega⟩) (off _) (by show 0 + q.val % 32 = q.val; omega)).trans ?_
    rw [h0]
    exact congrArg (fun t => A t _ y x) (Fin.ext c0.symm)
  · by_cases c1 : q.val / 32 = 1
    · refine (concatenate_apply_piece (t := S40x40x96) (2 : Fin 3) _ _ _ 1 (by show 1 < 3; omega) S40x40x32 _ rfl rfl 32 rfl
        (ix3 y x ⟨q.val % 32, by omega⟩) (off _) (by show 32 + q.val % 32 = q.val; omega)).trans ?_
      rw [h1]
      exact congrArg (fun t => A t _ y x) (Fin.ext c1.symm)
    · refine (concatenate_apply_piece (t := S40x40x96) (2 : Fin 3) _ _ _ 2 (by show 2 < 3; omega) S40x40x32 _ rfl rfl 64 rfl
        (ix3 y x ⟨q.val % 32, by omega⟩) (off _) (by show 64 + q.val % 32 = q.val; omega)).trans ?_
      rw [h2]
      exact congrArg (fun t => A t _ y x) (Fin.ext (by show 2 = q.val / 32; omega))

variable (V : (c : Dev nD) → (b : Ref sig .tc) → Buf (Elt Ideal) ((c : Thread nD τ).loc b)) (c : Dev nD)

theorem in3_0 (t : Fin cfg3.N) : iblk3 V c 0 t = V c main_v44 :=
  whole_read (V c main_v44) _ fun _ d => match d with | ⟨0, _⟩ => rfl | ⟨1, _⟩ => rfl | ⟨2, _⟩ => rfl

theorem in3_1 (t : Fin cfg3.N) : iblk3 V c 1 t = V c main_v46 :=
  whole_read (V c main_v46) _ fun _ d => match d with | ⟨0, _⟩ => rfl | ⟨1, _⟩ => rfl | ⟨2, _⟩ => rfl

theorem in3_2 (t : Fin cfg3.N) : iblk3 V c 2 t = V c main_v48 :=
  whole_read (V c main_v48) _ fun _ d => match d with | ⟨0, _⟩ => rfl | ⟨1, _⟩ => rfl | ⟨2, _⟩ => rfl

theorem in3_3 (t : Fin cfg3.N) : iblk3 V c 3 t = V c main_v49 :=
  whole_read (V c main_v49) _ fun _ d => match d with | ⟨0, _⟩ => rfl | ⟨1, _⟩ => rfl

theorem in3_4 (t : Fin cfg3.N) : iblk3 V c 4 t = V c main_v50 :=
  whole_read (V c main_v50) _ fun _ d => match d with | ⟨0, _⟩ => rfl | ⟨1, _⟩ => rfl

/-- The last call's array. -/
theorem array3 (A : Fin 3 → Fin 32 → Fin 40 → Fin 40 → EReal) (w : Fin 128 → Fin 96 → EReal) (b : Fin 128 → EReal)
    (x0 x1 x2 : Vec Ideal S40x40x32 .f32) (x3 : Vec Ideal S96x128 .f32) (x4 : Vec Ideal S1x128 .f32)
    (e0 : V c main_v44 = x0) (e1 : V c main_v46 = x1) (e2 : V c main_v48 = x2) (e3 : V c main_v49 = x3) (e4 : V c main_v50 = x4)
    (h0 : ∀ y x c, x0 (ix3 y x c) = A 0 c y x) (h1 : ∀ y x c, x1 (ix3 y x c) = A 1 c y x) (h2 : ∀ y x c, x2 (ix3 y x c) = A 2 c y x)
    (h3 : ∀ q k, x3 (ix2 q k) = w k q) (h4 : ∀ k, x4 (ix2 0 k) = b k) :
    (dat3 V c).arrAt 5 cfg3.N = (fun j => mixAt A w b (j 0) (j 1) (j 2) : Vec Ideal S40x40x128 .f32) := by
  refine (dat3 V c).arrAt_eq_of_covers 5 _ (by decide +kernel) fun t hf y => ?_
  blk_simp
  rw [after3_5]
  unfold out3_5
  rw [in3_0, in3_1, in3_2, in3_3, in3_4, e0, e1, e2, e3, e4, View.canon_unit_zero (by funext d; fin_cases d <;> rfl),
    View.ld_unit_zero (by funext d; fin_cases d <;> rfl), View.ld_unit_zero (by funext d; fin_cases d <;> rfl),
    View.ld_unit_zero (by funext d; fin_cases d <;> rfl), View.ld_unit_zero (by funext d; fin_cases d <;> rfl), View.ld_unit_zero (by funext d; fin_cases d <;> rfl)]
  have ey : y = ix3 (y 0 : Fin 40) (y 1 : Fin 40) (y 2 : Fin 128) := funext fun a => match a with
    | ⟨0, _⟩ => rfl | ⟨1, _⟩ => rfl | ⟨2, _⟩ => rfl
  have f0 : (win3_5.blk t).view.emb y 0 = (y 0 : Fin 40) := Fin.ext (by show 0 * 40 + 1 * (y 0).val = (y 0).val; omega)
  have f1 : (win3_5.blk t).view.emb y 1 = (y 1 : Fin 40) := Fin.ext (by show 0 * 40 + 1 * (y 1).val = (y 1).val; omega)
  have f2 : (win3_5.blk t).view.emb y 2 = (y 2 : Fin 128) := Fin.ext (by show 0 * 128 + 1 * (y 2).val = (y 2).val; omega)
  rw [f0, f1, f2]
  exact (congrArg _ ey).trans (pay_apply A w b x0 x1 x2 x3 x4 h0 h1 h2 h3 h4 _ _ _)

end Cert.KernelIdeal.Level
-- ==== Proof.Value.lean ====
module

public import proofs.«01_k».proof.Proof.Entry
public import proofs.«01_k».proof.Proof.Region0
public import proofs.«01_k».proof.Proof.Region1
public import proofs.«01_k».proof.Proof.Region2
public import proofs.«01_k».proof.Proof.Region3

/-!
The result the kernel leaves: the network's, of the arguments.
-/

@[expose] public section

set_option maxRecDepth 16384

noncomputable section

namespace Cert.KernelIdeal.Level

open Cert.KernelIdeal Cert.KernelIdeal.Gen Cert.Agg
open Idealize.ShloMosaic Idealize.ShloMosaic.TcCoe

variable (m : (ℓ : Loc nD τ sig) → Buf (Elt Ideal) ℓ) (ρ : Dev nD → PrngReg) (c : Dev nD)

/-- What a padded array is at a place, when the array is known. -/
theorem padded {H Hp r : Nat} (x : FVec Ideal (P4 3 H H) .f32) (A : Fin 3 → Fin 32 → Fin H → Fin H → EReal) (h : ∀ t y z k, x (ix4 t y z k) = A t k y z)
    (hf : (P4 3 H H).Pads (![0, r, r, 0] : Fin 4 → Nat) ![0, r, r, 0] ![0, 0, 0, 0] (P4 3 Hp Hp)) (t : Fin 3) (Y X : Fin Hp) (k : Fin 32) :
    pad (P4 3 Hp Hp) ![0, r, r, 0] ![0, r, r, 0] ![0, 0, 0, 0] x border hf h_S_ (ix4 t Y X k) = paddedAt r (A t) k Y.val X.val :=
  (border_apply x hf _ t Y X k).trans (congrArg (fun B => paddedAt r B k Y.val X.val)
    (funext fun k => funext fun y => funext fun z => h t y z k))

/-- Argument `r` as launched. -/
abbrev arg (r : Ref sig .tc) : Buf (Elt Ideal) ((c : Thread nD τ).loc r) := m ((c : Thread nD τ).loc r)

/-- What the third level adds to the second. -/
def up3 : Fin 3 → Fin 32 → Fin 20 → Fin 20 → EReal :=
  third (arg m c main_arg2) (arg m c main_arg3) (arg m c main_arg4) (arg m c main_arg5) (arg m c main_arg6)

theorem image3 : W5 m ρ c main_v30 = (fun j => quadrantAt (aggregated 3 1 9 (by decide) (frames (arg m c main_arg2)) (fun _ _ _ _ => 0)
    (arg m c main_arg3) (arg m c main_arg4) (arg m c main_arg5) (arg m c main_arg6) (j 0) (j 4)) (j 1) (j 2) (j 3) : Vec Ideal S3x4x10x10x32 .f32) :=
  (W5_arr m ρ c 6).trans (array0 (V4 m ρ) c (frames (arg m c main_arg2)) (fun _ _ _ _ => 0) _ _ _ _ _ _
    (source3 m ρ c) (added3 m ρ c) (W4_args m ρ c main_arg3 (by decide)) (W4_args m ρ c main_arg4 (by decide))
    ((keep4 m ρ c main_v9 (by decide) (by decide) (by decide)).trans (rows3 m ρ c))
    ((keep4 m ρ c main_v12 (by decide) (by decide) (by decide)).trans (bias3 m ρ c))
    (padded _ _ (fun t y z k => by rw [features3]; exact lastly_apply (arg m c main_arg2) _ _ t y z k) _)
    (padded _ _ (fun t y z k => nothing_apply _) _)
    (fun k q => arg m c main_arg5 (ix2 k q)) (fun k => arg m c main_arg6 (ix1 k))
    (fun q k => rowsOf_apply _ q k) (fun k => biasOf_apply _ k))

theorem added2_apply (t : Fin 3) (Y X : Fin 20) (k : Fin 32) : together2 (W5 m ρ c main_v30) (ix4 t Y X k) = up3 m c t k Y X := by
  rw [image3]
  exact interleave_apply (H := 10) (K := 20) rfl _ _ _ _ _ (fun _ _ _ _ _ => rfl) t Y X k

/-- What the second level adds to the first. -/
def up2 : Fin 3 → Fin 32 → Fin 40 → Fin 40 → EReal :=
  second (arg m c main_arg1) (up3 m c) (arg m c main_arg7) (arg m c main_arg8) (arg m c main_arg9) (arg m c main_arg10)

theorem image2 : W10 m ρ c main_v36 = (fun j => quadrantAt (aggregated 5 2 25 (by decide) (frames (arg m c main_arg1)) (up3 m c)
    (arg m c main_arg7) (arg m c main_arg8) (arg m c main_arg9) (arg m c main_arg10) (j 0) (j 4)) (j 1) (j 2) (j 3) : Vec Ideal S3x4x20x20x32 .f32) :=
  (W10_arr m ρ c 6).trans (array1 (V9 m ρ) c (frames (arg m c main_arg1)) (up3 m c) _ _ _ _ _ _
    (source2 m ρ c) (added2 m ρ c) (W9_args m ρ c main_arg7 (by decide)) (W9_args m ρ c main_arg8 (by decide))
    ((keep9 m ρ c main_v16 (by decide) (by decide) (by decide) (by decide) (by decide)).trans
      ((keep4 m ρ c main_v16 (by decide) (by decide) (by decide)).trans (rows2 m ρ c)))
    ((keep9 m ρ c main_v19 (by decide) (by decide) (by decide) (by decide) (by decide)).trans
      ((keep4 m ρ c main_v19 (by decide) (by decide) (by decide)).trans (bias2 m ρ c)))
    (padded _ _ (fun t y z k => by
      rw [W5_of m ρ c main_v3 (by decide), keep4 m ρ c main_v3 (by decide) (by decide) (by decide), features2]
      exact lastly_apply (arg m c main_arg1) _ _ t y z k) _)
    (padded _ _ (added2_apply m ρ c) _)
    (fun k q => arg m c main_arg9 (ix2 k q)) (fun k => arg m c main_arg10 (ix1 k))
    (fun q k => rowsOf_apply _ q k) (fun k => biasOf_apply _ k))

theorem added1_apply (t : Fin 3) (Y X : Fin 40) (k : Fin 32) : together1 (W10 m ρ c main_v36) (ix4 t Y X k) = up2 m c t k Y X := by
  rw [image2]
  exact interleave_apply (H := 20) (K := 40) rfl _ _ _ _ _ (fun _ _ _ _ _ => rfl) t Y X k

/-- The first level, of the arguments. -/
def image : Fin 3 → Fin 32 → Fin 40 → Fin 40 → EReal :=
  aggregated 7 3 49 (by decide) (frames (arg m c main_arg0)) (up2 m c) (arg m c main_arg11) (arg m c main_arg12) (arg m c main_arg13) (arg m c main_arg14)

theorem image1 : W15 m ρ c main_v42 = (fun j => image m c (j 0) (j 3) (j 1) (j 2) : Vec Ideal S3x40x40x32 .f32) :=
  (W15_arr m ρ c 6).trans (array2 (V14 m ρ) c (frames (arg m c main_arg0)) (up2 m c) _ _ _ _ _ _
    (source1 m ρ c) (added1 m ρ c) (W14_args m ρ c main_arg11 (by decide)) (W14_args m ρ c main_arg12 (by decide))
    ((keep14 m ρ c main_v23 (by decide) (by decide) (by decide) (by decide) (by decide)).trans
      ((keep9 m ρ c main_v23 (by decide) (by decide) (by decide) (by decide) (by decide)).trans
        ((keep4 m ρ c main_v23 (by decide) (by decide) (by decide)).trans (rows1 m ρ c))))
    ((keep14 m ρ c main_v26 (by decide) (by decide) (by decide) (by decide) (by decide)).trans
      ((keep9 m ρ c main_v26 (by decide) (by decide) (by decide) (by decide) (by decide)).trans
        ((keep4 m ρ c main_v26 (by decide) (by decide) (by decide)).trans (bias1 m ρ c))))
    (padded _ _ (fun t y z k => by
      rw [W10_of m ρ c main_v1 (by decide), keep9 m ρ c main_v1 (by decide) (by decide) (by decide) (by decide) (by decide),
        keep4 m ρ c main_v1 (by decide) (by decide) (by decide), features1]
      exact lastly_apply (arg m c main_arg0) _ _ t y z k) _)
    (padded _ _ (added1_apply m ρ c) _)
    (fun k q => arg m c main_arg13 (ix2 k q)) (fun k => arg m c main_arg14 (ix1 k))
    (fun q k => rowsOf_apply _ q k) (fun k => biasOf_apply _ k))

theorem pixels : W17 m ρ c main_v51 = (fun j => mixAt (image m c) (fun k q => arg m c main_arg15 (ix2 k q)) (fun k => arg m c main_arg16 (ix1 k))
    (j 0) (j 1) (j 2) : Vec Ideal S40x40x128 .f32) :=
  (W17_arr m ρ c 5).trans (array3 (V16 m ρ) c (image m c) _ _ _ _ _ _ _
    (frame0 m ρ c) (frame1 m ρ c) (frame2 m ρ c) (mixing m ρ c) (mixingBias m ρ c)
    (fun y x k => by rw [image1]; exact frame_apply 0 _ _ _ 0 rfl y x k)
    (fun y x k => by rw [image1]; exact frame_apply 1 _ _ _ 1 rfl y x k)
    (fun y x k => by rw [image1]; exact frame_apply 2 _ _ _ 2 rfl y x k)
    (fun q k => transpose_apply _ _ _ _ (ix2 k q) (fun b => match b with | ⟨0, _⟩ => rfl | ⟨1, _⟩ => rfl))
    (fun k => shapeCast_apply _ _ _ (ix1 k) (by rw [Shape.rowMajor_val_one, Shape.rowMajor_val_two]; simp)))

/-- The kernel's result at a pixel. -/
theorem result_at (k : Fin 32) (Y X : Fin 80) :
    (W18 m ρ c main_v54 : Vec Ideal S1x32x80x80 .f32) (ix4 (0 : Fin 1) k Y X)
      = result (arg m c main_arg0) (up2 m c) (arg m c main_arg11) (arg m c main_arg12) (arg m c main_arg13) (arg m c main_arg14)
          (arg m c main_arg15) (arg m c main_arg16) k Y X := by
  rw [left, pixels]
  exact spread_pixels _ _ _ _ k Y X

end Cert.KernelIdeal.Level
-- ==== Proof.RefLevel.lean ====
module

public import proofs.«01_k».proof.Proof.RefPixel

/-!
The reference's aggregation at a pixel is the level's value.
-/

@[expose] public section

set_option maxRecDepth 16384

noncomputable section

namespace Cert.Ref

open Idealize.ShloMosaic Cert.Agg

/-- One frame of a stack of images. -/
abbrev frameOf {h w : Nat} (x : FVec Ideal (R4 32 h w) .f32) (t : Fin 3) : Fin 32 → Fin h → Fin w → EReal := fun c y z => x (ix4 t c y z)

theorem patches_at {h w hp wp : Nat} (f : UnfoldFits 32 h w hp wp 3 1 288) (x : FVec Ideal (R4 32 h w) .f32) (t : Fin 3) (k : Fin 288)
    (y : Fin h) (z : Fin w) : unfold f x (ix4 t k y z) = patchAt (frameOf x t) y z k := by
  have hk := k.isLt
  exact unfold_apply f rfl x t k ⟨k.val / 9, by omega⟩ ⟨k.val % 9 / 3, by omega⟩ ⟨k.val % 9 % 3, by omega⟩
    (by show k.val = k.val / 9 * 9 + (k.val % 9 / 3 * 3 + k.val % 9 % 3); omega) y z

theorem window_at {h w D E hp wp d r : Nat} (f : LevelFits h w D E) (fw : UnfoldFits 288 h w hp wp d r E) (hd : D = d * d) (hE : E = 288 * D)
    (v : FVec Ideal (R4 288 h w) .f32) (B : Fin 32 → Fin h → Fin w → EReal) (t : Fin 3)
    (hv : ∀ k y z, v (ix4 t k y z) = patchAt B (y : Fin h).val (z : Fin w).val k) (k : Fin 288) (y : Fin h) (z : Fin w) (dd : Fin D) :
    window f fw v (ix5 t k y z dd) = windowAt d r B y z dd k := by
  have hk := k.isLt
  have hdd := dd.isLt
  have hdp : 0 < d := by
    rcases Nat.eq_zero_or_pos d with h0 | h0
    · exfalso
      subst h0
      omega
    · exact h0
  have hq : k.val * D + dd.val < E := by
    have : k.val * D ≤ 287 * D := Nat.mul_le_mul_right D (by omega)
    rw [hE]
    omega
  unfold window
  refine (transpose_apply _ _ _ _ (ix5 t k dd y z) fun b => ?_).trans ?_
  · match b with
    | ⟨0, _⟩ => rfl
    | ⟨1, _⟩ => rfl
    | ⟨2, _⟩ => rfl
    | ⟨3, _⟩ => rfl
    | ⟨4, _⟩ => rfl
  refine (shapeCast_apply _ _ _ (ix4 t ⟨k.val * D + dd.val, hq⟩ y z) ?_).trans ?_
  · rw [Shape.rowMajor_val_five, Shape.rowMajor_val_four]
    have e : t.val * E + (k.val * D + dd.val) = (t.val * 288 + k.val) * D + dd.val := by rw [hE]; ring
    show ((t.val * E + (k.val * D + dd.val)) * h + y.val) * w + z.val = (((t.val * 288 + k.val) * D + dd.val) * h + y.val) * w + z.val
    rw [e]
  refine (unfold_apply fw (by rw [hE, hd]) v t _ k ⟨dd.val / d, Nat.div_lt_of_lt_mul (by rw [← hd]; exact hdd)⟩
    ⟨dd.val % d, Nat.mod_lt _ hdp⟩ ?_ y z).trans ?_
  · show k.val * D + dd.val = k.val * (d * d) + (dd.val / d * d + dd.val % d)
    rw [Nat.div_add_mod']
    exact congrArg (fun n => k.val * n + dd.val) hd
  · unfold windowAt
    split
    · exact hv _ _ _
    · rfl

theorem add_at {s : Shape} (a b : FVec Ideal s .f32) (i : s.Idx) : addf a b i = a i + b i := rfl

theorem mixed_apply {h w D E : Nat} (f : LevelFits h w D E) (g : FVec Ideal (R5 288 h w 4) .f32) (a : FVec Ideal ⟨1, ![4]⟩ .f32)
    (b : FVec Ideal ⟨1, ![1]⟩ .f32) (t : Fin 3) (k : Fin 288) (y : Fin h) (z : Fin w) :
    mixed f g a b (ix4 t k y z) = ∑ s : Fin 4, a (ix1 s) * g (ix5 t k y z s) + b (ix1 0) := by
  have hdot : Host.dotGeneral (F := Ideal) ⟨[0], [4], [], [0, 1, 2, 3], [], [], f.mix⟩ none a g (ix4 t k y z)
      = ∑ s : Fin 4, a (ix1 s) * g (ix5 t k y z s) := by
    let d : DotDims ⟨1, ![4]⟩ (R5 288 h w 4) (R4 288 h w) := ⟨[0], [4], [], [0, 1, 2, 3], [], [], f.mix⟩
    show Host.dotGeneral (F := Ideal) d none a g (ix4 t k y z) = _
    simp only [Host.dotGeneral]
    rw [Ideal.dotGeneral_apply, ← Equiv.sum_comp (ValueIdx.contrEquiv1 d 4 rfl rfl).symm]
    refine Finset.sum_congr rfl fun s _ => ?_
    have hs := ValueIdx.contrEquiv1_symm_val d 4 rfl rfl s
    congr 1
    · refine congrArg a (funext fun i => Fin.ext ?_)
      match i with
      | ⟨0, _⟩ => exact (d.lhsIdx_val_of_single rfl _ _).trans hs
    · refine congrArg g (funext fun i => Fin.ext ?_)
      match i with
      | ⟨0, _⟩ => rfl
      | ⟨1, _⟩ => rfl
      | ⟨2, _⟩ => rfl
      | ⟨3, _⟩ => rfl
      | ⟨4, _⟩ => exact (d.rhsIdx_val_of_single rfl _ _).trans hs
  unfold mixed
  rw [add_at, hdot]
  refine congrArg (_ + ·) ?_
  refine (spread_apply _ _ _ _ (fun i => i.elim0) fun i => i.elim0).trans ?_
  refine shapeCast_apply _ _ _ (ix1 0) ?_
  have h1 := (R0.rowMajor (fun i => i.elim0)).isLt
  have h2 := ((⟨1, ![1]⟩ : Shape).rowMajor (ix1 0)).isLt
  have e1 : R0.numel = 1 := by decide
  have e2 : (⟨1, ![1]⟩ : Shape).numel = 1 := by decide
  omega

theorem projected_apply {h w D E : Nat} (f : LevelFits h w D E) (x y : FVec Ideal (R4 32 h w) .f32) (wt : FVec Ideal ⟨2, ![288, 64]⟩ .f32)
    (b : FVec Ideal ⟨1, ![288]⟩ .f32) (t : Fin 3) (k : Fin 288) (i : Fin h) (j : Fin w) :
    projected f x y wt b (ix4 t k i j)
      = ∑ q : Fin 64, (if hq : q.val < 32 then x (ix4 t ⟨q.val, hq⟩ i j) else y (ix4 t ⟨q.val - 32, by omega⟩ i j)) * wt (ix2 k q)
        + b (ix1 k) := by
  have hdot : Host.dotGeneral (F := Ideal) ⟨[1], [1], [0, 2, 3], [0], [], [], f.proj⟩ none
        (concatenate (R4 64 h w) 1 [⟨R4 32 h w, x⟩, ⟨R4 32 h w, y⟩] f.both) wt (ix4 t i j k)
      = ∑ q : Fin 64, (concatenate (R4 64 h w) 1 [⟨R4 32 h w, x⟩, ⟨R4 32 h w, y⟩] f.both) (ix4 t q i j) * wt (ix2 k q) := by
    generalize concatenate (R4 64 h w) 1 [⟨R4 32 h w, x⟩, ⟨R4 32 h w, y⟩] f.both = u
    let d : DotDims (R4 64 h w) ⟨2, ![288, 64]⟩ ⟨4, ![3, h, w, 288]⟩ := ⟨[1], [1], [0, 2, 3], [0], [], [], f.proj⟩
    show Host.dotGeneral (F := Ideal) d none u wt (ix4 t i j k) = _
    simp only [Host.dotGeneral]
    rw [Ideal.dotGeneral_apply, ← Equiv.sum_comp (ValueIdx.contrEquiv1 d 64 rfl rfl).symm]
    refine Finset.sum_congr rfl fun s _ => ?_
    have hs := ValueIdx.contrEquiv1_symm_val d 64 rfl rfl s
    congr 1
    · refine congrArg u (funext fun i => Fin.ext ?_)
      match i with
      | ⟨0, _⟩ => rfl
      | ⟨1, _⟩ => exact (d.lhsIdx_val_of_single rfl _ _).trans hs
      | ⟨2, _⟩ => rfl
      | ⟨3, _⟩ => rfl
    · refine congrArg wt (funext fun i => Fin.ext ?_)
      match i with
      | ⟨0, _⟩ => rfl
      | ⟨1, _⟩ => exact (d.rhsIdx_val_of_single rfl _ _).trans hs
  unfold projected
  rw [add_at]
  refine congrArg₂ (· + ·) ?_ ?_
  · refine (transpose_apply _ _ _ _ (ix4 t i j k) fun b => ?_).trans (hdot.trans (Finset.sum_congr rfl fun q _ => congrArg (· * _) ?_))
    · match b with
      | ⟨0, _⟩ => rfl
      | ⟨1, _⟩ => rfl
      | ⟨2, _⟩ => rfl
      | ⟨3, _⟩ => rfl
    · by_cases hq : q.val < 32
      · rw [dif_pos hq]
        refine concatenate_pair_apply_left (t := R4 64 h w) (s₁ := R4 32 h w) (s₂ := R4 32 h w) (1 : Fin 4) _ _ _ _ rfl (ix4 t ⟨q.val, hq⟩ i j)
          fun b => ?_
        match b with
        | ⟨0, _⟩ => rfl
        | ⟨1, _⟩ => rfl
        | ⟨2, _⟩ => rfl
        | ⟨3, _⟩ => rfl
      · rw [dif_neg hq]
        refine concatenate_pair_apply_right (t := R4 64 h w) (s₁ := R4 32 h w) (s₂ := R4 32 h w) (1 : Fin 4) _ _ _ _ rfl rfl
          (ix4 t ⟨q.val - 32, by omega⟩ i j) (fun b hb => ?_) (by show q.val - 32 + 32 = q.val; omega)
        match b, hb with
        | ⟨0, _⟩, _ => rfl
        | ⟨1, _⟩, hb => exact absurd rfl hb
        | ⟨2, _⟩, _ => rfl
        | ⟨3, _⟩, _ => rfl
  · refine (spread_apply _ _ _ _ (ix4 0 k 0 0) fun a ha => ?_).trans (spread_apply _ _ _ _ (ix1 k) fun a _ => ?_)
    · match a, ha with
      | ⟨0, _⟩, ha => exact absurd rfl ha
      | ⟨1, _⟩, _ => rfl
      | ⟨2, _⟩, ha => exact absurd rfl ha
      | ⟨3, _⟩, ha => exact absurd rfl ha
    · match a with
      | ⟨0, _⟩ => rfl

theorem nine_apply {h w : Nat} (hf : (R4 288 h w).ShapeCasts (R5 32 9 h w)) (x : FVec Ideal (R4 288 h w) .f32) (t : Fin 3) (c : Fin 32)
    (p : Fin 9) (y : Fin h) (z : Fin w) : shapeCast (R5 32 9 h w) x hf (ix5 t c p y z) = x (ix4 t ⟨c.val * 9 + p.val, by omega⟩ y z) := by
  refine shapeCast_apply _ _ _ (ix4 t ⟨c.val * 9 + p.val, by omega⟩ y z) ?_
  rw [Shape.rowMajor_val_five, Shape.rowMajor_val_four]
  have e : t.val * 288 + (c.val * 9 + p.val) = (t.val * 32 + c.val) * 9 + p.val := by omega
  show ((t.val * 288 + (c.val * 9 + p.val)) * h + y.val) * w + z.val = (((t.val * 32 + c.val) * 9 + p.val) * h + y.val) * w + z.val
  rw [e]

theorem fold_apply {h w : Nat} (hf : (R5 32 9 h w).ReducesTo [2] (R4 32 h w)) (x : FVec Ideal (R5 32 9 h w) .f32)
    (t : Fin 3) (c : Fin 32) (y : Fin h) (z : Fin w) :
    Host.reduceAdd x (constant (F := Ideal) R0 .f32 0x00000000#32) hf (by decide) (ix4 t c y z) = ∑ p : Fin 9, x (ix5 t c p y z) := by
  have h0 : constant (F := Ideal) R0 .f32 0x00000000#32 (Shape.Idx.first (by decide)) = 0 := zero_bits
  simp only [Host.reduceAdd, Ideal.hostReduceAdd_def]
  rw [Ideal.hostReduceAdd_single hf ⟨hf.1, Nat.succ_pos 3, hf.2⟩, h0, zero_add]
  refine Finset.sum_congr rfl fun k _ => ?_
  exact congrArg x (funext fun a => Fin.ext (by match a with | ⟨0, _⟩ => rfl | ⟨1, _⟩ => rfl | ⟨2, _⟩ => rfl | ⟨3, _⟩ => rfl | ⟨4, _⟩ => rfl))

theorem gathered_apply {h w D E : Nat} (f : LevelFits h w D E) (n1 : NormFits h w 1) (nD : NormFits h w D) (len : BitVec 32)
    (h4 : 4 ≤ D) (hD : D < 2 ^ 31) (u : FVec Ideal (R4 288 h w) .f32) (disp : FVec Ideal (R5 288 h w D) .f32)
    (t : Fin 3) (k : Fin 288) (y : Fin h) (z : Fin w) (s : Fin 4) :
    gathered f n1 nD len u disp (ix5 t k y z s)
      = disp (ix5 t k y z (nth (fun dd => sim floor (fun k => u (ix4 t k y z)) (fun k => disp (ix5 t k y z dd))) (s.castLE h4))) := by
  unfold gathered
  refine gather_apply f _ _ t k y z s _ hD ?_
  refine (shapeCast_apply _ _ _ (ix5 t k y z s) ?_).trans ?_
  · rw [Shape.rowMajor_val_five, Shape.rowMajor_val_six]
    show (((t.val * 288 + k.val) * h + y.val) * w + z.val) * 4 + s.val
      = ((((t.val * 288 + k.val) * h + y.val) * w + z.val) * 4 + s.val) * 1 + 0
    omega
  refine wrapped_apply f len _ _ _ (lt_trans (Fin.isLt _) hD) ?_
  refine (positions_apply f h4 _ t k y z s).trans ?_
  simp only [similarity_apply]

theorem aggregate_apply {h w D E h3 w3 hp wp d r : Nat} (f : LevelFits h w D E) (n1 : NormFits h w 1) (nD : NormFits h w D)
    (f3 : UnfoldFits 32 h w h3 w3 3 1 288) (fw : UnfoldFits 288 h w hp wp d r E) (len : BitVec 32) (hd : D = d * d) (hE : E = 288 * D)
    (h4 : 4 ≤ D) (hD : D < 2 ^ 31) (x y : FVec Ideal (R4 32 h w) .f32) (a : FVec Ideal ⟨1, ![4]⟩ .f32) (ab : FVec Ideal ⟨1, ![1]⟩ .f32)
    (wt : FVec Ideal ⟨2, ![288, 64]⟩ .f32) (wb : FVec Ideal ⟨1, ![288]⟩ .f32) (t : Fin 3) (c : Fin 32) (i : Fin h) (j : Fin w) :
    aggregate f n1 nD f3 fw len x y a ab wt wb (ix4 t c i j)
      = levelAt d r D h4 (frameOf x t) (frameOf y t) (fun s => a (ix1 s)) (ab (ix1 0)) (fun k q => wt (ix2 k q)) (fun k => wb (ix1 k)) c i j := by
  unfold aggregate
  refine (fold_apply _ _ t c i j).trans ?_
  unfold levelAt
  refine Finset.sum_congr rfl fun p _ => ?_
  rw [mul_at, nine_apply, nine_apply, mixed_apply, projected_apply]
  have hw : ∀ k dd, window f fw (unfold f3 y) (ix5 t k i j dd) = windowAt d r (frameOf y t) i j dd k := fun k dd =>
    window_at f fw hd hE _ _ t (fun k y' z' => patches_at f3 y t k y' z') k i j dd
  refine congrArg (· * _) (congrArg (· + _) (Finset.sum_congr rfl fun s _ => congrArg (_ * ·) ?_))
  rw [gathered_apply f n1 nD len h4 hD, hw]
  simp only [hw, patches_at]

end Cert.Ref
-- ==== Proof.RefLevels.lean ====
module

public import Idealize.ShloMosaic.Lib.Tactic
public import proofs.«01_k».proof.Proof.RefMirror
public import proofs.«01_k».proof.Proof.Gen.ReferenceIdeal.Read

/-!
Each level of the reference is the one aggregation at its own extents.
-/

@[expose] public section

set_option maxRecDepth 16384

noncomputable section

namespace Cert.Ref

open Idealize.ShloMosaic Cert.ReferenceIdeal Cert.ReferenceIdeal.Gen Cert.ReferenceIdeal.Read

variable {F : FTy → Type} [FloatOps F]

theorem level3 (x2 : (⟨S1x32x3x10x10, .f32⟩ : BufTy).Contents (Elt F)) (x3 : (⟨S4, .f32⟩ : BufTy).Contents (Elt F)) (x4 : (⟨S1, .f32⟩ : BufTy).Contents (Elt F)) (x5 : (⟨S288x64, .f32⟩ : BufTy).Contents (Elt F)) (x6 : (⟨S288, .f32⟩ : BufTy).Contents (Elt F)) :
    val_main_v131 (F := F) x2 x3 x4 x5 x6
      = aggregate rest3 one3 all3 patches3 window3 9#32 (val_main_v5 (F := F) x2) (val_main_v1 (F := F) x2) x3 x4 x5 x6 := by
  sl_kernel_rfl

theorem level2 (x1 : (⟨S1x32x3x20x20, .f32⟩ : BufTy).Contents (Elt F)) (x2 : (⟨S1x32x3x10x10, .f32⟩ : BufTy).Contents (Elt F)) (x3 : (⟨S4, .f32⟩ : BufTy).Contents (Elt F)) (x4 : (⟨S1, .f32⟩ : BufTy).Contents (Elt F)) (x5 : (⟨S288x64, .f32⟩ : BufTy).Contents (Elt F)) (x6 : (⟨S288, .f32⟩ : BufTy).Contents (Elt F)) (x7 : (⟨S4, .f32⟩ : BufTy).Contents (Elt F)) (x8 : (⟨S1, .f32⟩ : BufTy).Contents (Elt F)) (x9 : (⟨S288x64, .f32⟩ : BufTy).Contents (Elt F)) (x10 : (⟨S288, .f32⟩ : BufTy).Contents (Elt F)) :
    val_main_v324 (F := F) x1 x2 x3 x4 x5 x6 x7 x8 x9 x10
      = aggregate rest2 one2 all2 patches2 window2 25#32 (val_main_v173 (F := F) x1 x2 x3 x4 x5 x6) (val_main_v174 (F := F) x1 x2 x3 x4 x5 x6) x7 x8 x9 x10 := by
  sl_kernel_rfl

theorem level1 (x0 : (⟨S1x32x3x40x40, .f32⟩ : BufTy).Contents (Elt F)) (x1 : (⟨S1x32x3x20x20, .f32⟩ : BufTy).Contents (Elt F)) (x2 : (⟨S1x32x3x10x10, .f32⟩ : BufTy).Contents (Elt F)) (x3 : (⟨S4, .f32⟩ : BufTy).Contents (Elt F)) (x4 : (⟨S1, .f32⟩ : BufTy).Contents (Elt F)) (x5 : (⟨S288x64, .f32⟩ : BufTy).Contents (Elt F)) (x6 : (⟨S288, .f32⟩ : BufTy).Contents (Elt F)) (x7 : (⟨S4, .f32⟩ : BufTy).Contents (Elt F)) (x8 : (⟨S1, .f32⟩ : BufTy).Contents (Elt F)) (x9 : (⟨S288x64, .f32⟩ : BufTy).Contents (Elt F)) (x10 : (⟨S288, .f32⟩ : BufTy).Contents (Elt F)) (x11 : (⟨S4, .f32⟩ : BufTy).Contents (Elt F)) (x12 : (⟨S1, .f32⟩ : BufTy).Contents (Elt F)) (x13 : (⟨S288x64, .f32⟩ : BufTy).Contents (Elt F)) (x14 : (⟨S288, .f32⟩ : BufTy).Contents (Elt F)) :
    val_main_v569 (F := F) x0 x1 x2 x3 x4 x5 x6 x7 x8 x9 x10 x11 x12 x13 x14
      = aggregate rest1 one1 all1 patches1 window1 49#32 (val_main_v366 (F := F) x0 x1 x2 x3 x4 x5 x6 x7 x8 x9 x10) (val_main_v367 (F := F) x0 x1 x2 x3 x4 x5 x6 x7 x8 x9 x10) x11 x12 x13 x14 := by
  sl_kernel_rfl

end Cert.Ref
-- ==== Proof.RefUp.lean ====
module

public import proofs.«01_k».proof.Proof.UpSpec
public import proofs.«01_k».proof.Proof.RefPixel
public import proofs.«01_k».proof.Proof.RefLevels
public import Idealize.ShloMosaic.Lib.WordCmp

/-!
The reference's doubling of an image: two products with a matrix of tent-shaped weights.
-/

@[expose] public section

set_option maxRecDepth 16384

noncomputable section

namespace Cert.Ref

open Idealize.ShloMosaic Cert.ReferenceIdeal Cert.ReferenceIdeal.Gen Cert.ReferenceIdeal.Read Cert.Agg

section
variable {F : FTy → Type} [FloatOps F]

/-- The broadcasts the weights are written with. -/
structure TentFits (m n : Nat) : Prop where
  s : (⟨0, ![]⟩ : Shape).BroadcastsInDim ⟨1, ![m]⟩ ![]
  c : (⟨1, ![m]⟩ : Shape).BroadcastsInDim ⟨2, ![m, 1]⟩ ![0]
  r : (⟨1, ![n]⟩ : Shape).BroadcastsInDim ⟨2, ![1, n]⟩ ![1]
  C : (⟨2, ![m, 1]⟩ : Shape).BroadcastsInDim ⟨2, ![m, n]⟩ ![0, 1]
  R : (⟨2, ![1, n]⟩ : Shape).BroadcastsInDim ⟨2, ![m, n]⟩ ![0, 1]
  S : (⟨0, ![]⟩ : Shape).BroadcastsInDim ⟨2, ![m, n]⟩ ![]

/-- The same number everywhere. -/
def many (m : Nat) (h : (⟨0, ![]⟩ : Shape).BroadcastsInDim ⟨1, ![m]⟩ ![]) (b : BitVec 32) : FVec F ⟨1, ![m]⟩ .f32 :=
  broadcastInDim ⟨1, ![m]⟩ ![] h (constant (F := F) ⟨0, ![]⟩ .f32 b)

/-- The places the doubled vector's entries come from. -/
def places (m n : Nat) (f : TentFits m n) (last : BitVec 32) : FVec F ⟨1, ![m]⟩ .f32 :=
  minimumf (many m f.s last) (maximumf (many m f.s 0x00000000#32)
    (subf (mulf (addf (sitofp .f32 (iotaInDim ⟨1, ![m]⟩ 32 0)) (many m f.s 0x3F000000#32)) (many m f.s 0x3F000000#32)) (many m f.s 0x3F000000#32)))

/-- The matrix of weights. -/
def tents (m n : Nat) (f : TentFits m n) (last : BitVec 32) : FVec F ⟨2, ![m, n]⟩ .f32 :=
  maximumf (subf (broadcastInDim ⟨2, ![m, n]⟩ ![] f.S (constant (F := F) ⟨0, ![]⟩ .f32 0x3F800000#32))
      (Host.absf (subf (broadcastInDim ⟨2, ![m, n]⟩ ![0, 1] f.C (broadcastInDim ⟨2, ![m, 1]⟩ ![0] f.c (places m n f last)))
        (broadcastInDim ⟨2, ![m, n]⟩ ![0, 1] f.R (broadcastInDim ⟨2, ![1, n]⟩ ![1] f.r (sitofp .f32 (iotaInDim ⟨1, ![n]⟩ 32 0)))))))
    (broadcastInDim ⟨2, ![m, n]⟩ ![] f.S (constant (F := F) ⟨0, ![]⟩ .f32 0x00000000#32))

theorem tents20 : TentFits 20 10 where
  s := bcast_S_S20
  c := bcast_S20_S20x1_0
  r := bcast_S10_S1x10_1
  C := bcast_S20x1_S20x10_0_1
  R := bcast_S1x10_S20x10_0_1
  S := bcast_S_S20x10

theorem tents40 : TentFits 40 20 where
  s := bcast_S_S40
  c := bcast_S40_S40x1_0
  r := bcast_S20_S1x20_1
  C := bcast_S40x1_S40x20_0_1
  R := bcast_S1x20_S40x20_0_1
  S := bcast_S_S40x20

theorem tents150 : val_main_v150 (F := F) = tents 20 10 tents20 0x41100000#32 := by sl_kernel_rfl
theorem tents171 : val_main_v171 (F := F) = tents 20 10 tents20 0x41100000#32 := by sl_kernel_rfl
theorem tents343 : val_main_v343 (F := F) = tents 40 20 tents40 0x41980000#32 := by sl_kernel_rfl
theorem tents364 : val_main_v364 (F := F) = tents 40 20 tents40 0x41980000#32 := by sl_kernel_rfl
end

theorem half_f32 : Ideal.ofBits .f32 0x3F000000#32 = ((1 / 2 : ℝ) : EReal) := by
  simp [Ideal.ofBits, Ideal.ieee, -EReal.coe_mul]; norm_num
theorem nine_f32 : Ideal.ofBits .f32 0x41100000#32 = ((9 : ℝ) : EReal) := by
  simp [Ideal.ofBits, Ideal.ieee, -EReal.coe_mul]; norm_num
theorem nineteen_f32 : Ideal.ofBits .f32 0x41980000#32 = ((19 : ℝ) : EReal) := by
  simp [Ideal.ofBits, Ideal.ieee, -EReal.coe_mul]; norm_num
theorem nought_f32 : Ideal.ofBits .f32 0x00000000#32 = ((0 : ℝ) : EReal) := by
  simp [Ideal.ofBits, Ideal.ieee, -EReal.coe_mul]
theorem unit_f32 : Ideal.ofBits .f32 0x3F800000#32 = ((1 : ℝ) : EReal) := by
  simp [Ideal.ofBits, Ideal.ieee, -EReal.coe_mul]; norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem counted {n : Nat} (hn : n ≤ 64) (i : Fin n) :
    (sitofp (F := Ideal) .f32 (iotaInDim ⟨1, ![n]⟩ 32 0) : FVec Ideal ⟨1, ![n]⟩ .f32) (ix1 i) = (((i.val : ℝ)) : EReal) := by
  have e : (sitofp (F := Ideal) .f32 (iotaInDim ⟨1, ![n]⟩ 32 0) : FVec Ideal ⟨1, ![n]⟩ .f32) (ix1 i)
      = ((((BitVec.ofNat 32 i.val).toInt : ℤ) : ℝ) : EReal) := rfl
  rw [e, WordCmp.toInt_ofNat_of_lt (by have := i.isLt; omega)]
  norm_cast

theorem many_apply (m : Nat) (h : (⟨0, ![]⟩ : Shape).BroadcastsInDim ⟨1, ![m]⟩ ![]) (b : BitVec 32) (j : (⟨1, ![m]⟩ : Shape).Idx) :
    many (F := Ideal) m h b j = Ideal.ofBits .f32 b :=
  spread_apply _ _ _ _ (fun a => a.elim0) fun a => a.elim0

theorem places_apply {m n : Nat} (f : TentFits m n) (hm : m ≤ 64) (last : BitVec 32) (hl : Ideal.ofBits .f32 last = (((n : ℝ) - 1 : ℝ) : EReal)) (o : Fin m) :
    places (F := Ideal) m n f last (ix1 o) = ((source n o.val : ℝ) : EReal) := by
  have e : places (F := Ideal) m n f last (ix1 o) = min (many (F := Ideal) m f.s last (ix1 o)) (max (many (F := Ideal) m f.s 0x00000000#32 (ix1 o))
      (((sitofp (F := Ideal) .f32 (iotaInDim ⟨1, ![m]⟩ 32 0) : FVec Ideal ⟨1, ![m]⟩ .f32) (ix1 o) + many (F := Ideal) m f.s 0x3F000000#32 (ix1 o))
        * many (F := Ideal) m f.s 0x3F000000#32 (ix1 o) - many (F := Ideal) m f.s 0x3F000000#32 (ix1 o))) := rfl
  rw [e, many_apply, many_apply, many_apply, counted hm, hl, half_f32, nought_f32, ← EReal.coe_add, ← EReal.coe_mul, ← EReal.coe_sub,
    ← coe_max, ← coe_min]
  rfl

theorem tents_apply {m n : Nat} (f : TentFits m n) (hm : m ≤ 64) (hn : n ≤ 64) (last : BitVec 32)
    (hl : Ideal.ofBits .f32 last = (((n : ℝ) - 1 : ℝ) : EReal)) (o : Fin m) (i : Fin n) :
    tents (F := Ideal) m n f last (ix2 o i) = ((tri (source n o.val) i.val : ℝ) : EReal) := by
  have e1 : broadcastInDim ⟨2, ![m, n]⟩ ![] f.S (constant (F := Ideal) ⟨0, ![]⟩ .f32 0x3F800000#32) (ix2 o i) = ((1 : ℝ) : EReal) :=
    (spread_apply _ _ _ _ (fun a => a.elim0) fun a => a.elim0).trans unit_f32
  have e0 : broadcastInDim ⟨2, ![m, n]⟩ ![] f.S (constant (F := Ideal) ⟨0, ![]⟩ .f32 0x00000000#32) (ix2 o i) = ((0 : ℝ) : EReal) :=
    (spread_apply _ _ _ _ (fun a => a.elim0) fun a => a.elim0).trans nought_f32
  have ec : broadcastInDim ⟨2, ![m, n]⟩ ![0, 1] f.C (broadcastInDim ⟨2, ![m, 1]⟩ ![0] f.c (places (F := Ideal) m n f last)) (ix2 o i)
      = ((source n o.val : ℝ) : EReal) := by
    rw [spread_apply _ _ _ _ (ix2 o (0 : Fin 1)) (fun a => match a with | ⟨0, _⟩ => fun _ => rfl | ⟨1, _⟩ => fun h => absurd rfl h),
      spread_apply _ _ _ _ (ix1 o) (fun a => match a with | ⟨0, _⟩ => fun _ => rfl), places_apply f hm last hl]
  have er : broadcastInDim ⟨2, ![m, n]⟩ ![0, 1] f.R (broadcastInDim ⟨2, ![1, n]⟩ ![1] f.r (sitofp (F := Ideal) .f32 (iotaInDim ⟨1, ![n]⟩ 32 0))) (ix2 o i)
      = ((i.val : ℝ) : EReal) := by
    rw [spread_apply _ _ _ _ (ix2 (0 : Fin 1) i) (fun a => match a with | ⟨0, _⟩ => fun h => absurd rfl h | ⟨1, _⟩ => fun _ => rfl),
      spread_apply _ _ _ _ (ix1 i) (fun a => match a with | ⟨0, _⟩ => fun _ => rfl), counted hn]
  have e : tents (F := Ideal) m n f last (ix2 o i)
      = max (broadcastInDim ⟨2, ![m, n]⟩ ![] f.S (constant (F := Ideal) ⟨0, ![]⟩ .f32 0x3F800000#32) (ix2 o i)
          - max (broadcastInDim ⟨2, ![m, n]⟩ ![0, 1] f.C (broadcastInDim ⟨2, ![m, 1]⟩ ![0] f.c (places (F := Ideal) m n f last)) (ix2 o i)
              - broadcastInDim ⟨2, ![m, n]⟩ ![0, 1] f.R (broadcastInDim ⟨2, ![1, n]⟩ ![1] f.r (sitofp (F := Ideal) .f32 (iotaInDim ⟨1, ![n]⟩ 32 0))) (ix2 o i))
            (-(broadcastInDim ⟨2, ![m, n]⟩ ![0, 1] f.C (broadcastInDim ⟨2, ![m, 1]⟩ ![0] f.c (places (F := Ideal) m n f last)) (ix2 o i)
              - broadcastInDim ⟨2, ![m, n]⟩ ![0, 1] f.R (broadcastInDim ⟨2, ![1, n]⟩ ![1] f.r (sitofp (F := Ideal) .f32 (iotaInDim ⟨1, ![n]⟩ 32 0))) (ix2 o i))))
        (broadcastInDim ⟨2, ![m, n]⟩ ![] f.S (constant (F := Ideal) ⟨0, ![]⟩ .f32 0x00000000#32) (ix2 o i)) := rfl
  rw [e, e1, e0, ec, er, ← EReal.coe_sub, ← EReal.coe_neg, ← coe_max, ← EReal.coe_sub, ← coe_max]
  rfl

theorem doubled3 (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal))
    (t : Fin 3) (c : Fin 32) (o p : Fin 20) :
    val_main_v172 (F := Ideal) x2 x3 x4 x5 x6 (ix4 t c o p)
      = upAt (h := 10) (w := 10) (fun y x => val_main_v131 (F := Ideal) x2 x3 x4 x5 x6 (ix4 t c y x)) o p := by
  rw [val_main_v172_apply]
  unfold upAt
  rw [← tent_sum]
  refine Finset.sum_congr rfl fun k _ => ?_
  rw [tents171, show ridx_main_v172 (ix4 t c o p) k = ix2 p k from funext fun a => match a with | ⟨0, _⟩ => rfl | ⟨1, _⟩ => rfl, tents_apply tents20 (by decide) (by decide) _ (nine_f32.trans (by norm_num)),
    val_main_v152_apply, val_main_v151_apply, ← tent_sum]
  refine congrArg (· * _) (Finset.sum_congr rfl fun l _ => ?_)
  rw [tents150, show ridx_main_v151 (idx_main_v152 (lidx_main_v172 (ix4 t c o p) k)) l = ix2 o l from funext fun a => match a with | ⟨0, _⟩ => rfl | ⟨1, _⟩ => rfl,
    tents_apply tents20 (by decide) (by decide) _ (nine_f32.trans (by norm_num))]
  exact congrArg (fun j => val_main_v131 (F := Ideal) x2 x3 x4 x5 x6 j * _) (funext fun a => match a with | ⟨0, _⟩ => rfl | ⟨1, _⟩ => rfl | ⟨2, _⟩ => rfl | ⟨3, _⟩ => rfl)

theorem doubled2 (x1 : (⟨S1x32x3x20x20, .f32⟩ : BufTy).Contents (Elt Ideal)) (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal)) (x7 : (⟨S4, .f32⟩ : BufTy).Contents (Elt Ideal)) (x8 : (⟨S1, .f32⟩ : BufTy).Contents (Elt Ideal)) (x9 : (⟨S288x64, .f32⟩ : BufTy).Contents (Elt Ideal)) (x10 : (⟨S288, .f32⟩ : BufTy).Contents (Elt Ideal))
    (t : Fin 3) (c : Fin 32) (o p : Fin 40) :
    val_main_v365 (F := Ideal) x1 x2 x3 x4 x5 x6 x7 x8 x9 x10 (ix4 t c o p)
      = upAt (h := 20) (w := 20) (fun y x => val_main_v324 (F := Ideal) x1 x2 x3 x4 x5 x6 x7 x8 x9 x10 (ix4 t c y x)) o p := by
  rw [val_main_v365_apply]
  unfold upAt
  rw [← tent_sum]
  refine Finset.sum_congr rfl fun k _ => ?_
  rw [tents364, show ridx_main_v365 (ix4 t c o p) k = ix2 p k from funext fun a => match a with | ⟨0, _⟩ => rfl | ⟨1, _⟩ => rfl, tents_apply tents40 (by decide) (by decide) _ (nineteen_f32.trans (by norm_num)),
    val_main_v345_apply, val_main_v344_apply, ← tent_sum]
  refine congrArg (· * _) (Finset.sum_congr rfl fun l _ => ?_)
  rw [tents343, show ridx_main_v344 (idx_main_v345 (lidx_main_v365 (ix4 t c o p) k)) l = ix2 o l from funext fun a => match a with | ⟨0, _⟩ => rfl | ⟨1, _⟩ => rfl,
    tents_apply tents40 (by decide) (by decide) _ (nineteen_f32.trans (by norm_num))]
  exact congrArg (fun j => val_main_v324 (F := Ideal) x1 x2 x3 x4 x5 x6 x7 x8 x9 x10 j * _) (funext fun a => match a with | ⟨0, _⟩ => rfl | ⟨1, _⟩ => rfl | ⟨2, _⟩ => rfl | ⟨3, _⟩ => rfl)

end Cert.Ref
-- ==== Proof.RefTail.lean ====
module

public import proofs.«01_k».proof.Proof.NetSpec
public import proofs.«01_k».proof.Proof.RefLevel
public import proofs.«01_k».proof.Proof.RefUp
public import Idealize.ShloMosaic.Lib.ValueIdxRank6

/-!
The reference's result is the network's: the three levels in turn, the mixing and the spreading over pixels.
-/

@[expose] public section

set_option maxRecDepth 16384

noncomputable section

namespace Cert.Ref

open Idealize.ShloMosaic Cert.ReferenceIdeal Cert.ReferenceIdeal.Gen Cert.ReferenceIdeal.Read Cert.Agg

theorem frames_apply {H : Nat} (x : FVec Ideal ⟨5, ![1, 32, 3, H, H]⟩ .f32) (h1 : (⟨5, ![1, 32, 3, H, H]⟩ : Shape).ShapeCasts ⟨4, ![32, 3, H, H]⟩)
    (h2 : (⟨4, ![32, 3, H, H]⟩ : Shape).Transposes [1, 0, 2, 3] ⟨4, ![3, 32, H, H]⟩) (t : Fin 3) (c : Fin 32) (y z : Fin H) :
    transpose ⟨4, ![3, 32, H, H]⟩ [1, 0, 2, 3] (shapeCast ⟨4, ![32, 3, H, H]⟩ x h1) h2 (ix4 t c y z) = frames x t c y z := by
  unfold frames
  rw [transpose_apply _ _ _ _ (ix4 c t y z) (fun b => match b with | ⟨0, _⟩ => rfl | ⟨1, _⟩ => rfl | ⟨2, _⟩ => rfl | ⟨3, _⟩ => rfl),
    shapeCast_apply _ _ _ (ix5 (0 : Fin 1) c t y z) (by rw [Shape.rowMajor_val_four, Shape.rowMajor_val_five]; simp)]

theorem middle_apply {H : Nat} (x : FVec Ideal ⟨4, ![3, 32, H, H]⟩ .f32) (h1 : (⟨4, ![3, 32, H, H]⟩ : Shape).Slices ![1, 0, 0, 0] ⟨4, ![1, 32, H, H]⟩)
    (h2 : (⟨4, ![1, 32, H, H]⟩ : Shape).ShapeCasts ⟨3, ![32, H, H]⟩) (h3 : (⟨3, ![32, H, H]⟩ : Shape).BroadcastsInDim ⟨4, ![1, 32, H, H]⟩ ![1, 2, 3])
    (h4 : (⟨4, ![1, 32, H, H]⟩ : Shape).BroadcastsInDim ⟨4, ![3, 32, H, H]⟩ ![0, 1, 2, 3]) (t : Fin 3) (c : Fin 32) (y z : Fin H) :
    broadcastInDim ⟨4, ![3, 32, H, H]⟩ ![0, 1, 2, 3] h4 (broadcastInDim ⟨4, ![1, 32, H, H]⟩ ![1, 2, 3] h3
      (shapeCast ⟨3, ![32, H, H]⟩ (extractStridedSlice ⟨4, ![1, 32, H, H]⟩ ![1, 0, 0, 0] x h1) h2)) (ix4 t c y z) = x (ix4 (1 : Fin 3) c y z) := by
  rw [spread_apply _ _ _ _ (ix4 (0 : Fin 1) c y z) (fun a => match a with
      | ⟨0, _⟩ => fun h => absurd rfl h | ⟨1, _⟩ => fun _ => rfl | ⟨2, _⟩ => fun _ => rfl | ⟨3, _⟩ => fun _ => rfl),
    spread_apply _ _ _ _ (ix3 c y z) (fun a => match a with | ⟨0, _⟩ => fun _ => rfl | ⟨1, _⟩ => fun _ => rfl | ⟨2, _⟩ => fun _ => rfl),
    shapeCast_apply _ _ _ (ix4 (0 : Fin 1) c y z) (by rw [Shape.rowMajor_val_three, Shape.rowMajor_val_four]; simp),
    extractStridedSlice_apply _ _ _ _ (ix4 (1 : Fin 3) c y z) (fun a => match a with
      | ⟨0, _⟩ => rfl
      | ⟨1, _⟩ => by show c.val = 0 + c.val; omega
      | ⟨2, _⟩ => by show y.val = 0 + y.val; omega
      | ⟨3, _⟩ => by show z.val = 0 + z.val; omega)]

/-- A level whose two inputs are the frames and the middle frame with something added to each is the specification's. -/
theorem level_apply {H D E h3 w3 hp wp d r : Nat} (f : LevelFits H H D E) (n1 : NormFits H H 1) (nD : NormFits H H D)
    (f3 : UnfoldFits 32 H H h3 w3 3 1 288) (fw : UnfoldFits 288 H H hp wp d r E) (len : BitVec 32) (hd : D = d * d) (hE : E = 288 * D)
    (h4 : 4 ≤ D) (hD : D < 2 ^ 31) (x y : FVec Ideal (R4 32 H H) .f32) (a : FVec Ideal ⟨1, ![4]⟩ .f32) (ab : FVec Ideal ⟨1, ![1]⟩ .f32)
    (wt : FVec Ideal ⟨2, ![288, 64]⟩ .f32) (wb : FVec Ideal ⟨1, ![288]⟩ .f32) (S T : Fin 3 → Fin 32 → Fin H → Fin H → EReal)
    (hx : ∀ t c y' z, x (ix4 t c y' z) = S 1 c y' z + T t c y' z) (hy : ∀ t c y' z, y (ix4 t c y' z) = S t c y' z + T t c y' z)
    (t : Fin 3) (c : Fin 32) (i j : Fin H) :
    aggregate f n1 nD f3 fw len x y a ab wt wb (ix4 t c i j) = aggregated d r D h4 S T a ab wt wb t c i j := by
  rw [aggregate_apply f n1 nD f3 fw len hd hE h4 hD]
  unfold aggregated
  rw [show frameOf x t = fun c y' z => S 1 c y' z + T t c y' z from funext fun c => funext fun y' => funext fun z => hx t c y' z,
    show frameOf y t = fun c y' z => S t c y' z + T t c y' z from funext fun c => funext fun y' => funext fun z => hy t c y' z]

theorem third_apply (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal)) (t : Fin 3) (c : Fin 32) (y z : Fin 20) :
    val_main_v172 (F := Ideal) x2 x3 x4 x5 x6 (ix4 t c y z) = third x2 x3 x4 x5 x6 t c y z := by
  rw [doubled3]
  unfold third
  refine congrArg (fun A => upAt (h := 10) (w := 10) A y z) (funext fun y => funext fun z => ?_)
  rw [level3]
  refine level_apply (d := 3) (r := 1) _ _ _ _ _ _ (by decide) (by decide) _ (by decide) _ _ _ _ _ _ _ _ (fun t c y z => ?_) (fun t c y z => ?_) t c y z
  · rw [add_zero]
    exact (middle_apply _ _ _ _ _ t c y z).trans (frames_apply x2 _ _ 1 c y z)
  · rw [add_zero]
    exact frames_apply x2 _ _ t c y z

theorem second_apply (x1 : (⟨S1x32x3x20x20, .f32⟩ : BufTy).Contents (Elt Ideal)) (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal)) (x7 : (⟨S4, .f32⟩ : BufTy).Contents (Elt Ideal)) (x8 : (⟨S1, .f32⟩ : BufTy).Contents (Elt Ideal)) (x9 : (⟨S288x64, .f32⟩ : BufTy).Contents (Elt Ideal)) (x10 : (⟨S288, .f32⟩ : BufTy).Contents (Elt Ideal)) (t : Fin 3) (c : Fin 32) (y z : Fin 40) :
    val_main_v365 (F := Ideal) x1 x2 x3 x4 x5 x6 x7 x8 x9 x10 (ix4 t c y z) = second x1 (third x2 x3 x4 x5 x6) x7 x8 x9 x10 t c y z := by
  rw [doubled2]
  unfold second
  refine congrArg (fun A => upAt (h := 20) (w := 20) A y z) (funext fun y => funext fun z => ?_)
  rw [level2]
  refine level_apply (d := 5) (r := 2) _ _ _ _ _ _ (by decide) (by decide) _ (by decide) _ _ _ _ _ _ _ _ (fun t c y z => ?_) (fun t c y z => ?_) t c y z
  · exact congrArg₂ (fun p q : EReal => p + q) ((middle_apply _ _ _ _ _ t c y z).trans (frames_apply x1 _ _ 1 c y z)) (third_apply x2 x3 x4 x5 x6 t c y z)
  · exact congrArg₂ (fun p q : EReal => p + q) (frames_apply x1 _ _ t c y z) (third_apply x2 x3 x4 x5 x6 t c y z)

theorem first_apply (x0 : (⟨S1x32x3x40x40, .f32⟩ : BufTy).Contents (Elt Ideal)) (x1 : (⟨S1x32x3x20x20, .f32⟩ : BufTy).Contents (Elt Ideal)) (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal)) (x7 : (⟨S4, .f32⟩ : BufTy).Contents (Elt Ideal)) (x8 : (⟨S1, .f32⟩ : BufTy).Contents (Elt Ideal)) (x9 : (⟨S288x64, .f32⟩ : BufTy).Contents (Elt Ideal)) (x10 : (⟨S288, .f32⟩ : BufTy).Contents (Elt Ideal)) (x11 : (⟨S4, .f32⟩ : BufTy).Contents (Elt Ideal)) (x12 : (⟨S1, .f32⟩ : BufTy).Contents (Elt Ideal)) (x13 : (⟨S288x64, .f32⟩ : BufTy).Contents (Elt Ideal)) (x14 : (⟨S288, .f32⟩ : BufTy).Contents (Elt Ideal)) (t : Fin 3) (c : Fin 32) (y z : Fin 40) :
    val_main_v569 (F := Ideal) x0 x1 x2 x3 x4 x5 x6 x7 x8 x9 x10 x11 x12 x13 x14 (ix4 t c y z)
      = aggregated 7 3 49 (by decide) (frames x0) (second x1 (third x2 x3 x4 x5 x6) x7 x8 x9 x10) x11 x12 x13 x14 t c y z := by
  rw [level1]
  refine level_apply (d := 7) (r := 3) _ _ _ _ _ _ (by decide) (by decide) _ (by decide) _ _ _ _ _ _ _ _ (fun t c y z => ?_) (fun t c y z => ?_) t c y z
  · exact congrArg₂ (fun p q : EReal => p + q) ((middle_apply _ _ _ _ _ t c y z).trans (frames_apply x0 _ _ 1 c y z))
      (second_apply x1 x2 x3 x4 x5 x6 x7 x8 x9 x10 t c y z)
  · exact congrArg₂ (fun p q : EReal => p + q) (frames_apply x0 _ _ t c y z) (second_apply x1 x2 x3 x4 x5 x6 x7 x8 x9 x10 t c y z)

theorem mixed_pixels (x0 : (⟨S1x32x3x40x40, .f32⟩ : BufTy).Contents (Elt Ideal)) (x1 : (⟨S1x32x3x20x20, .f32⟩ : BufTy).Contents (Elt Ideal)) (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal)) (x7 : (⟨S4, .f32⟩ : BufTy).Contents (Elt Ideal)) (x8 : (⟨S1, .f32⟩ : BufTy).Contents (Elt Ideal)) (x9 : (⟨S288x64, .f32⟩ : BufTy).Contents (Elt Ideal)) (x10 : (⟨S288, .f32⟩ : BufTy).Contents (Elt Ideal)) (x11 : (⟨S4, .f32⟩ : BufTy).Contents (Elt Ideal)) (x12 : (⟨S1, .f32⟩ : BufTy).Contents (Elt Ideal)) (x13 : (⟨S288x64, .f32⟩ : BufTy).Contents (Elt Ideal)) (x14 : (⟨S288, .f32⟩ : BufTy).Contents (Elt Ideal)) (x15 : (⟨S128x96, .f32⟩ : BufTy).Contents (Elt Ideal)) (x16 : (⟨S128, .f32⟩ : BufTy).Contents (Elt Ideal)) (y z : Fin 40) (k : Fin 128) :
    val_main_v575 (F := Ideal) x0 x1 x2 x3 x4 x5 x6 x7 x8 x9 x10 x11 x12 x13 x14 x15 x16 (ix4 (0 : Fin 1) k y z)
      = mixAt (fun t c y z => val_main_v569 (F := Ideal) x0 x1 x2 x3 x4 x5 x6 x7 x8 x9 x10 x11 x12 x13 x14 (ix4 t c y z)) (fun k q => x15 (ix2 k q)) (fun k => x16 (ix1 k)) y z k := by
  rw [val_main_v575_apply, val_main_v572_apply, val_main_v571_apply, val_main_v574_apply, val_main_v573_apply]
  unfold mixAt
  refine congrArg₂ (fun p q : EReal => p + q) (Finset.sum_congr rfl fun q _ => ?_) (congrArg x16 (funext fun a => match a with | ⟨0, _⟩ => rfl))
  rw [val_main_v570_apply]
  refine congrArg₂ (fun p q : EReal => p * q) (congrArg _ (funext fun a => ?_)) (congrArg x15 (funext fun a => match a with | ⟨0, _⟩ => rfl | ⟨1, _⟩ => rfl))
  have hq := q.isLt
  have hy := y.isLt
  have hz := z.isLt
  match a with
  | ⟨0, _⟩ => exact Fin.ext (by show (((0 * 96 + q.val) * 40 + y.val) * 40 + z.val) / 51200 = q.val / 32; omega)
  | ⟨1, _⟩ => exact Fin.ext (by show (((0 * 96 + q.val) * 40 + y.val) * 40 + z.val) / 1600 % 32 = q.val % 32; omega)
  | ⟨2, _⟩ => exact Fin.ext (by show (((0 * 96 + q.val) * 40 + y.val) * 40 + z.val) / 40 % 40 = y.val; omega)
  | ⟨3, _⟩ => exact Fin.ext (by show (((0 * 96 + q.val) * 40 + y.val) * 40 + z.val) % 40 = z.val; omega)

theorem spread_at (x : FVec Ideal S1x128x40x40 .f32) (h1 : S1x128x40x40.ShapeCasts S1x32x2x2x40x40)
    (h2 : S1x32x2x2x40x40.Transposes [0, 1, 4, 2, 5, 3] S1x32x40x2x40x2) (h3 : S1x32x40x2x40x2.ShapeCasts S1x32x80x80) (c : Fin 32) (Y X : Fin 80) :
    shapeCast S1x32x80x80 (transpose S1x32x40x2x40x2 [0, 1, 4, 2, 5, 3] (shapeCast S1x32x2x2x40x40 x h1) h2) h3 (ix4 (0 : Fin 1) c Y X)
      = x (ix4 (0 : Fin 1) (spreadChannel c Y X) (halved Y) (halved X)) := by
  have hY := Y.isLt
  have hX := X.isLt
  rw [shapeCast_apply _ _ _ (ValueIdx.ix6 (0 : Fin 1) c (halved Y) (⟨Y.val % 2, by omega⟩ : Fin 2) (halved X) (⟨X.val % 2, by omega⟩ : Fin 2))
      (by
        rw [Shape.rowMajor_val_six, Shape.rowMajor_val_four]
        show ((((0 * 32 + c.val) * 40 + Y.val / 2) * 2 + Y.val % 2) * 40 + X.val / 2) * 2 + X.val % 2 = ((0 * 32 + c.val) * 80 + Y.val) * 80 + X.val
        omega),
    transpose_apply _ _ _ _ (ValueIdx.ix6 (0 : Fin 1) c (⟨Y.val % 2, by omega⟩ : Fin 2) (⟨X.val % 2, by omega⟩ : Fin 2) (halved Y) (halved X))
      (fun b => match b with | ⟨0, _⟩ => rfl | ⟨1, _⟩ => rfl | ⟨2, _⟩ => rfl | ⟨3, _⟩ => rfl | ⟨4, _⟩ => rfl | ⟨5, _⟩ => rfl),
    shapeCast_apply _ _ _ (ix4 (0 : Fin 1) (spreadChannel c Y X) (halved Y) (halved X))
      (by
        rw [Shape.rowMajor_val_four, Shape.rowMajor_val_six]
        show ((0 * 128 + (c.val * 4 + (Y.val % 2 * 2 + X.val % 2))) * 40 + Y.val / 2) * 40 + X.val / 2
          = ((((0 * 32 + c.val) * 2 + Y.val % 2) * 2 + X.val % 2) * 40 + Y.val / 2) * 40 + X.val / 2
        omega)]

theorem result_apply (x0 : (⟨S1x32x3x40x40, .f32⟩ : BufTy).Contents (Elt Ideal)) (x1 : (⟨S1x32x3x20x20, .f32⟩ : BufTy).Contents (Elt Ideal)) (x2 : (⟨S1x32x3x10x10, .f32⟩ : BufTy).Contents (Elt Ideal)) (x3 : (⟨S4, .f32⟩ : BufTy).Contents (Elt Ideal)) (x4 : (⟨S1, .f32⟩ : BufTy).Contents (Elt Ideal)) (x5 : (⟨S288x64, .f32⟩ : BufTy).Contents (Elt Ideal)) (x6 : (⟨S288, .f32⟩ : BufTy).Contents (Elt Ideal)) (x7 : (⟨S4, .f32⟩ : BufTy).Contents (Elt Ideal)) (x8 : (⟨S1, .f32⟩ : BufTy).Contents (Elt Ideal)) (x9 : (⟨S288x64, .f32⟩ : BufTy).Contents (Elt Ideal)) (x10 : (⟨S288, .f32⟩ : BufTy).Contents (Elt Ideal)) (x11 : (⟨S4, .f32⟩ : BufTy).Contents (Elt Ideal)) (x12 : (⟨S1, .f32⟩ : BufTy).Contents (Elt Ideal)) (x13 : (⟨S288x64, .f32⟩ : BufTy).Contents (Elt Ideal)) (x14 : (⟨S288, .f32⟩ : BufTy).Contents (Elt Ideal)) (x15 : (⟨S128x96, .f32⟩ : BufTy).Contents (Elt Ideal)) (x16 : (⟨S128, .f32⟩ : BufTy).Contents (Elt Ideal)) (c : Fin 32) (Y X : Fin 80) :
    val_main_v578 (F := Ideal) x0 x1 x2 x3 x4 x5 x6 x7 x8 x9 x10 x11 x12 x13 x14 x15 x16 (ix4 (0 : Fin 1) c Y X)
      = result x0 (second x1 (third x2 x3 x4 x5 x6) x7 x8 x9 x10) x11 x12 x13 x14 x15 x16 c Y X := by
  unfold val_main_v578 val_main_v577 val_main_v576
  refine (spread_at _ _ _ _ c Y X).trans ((mixed_pixels x0 x1 x2 x3 x4 x5 x6 x7 x8 x9 x10 x11 x12 x13 x14 x15 x16 _ _ _).trans ?_)
  unfold result
  exact congrArg (fun A => mixAt A _ _ _ _ _) (funext fun t => funext fun c => funext fun y => funext fun z => first_apply x0 x1 x2 x3 x4 x5 x6 x7 x8 x9 x10 x11 x12 x13 x14 t c y z)

end Cert.Ref
-- ==== Proof.Launched.lean ====
module

public import proofs.«01_k».proof.Proof.Value
public import proofs.«01_k».proof.Proof.RefTail

/-!
The launch, with the result buffer read at the end beside the arguments; and the equality of the two results.
-/

@[expose] public section

set_option maxRecDepth 16384

noncomputable section

namespace Cert.KernelIdeal.Level

open Cert.KernelIdeal Cert.KernelIdeal.Gen Cert.Agg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the result buffer at its contents past the last host operation, and the arguments as launched. -/
theorem run : θ_run defs (onTc (τ := τ) (main (F := Ideal))) ⟨m, fun _ => 0, ρ⟩ (fun r => ∀ c : Dev nD,
      r.2.mem ((c.tc : Thread nD τ).loc main_v54) = W18 m ρ c main_v54
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ c =>
      ⟨h c _ (mem_uc main_v54 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c)⟩)

/-- The kernel's result is the reference's, of the same arguments. -/
theorem same_result (c : Dev nD) : W18 m ρ c main_v54
    = Cert.ReferenceIdeal.Read.val_main_v578 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := by
  funext j
  have ej : j = ix4 (0 : Fin 1) (j 1 : Fin 32) (j 2 : Fin 80) (j 3 : Fin 80) := funext fun a => match a with
    | ⟨0, _⟩ => Fin.ext (by have h : (j 0).val < 1 := (j 0).isLt; show (j 0).val = 0; omega)
    | ⟨1, _⟩ => rfl | ⟨2, _⟩ => rfl | ⟨3, _⟩ => rfl
  rw [ej]
  exact (result_at m ρ c _ _ _).trans (Cert.Ref.result_apply _ _ _ _ _ _ _ _ _ _ _ _ _ _ _ _ _ _ _ _).symm

end Cert.KernelIdeal.Level
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Launched

@[expose] public section

set_option maxRecDepth 16384

noncomputable section

namespace Cert.Proof

open Idealize.ShloMosaic Idealize.SL.Sem

/-- The reference has no semaphores, so every counter is zero. -/
theorem sem_zero (s : GSem Cert.ReferenceIdeal.nD Cert.ReferenceIdeal.τ Cert.ReferenceIdeal.sig → Int) :
    s = fun _ => 0 := by
  funext g
  rcases g with ⟨t, s | s⟩ <;> exact s.elim0

section
open Cert.ReferenceIdeal Cert.ReferenceIdeal.Gen Cert.ReferenceIdeal.Read

/-- The reference's result is a function of its arguments. -/
theorem result_congr {x0 y0 : (⟨S1x32x3x40x40, .f32⟩ : BufTy).Contents (Elt Ideal)} {x1 y1 : (⟨S1x32x3x20x20, .f32⟩ : BufTy).Contents (Elt Ideal)} {x2 y2 : (⟨S1x32x3x10x10, .f32⟩ : BufTy).Contents (Elt Ideal)} {x3 y3 : (⟨S4, .f32⟩ : BufTy).Contents (Elt Ideal)} {x4 y4 : (⟨S1, .f32⟩ : BufTy).Contents (Elt Ideal)} {x5 y5 : (⟨S288x64, .f32⟩ : BufTy).Contents (Elt Ideal)} {x6 y6 : (⟨S288, .f32⟩ : BufTy).Contents (Elt Ideal)} {x7 y7 : (⟨S4, .f32⟩ : BufTy).Contents (Elt Ideal)} {x8 y8 : (⟨S1, .f32⟩ : BufTy).Contents (Elt Ideal)} {x9 y9 : (⟨S288x64, .f32⟩ : BufTy).Contents (Elt Ideal)} {x10 y10 : (⟨S288, .f32⟩ : BufTy).Contents (Elt Ideal)} {x11 y11 : (⟨S4, .f32⟩ : BufTy).Contents (Elt Ideal)} {x12 y12 : (⟨S1, .f32⟩ : BufTy).Contents (Elt Ideal)} {x13 y13 : (⟨S288x64, .f32⟩ : BufTy).Contents (Elt Ideal)} {x14 y14 : (⟨S288, .f32⟩ : BufTy).Contents (Elt Ideal)} {x15 y15 : (⟨S128x96, .f32⟩ : BufTy).Contents (Elt Ideal)} {x16 y16 : (⟨S128, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) :
    val_main_v578 (F := Ideal) x0 x1 x2 x3 x4 x5 x6 x7 x8 x9 x10 x11 x12 x13 x14 x15 x16 = val_main_v578 (F := Ideal) y0 y1 y2 y3 y4 y5 y6 y7 y8 y9 y10 y11 y12 y13 y14 y15 y16 := by
  subst e0 e1 e2 e3 e4 e5 e6 e7 e8 e9 e10 e11 e12 e13 e14 e15 e16
  rfl
end

/-- Both programs run, and from equal arguments the results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W18 m g c (Proc.devRef .tc Cert.KernelIdeal.main_v54), Cert.KernelIdeal.Level.run m g, ?_⟩
  refine (θ_run (Cert.ReferenceIdeal.defs (F := Ideal)) _ _).mono (fun r h c => ⟨(h c).1.trans ?_, (h c).2⟩) (Cert.ReferenceIdeal.Value.run (F := Ideal) m' g')
  obtain ⟨e0, e1, e2, e3, e4, e5, e6, e7, e8, e9, e10, e11, e12, e13, e14, e15, e16⟩ := hargs c
  exact ((Cert.ReferenceIdeal.Read.val_main_v578_eq _).trans (result_congr e0 e1 e2 e3 e4 e5 e6 e7 e8 e9 e10 e11 e12 e13 e14 e15 e16)).trans (Cert.KernelIdeal.Level.same_result m g c).symm

/-- The frames of the three programs, the preservation claim and the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => (θ_run _ _ _).mono (fun _ h => ⟨fun c => (h c).2, sem_zero _⟩)
      (Cert.ReferenceIdeal.Value.run m g), trivial, algebraic⟩

end Cert.Proof

end
